-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)) (v7 : (c : Dev Cert.KernelIdeal.nD) → Buf (Elt Ideal) ((c.tc : Thread Cert.KernelIdeal.nD Cert.KernelIdeal.τ).loc Cert.KernelIdeal.main_v15_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_v15_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_v11_5) = v5 c
          ∧ r.2.mem ((c.tc : Thread Cert.ReferenceIdeal.nD Cert.ReferenceIdeal.τ).loc Cert.ReferenceIdeal.main_v11_6) = v6 c
          ∧ r.2.mem ((c.tc : Thread Cert.ReferenceIdeal.nD Cert.ReferenceIdeal.τ).loc Cert.ReferenceIdeal.main_v11_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x5120 : Shape := ⟨3, ![3, 6144, 5120]⟩
abbrev S5120 : Shape := ⟨1, ![5120]⟩
abbrev S5120x7168 : Shape := ⟨2, ![5120, 7168]⟩
abbrev S7168 : Shape := ⟨1, ![7168]⟩
abbrev S3x6144 : Shape := ⟨2, ![3, 6144]⟩
abbrev S64 : Shape := ⟨1, ![64]⟩
abbrev S_ : Shape := ⟨0, ![]⟩
abbrev S64x1 : Shape := ⟨2, ![64, 1]⟩
abbrev S64x256 : Shape := ⟨2, ![64, 256]⟩
abbrev S1x5120 : Shape := ⟨2, ![1, 5120]⟩
abbrev S1x7168 : Shape := ⟨2, ![1, 7168]⟩
abbrev S3x6144x40x128 : Shape := ⟨4, ![3, 6144, 40, 128]⟩
abbrev S3x40x6144 : Shape := ⟨3, ![3, 40, 6144]⟩
abbrev S3x6144x8x128 : Shape := ⟨4, ![3, 6144, 8, 128]⟩
abbrev S3x8x6144 : Shape := ⟨3, ![3, 8, 6144]⟩
abbrev S1x256x5120 : Shape := ⟨3, ![1, 256, 5120]⟩
abbrev S1x256x40x128 : Shape := ⟨4, ![1, 256, 40, 128]⟩
abbrev S1x40x256 : Shape := ⟨3, ![1, 40, 256]⟩
abbrev S1x256x8x128 : Shape := ⟨4, ![1, 256, 8, 128]⟩
abbrev S1x8x256 : Shape := ⟨3, ![1, 8, 256]⟩
abbrev S256x512 : Shape := ⟨2, ![256, 512]⟩
abbrev S256x128 : Shape := ⟨2, ![256, 128]⟩
abbrev S1x32x5120 : Shape := ⟨3, ![1, 32, 5120]⟩
abbrev S32x5120 : Shape := ⟨2, ![32, 5120]⟩
abbrev S32 : Shape := ⟨1, ![32]⟩
abbrev S32x1 : Shape := ⟨2, ![32, 1]⟩
abbrev S1x253 : Shape := ⟨2, ![1, 253]⟩
abbrev S32x253 : Shape := ⟨2, ![32, 253]⟩
abbrev S32x128 : Shape := ⟨2, ![32, 128]⟩
abbrev S1x256 : Shape := ⟨2, ![1, 256]⟩
abbrev S128x256 : Shape := ⟨2, ![128, 256]⟩
abbrev S256x5120 : Shape := ⟨2, ![256, 5120]⟩
abbrev S5120x512 : Shape := ⟨2, ![5120, 512]⟩
abbrev S1x128 : Shape := ⟨2, ![1, 128]⟩
abbrev S32x1x128 : Shape := ⟨3, ![32, 1, 128]⟩
abbrev S32x4x128 : Shape := ⟨3, ![32, 4, 128]⟩
abbrev S1x32x4x128 : Shape := ⟨4, ![1, 32, 4, 128]⟩
abbrev S40x256 : Shape := ⟨2, ![40, 256]⟩
abbrev S8x256 : Shape := ⟨2, ![8, 256]⟩

abbrev nBuf : Space → Nat
  | .hbm => 33
  | .vmem => 27
  | .smem => 0
  | _ => 0

abbrev bufTy : (tb : Table) → Fin (tcTables nBuf tb) → BufTy
  | .hbm, ⟨0, _⟩ => ⟨S3x6144x5120, .bf16⟩
  | .hbm, ⟨1, _⟩ => ⟨S5120, .f32⟩
  | .hbm, ⟨2, _⟩ => ⟨S5120x7168, .fp8e4m3⟩
  | .hbm, ⟨3, _⟩ => ⟨S7168, .f32⟩
  | .hbm, ⟨4, _⟩ => ⟨S3x6144, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x256, .f32⟩
  | .hbm, ⟨23, _⟩ => ⟨S1x5120, .f32⟩
  | .hbm, ⟨24, _⟩ => ⟨S1x7168, .f32⟩
  | .hbm, ⟨25, _⟩ => ⟨S3x6144x40x128, .fp8e4m3⟩
  | .hbm, ⟨26, _⟩ => ⟨S3x40x6144, .f32⟩
  | .hbm, ⟨27, _⟩ => ⟨S3x6144x8x128, .fp8e4m3⟩
  | .hbm, ⟨28, _⟩ => ⟨S3x8x6144, .f32⟩
  | .hbm, ⟨29, _⟩ => ⟨S3x6144x8x128, .fp8e4m3⟩
  | .hbm, ⟨30, _⟩ => ⟨S3x8x6144, .f32⟩
  | .hbm, ⟨31, _⟩ => ⟨S3x6144x5120, .fp8e4m3⟩
  | .hbm, ⟨32, _⟩ => ⟨S3x6144, .f32⟩
  | .local _ .vmem, ⟨0, _⟩ => ⟨S1x256x5120, .bf16⟩
  | .local _ .vmem, ⟨1, _⟩ => ⟨S1x256x5120, .bf16⟩
  | .local _ .vmem, ⟨2, _⟩ => ⟨S1x5120, .f32⟩
  | .local _ .vmem, ⟨3, _⟩ => ⟨S5120x7168, .fp8e4m3⟩
  | .local _ .vmem, ⟨4, _⟩ => ⟨S1x7168, .f32⟩
  | .local _ .vmem, ⟨5, _⟩ => ⟨S3x6144, .i32⟩
  | .local _ .vmem, ⟨6, _⟩ => ⟨S64x256, .f32⟩
  | .local _ .vmem, ⟨7, _⟩ => ⟨S1x256x40x128, .fp8e4m3⟩
  | .local _ .vmem, ⟨8, _⟩ => ⟨S1x256x40x128, .fp8e4m3⟩
  | .local _ .vmem, ⟨9, _⟩ => ⟨S1x40x256, .f32⟩
  | .local _ .vmem, ⟨10, _⟩ => ⟨S1x40x256, .f32⟩
  | .local _ .vmem, ⟨11, _⟩ => ⟨S1x256x8x128, .fp8e4m3⟩
  | .local _ .vmem, ⟨12, _⟩ => ⟨S1x256x8x128, .fp8e4m3⟩
  | .local _ .vmem, ⟨13, _⟩ => ⟨S1x8x256, .f32⟩
  | .local _ .vmem, ⟨14, _⟩ => ⟨S1x8x256, .f32⟩
  | .local _ .vmem, ⟨15, _⟩ => ⟨S1x256x8x128, .fp8e4m3⟩
  | .local _ .vmem, ⟨16, _⟩ => ⟨S1x256x8x128, .fp8e4m3⟩
  | .local _ .vmem, ⟨17, _⟩ => ⟨S1x8x256, .f32⟩
  | .local _ .vmem, ⟨18, _⟩ => ⟨S1x8x256, .f32⟩
  | .local _ .vmem, ⟨19, _⟩ => ⟨S1x256x5120, .fp8e4m3⟩
  | .local _ .vmem, ⟨20, _⟩ => ⟨S1x256x5120, .fp8e4m3⟩
  | .local _ .vmem, ⟨21, _⟩ => ⟨S3x6144, .f32⟩
  | .local _ .vmem, ⟨22, _⟩ => ⟨S256x512, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | _, _ => ⟨S3x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨2, ![3, 24], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c32_i32 : BitVec 32 := 32#32
  let v161 : BitVec 32 := Scalar.muli arg21 c32_i32
  v161
def k0_off1 (k0_t1 : Fin k0_t1_loop.trips) : Fin 3 → Nat :=
  let c0_175 : Index := 0#32
  let c0_i32 : BitVec 32 := 0#32
  let c1_i32 : BitVec 32 := 1#32
  let arg21 : BitVec 32 := Scf.iv c0_i32 c1_i32 k0_t1
  let c32_i32 : BitVec 32 := 32#32
  let v161 : BitVec 32 := Scalar.muli arg21 c32_i32
  let v162 : BitVec 32 := v161
  let v163 : Index := Scalar.indexCast v162
  let c0_176 : Index := 0#32
  ![0, v163.toNat, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c32_i32 : BitVec 32 := 32#32
  let v161 : BitVec 32 := Scalar.muli arg21 c32_i32
  let v162 : BitVec 32 := v161
  let v223 : Index := Scalar.indexCast v162
  let c0_194 : Index := 0#32
  ![v223.toNat, 0]
def k0_mult2 (i : grid0.Coords) : BitVec 32 :=
  let arg1 : BitVec 32 := BitVec.ofNat 32 (i 1).val
  let c256_i32 : BitVec 32 := 256#32
  let v1 : BitVec 32 := Scalar.muli arg1 c256_i32
  v1
def k0_off3 (i : grid0.Coords) : Fin 2 → Nat :=
  let arg0 : BitVec 32 := BitVec.ofNat 32 (i 0).val
  let v3 : Index := Scalar.indexCast arg0
  let arg1 : BitVec 32 := BitVec.ofNat 32 (i 1).val
  let c256_i32 : BitVec 32 := 256#32
  let v1 : BitVec 32 := Scalar.muli arg1 c256_i32
  let v2 : BitVec 32 := v1
  let v4 : Index := Scalar.indexCast v2
  ![v3.toNat, v4.toNat]
@[reducible] def k0_t2_loop : Scf.Loop 32 :=
  let c0_i32_17 : BitVec 32 := 0#32
  let c8_i32_18 : BitVec 32 := 8#32
  let v42 : BitVec 32 := Scalar.addi c0_i32_17 c8_i32_18
  let c1_i32_19 : BitVec 32 := 1#32
  ⟨c0_i32_17, v42, c1_i32_19⟩
def k0_mult3 (k0_t2 : Fin k0_t2_loop.trips) : BitVec 32 :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  v161
def k0_off4 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off5 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off6 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v209 : Index := Scalar.indexCast v162
  let c0_190 : Index := 0#32
  ![v209.toNat, 0]
def k0_off7 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off8 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v266 : Index := Scalar.indexCast v162
  let c1 : Index := 1#32
  ![v266.toNat, 1]
def k0_off9 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off10 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v323 : Index := Scalar.indexCast v162
  let c2 : Index := 2#32
  ![v323.toNat, 2]
def k0_off11 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off12 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v380 : Index := Scalar.indexCast v162
  let c3 : Index := 3#32
  ![v380.toNat, 3]
def k0_off13 (k0_t2 : Fin k0_t2_loop.trips) : Fin 4 → Nat :=
  let c0_250 : Index := 0#32
  let c0_i32_17 : BitVec 32 := 0#32
  let c1_i32_19 : BitVec 32 := 1#32
  let arg21 : BitVec 32 := Scf.iv c0_i32_17 c1_i32_19 k0_t2
  let c32_i32 : BitVec 32 := 32#32
  let v161 : BitVec 32 := Scalar.muli arg21 c32_i32
  let v162 : BitVec 32 := v161
  let v396 : Index := Scalar.indexCast v162
  let c0_251 : Index := 0#32
  let c0_252 : Index := 0#32
  ![0, v396.toNat, 0, 0]
@[reducible] def k0_t3_loop : Scf.Loop 32 :=
  let c0_i32_28 : BitVec 32 := 0#32
  let c8_i32_29 : BitVec 32 := 8#32
  let v50 : BitVec 32 := Scalar.addi c0_i32_28 c8_i32_29
  let c1_i32_30 : BitVec 32 := 1#32
  ⟨c0_i32_28, v50, c1_i32_30⟩
def k0_mult4 (k0_t3 : Fin k0_t3_loop.trips) : BitVec 32 :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  v161
def k0_off14 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off15 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off16 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v209 : Index := Scalar.indexCast v162
  let c4 : Index := 4#32
  ![v209.toNat, 4]
def k0_off17 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off18 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v266 : Index := Scalar.indexCast v162
  let c5 : Index := 5#32
  ![v266.toNat, 5]
def k0_off19 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off20 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v323 : Index := Scalar.indexCast v162
  let c6 : Index := 6#32
  ![v323.toNat, 6]
def k0_off21 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off22 (k0_t3 : Fin k0_t3_loop.trips) : Fin 2 → Nat :=
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v380 : Index := Scalar.indexCast v162
  let c7 : Index := 7#32
  ![v380.toNat, 7]
def k0_off23 (k0_t3 : Fin k0_t3_loop.trips) : Fin 4 → Nat :=
  let c0_246 : Index := 0#32
  let c0_i32_28 : BitVec 32 := 0#32
  let c1_i32_30 : BitVec 32 := 1#32
  let arg21 : BitVec 32 := Scf.iv c0_i32_28 c1_i32_30 k0_t3
  let c32_i32 : BitVec 32 := 32#32
  let v161 : BitVec 32 := Scalar.muli arg21 c32_i32
  let v162 : BitVec 32 := v161
  let v396 : Index := Scalar.indexCast v162
  let c4_247 : Index := 4#32
  let c0_248 : Index := 0#32
  ![0, v396.toNat, 4, 0]
@[reducible] def k0_t4_loop : Scf.Loop 32 :=
  let c0_i32_39 : BitVec 32 := 0#32
  let c8_i32_40 : BitVec 32 := 8#32
  let v58 : BitVec 32 := Scalar.addi c0_i32_39 c8_i32_40
  let c1_i32_41 : BitVec 32 := 1#32
  ⟨c0_i32_39, v58, c1_i32_41⟩
def k0_mult5 (k0_t4 : Fin k0_t4_loop.trips) : BitVec 32 :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  v161
def k0_off24 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off25 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off26 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v209 : Index := Scalar.indexCast v162
  let c8 : Index := 8#32
  ![v209.toNat, 8]
def k0_off27 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off28 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v266 : Index := Scalar.indexCast v162
  let c9 : Index := 9#32
  ![v266.toNat, 9]
def k0_off29 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off30 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v323 : Index := Scalar.indexCast v162
  let c10 : Index := 10#32
  ![v323.toNat, 10]
def k0_off31 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off32 (k0_t4 : Fin k0_t4_loop.trips) : Fin 2 → Nat :=
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v380 : Index := Scalar.indexCast v162
  let c11 : Index := 11#32
  ![v380.toNat, 11]
def k0_off33 (k0_t4 : Fin k0_t4_loop.trips) : Fin 4 → Nat :=
  let c0_246 : Index := 0#32
  let c0_i32_39 : BitVec 32 := 0#32
  let c1_i32_41 : BitVec 32 := 1#32
  let arg21 : BitVec 32 := Scf.iv c0_i32_39 c1_i32_41 k0_t4
  let c32_i32 : BitVec 32 := 32#32
  let v161 : BitVec 32 := Scalar.muli arg21 c32_i32
  let v162 : BitVec 32 := v161
  let v396 : Index := Scalar.indexCast v162
  let c8_247 : Index := 8#32
  let c0_248 : Index := 0#32
  ![0, v396.toNat, 8, 0]
@[reducible] def k0_t5_loop : Scf.Loop 32 :=
  let c0_i32_50 : BitVec 32 := 0#32
  let c8_i32_51 : BitVec 32 := 8#32
  let v66 : BitVec 32 := Scalar.addi c0_i32_50 c8_i32_51
  let c1_i32_52 : BitVec 32 := 1#32
  ⟨c0_i32_50, v66, c1_i32_52⟩
def k0_mult6 (k0_t5 : Fin k0_t5_loop.trips) : BitVec 32 :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  v161
def k0_off34 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off35 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off36 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v209 : Index := Scalar.indexCast v162
  let c12 : Index := 12#32
  ![v209.toNat, 12]
def k0_off37 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off38 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v266 : Index := Scalar.indexCast v162
  let c13 : Index := 13#32
  ![v266.toNat, 13]
def k0_off39 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off40 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v323 : Index := Scalar.indexCast v162
  let c14 : Index := 14#32
  ![v323.toNat, 14]
def k0_off41 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off42 (k0_t5 : Fin k0_t5_loop.trips) : Fin 2 → Nat :=
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v380 : Index := Scalar.indexCast v162
  let c15 : Index := 15#32
  ![v380.toNat, 15]
def k0_off43 (k0_t5 : Fin k0_t5_loop.trips) : Fin 4 → Nat :=
  let c0_246 : Index := 0#32
  let c0_i32_50 : BitVec 32 := 0#32
  let c1_i32_52 : BitVec 32 := 1#32
  let arg21 : BitVec 32 := Scf.iv c0_i32_50 c1_i32_52 k0_t5
  let c32_i32 : BitVec 32 := 32#32
  let v161 : BitVec 32 := Scalar.muli arg21 c32_i32
  let v162 : BitVec 32 := v161
  let v396 : Index := Scalar.indexCast v162
  let c12_247 : Index := 12#32
  let c0_248 : Index := 0#32
  ![0, v396.toNat, 12, 0]
@[reducible] def k0_t6_loop : Scf.Loop 32 :=
  let c0_i32_61 : BitVec 32 := 0#32
  let c8_i32_62 : BitVec 32 := 8#32
  let v74 : BitVec 32 := Scalar.addi c0_i32_61 c8_i32_62
  let c1_i32_63 : BitVec 32 := 1#32
  ⟨c0_i32_61, v74, c1_i32_63⟩
def k0_mult7 (k0_t6 : Fin k0_t6_loop.trips) : BitVec 32 :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  v161
def k0_off44 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off45 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off46 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v209 : Index := Scalar.indexCast v162
  let c16 : Index := 16#32
  ![v209.toNat, 16]
def k0_off47 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off48 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v266 : Index := Scalar.indexCast v162
  let c17 : Index := 17#32
  ![v266.toNat, 17]
def k0_off49 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off50 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v323 : Index := Scalar.indexCast v162
  let c18 : Index := 18#32
  ![v323.toNat, 18]
def k0_off51 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off52 (k0_t6 : Fin k0_t6_loop.trips) : Fin 2 → Nat :=
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v380 : Index := Scalar.indexCast v162
  let c19 : Index := 19#32
  ![v380.toNat, 19]
def k0_off53 (k0_t6 : Fin k0_t6_loop.trips) : Fin 4 → Nat :=
  let c0_246 : Index := 0#32
  let c0_i32_61 : BitVec 32 := 0#32
  let c1_i32_63 : BitVec 32 := 1#32
  let arg21 : BitVec 32 := Scf.iv c0_i32_61 c1_i32_63 k0_t6
  let c32_i32 : BitVec 32 := 32#32
  let v161 : BitVec 32 := Scalar.muli arg21 c32_i32
  let v162 : BitVec 32 := v161
  let v396 : Index := Scalar.indexCast v162
  let c16_247 : Index := 16#32
  let c0_248 : Index := 0#32
  ![0, v396.toNat, 16, 0]
@[reducible] def k0_t7_loop : Scf.Loop 32 :=
  let c0_i32_72 : BitVec 32 := 0#32
  let c8_i32_73 : BitVec 32 := 8#32
  let v82 : BitVec 32 := Scalar.addi c0_i32_72 c8_i32_73
  let c1_i32_74 : BitVec 32 := 1#32
  ⟨c0_i32_72, v82, c1_i32_74⟩
def k0_mult8 (k0_t7 : Fin k0_t7_loop.trips) : BitVec 32 :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  v161
def k0_off54 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off55 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off56 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v209 : Index := Scalar.indexCast v162
  let c20 : Index := 20#32
  ![v209.toNat, 20]
def k0_off57 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off58 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v266 : Index := Scalar.indexCast v162
  let c21 : Index := 21#32
  ![v266.toNat, 21]
def k0_off59 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off60 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v323 : Index := Scalar.indexCast v162
  let c22 : Index := 22#32
  ![v323.toNat, 22]
def k0_off61 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off62 (k0_t7 : Fin k0_t7_loop.trips) : Fin 2 → Nat :=
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v380 : Index := Scalar.indexCast v162
  let c23 : Index := 23#32
  ![v380.toNat, 23]
def k0_off63 (k0_t7 : Fin k0_t7_loop.trips) : Fin 4 → Nat :=
  let c0_246 : Index := 0#32
  let c0_i32_72 : BitVec 32 := 0#32
  let c1_i32_74 : BitVec 32 := 1#32
  let arg21 : BitVec 32 := Scf.iv c0_i32_72 c1_i32_74 k0_t7
  let c32_i32 : BitVec 32 := 32#32
  let v161 : BitVec 32 := Scalar.muli arg21 c32_i32
  let v162 : BitVec 32 := v161
  let v396 : Index := Scalar.indexCast v162
  let c20_247 : Index := 20#32
  let c0_248 : Index := 0#32
  ![0, v396.toNat, 20, 0]
@[reducible] def k0_t8_loop : Scf.Loop 32 :=
  let c0_i32_83 : BitVec 32 := 0#32
  let c8_i32_84 : BitVec 32 := 8#32
  let v90 : BitVec 32 := Scalar.addi c0_i32_83 c8_i32_84
  let c1_i32_85 : BitVec 32 := 1#32
  ⟨c0_i32_83, v90, c1_i32_85⟩
def k0_mult9 (k0_t8 : Fin k0_t8_loop.trips) : BitVec 32 :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  v161
def k0_off64 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off65 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off66 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v209 : Index := Scalar.indexCast v162
  let c24 : Index := 24#32
  ![v209.toNat, 24]
def k0_off67 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off68 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v266 : Index := Scalar.indexCast v162
  let c25 : Index := 25#32
  ![v266.toNat, 25]
def k0_off69 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off70 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v323 : Index := Scalar.indexCast v162
  let c26 : Index := 26#32
  ![v323.toNat, 26]
def k0_off71 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off72 (k0_t8 : Fin k0_t8_loop.trips) : Fin 2 → Nat :=
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v380 : Index := Scalar.indexCast v162
  let c27 : Index := 27#32
  ![v380.toNat, 27]
def k0_off73 (k0_t8 : Fin k0_t8_loop.trips) : Fin 4 → Nat :=
  let c0_246 : Index := 0#32
  let c0_i32_83 : BitVec 32 := 0#32
  let c1_i32_85 : BitVec 32 := 1#32
  let arg21 : BitVec 32 := Scf.iv c0_i32_83 c1_i32_85 k0_t8
  let c32_i32 : BitVec 32 := 32#32
  let v161 : BitVec 32 := Scalar.muli arg21 c32_i32
  let v162 : BitVec 32 := v161
  let v396 : Index := Scalar.indexCast v162
  let c24_247 : Index := 24#32
  let c0_248 : Index := 0#32
  ![0, v396.toNat, 24, 0]
@[reducible] def k0_t9_loop : Scf.Loop 32 :=
  let c0_i32_94 : BitVec 32 := 0#32
  let c8_i32_95 : BitVec 32 := 8#32
  let v98 : BitVec 32 := Scalar.addi c0_i32_94 c8_i32_95
  let c1_i32_96 : BitVec 32 := 1#32
  ⟨c0_i32_94, v98, c1_i32_96⟩
def k0_mult10 (k0_t9 : Fin k0_t9_loop.trips) : BitVec 32 :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  v161
def k0_off74 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off75 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off76 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v209 : Index := Scalar.indexCast v162
  let c28 : Index := 28#32
  ![v209.toNat, 28]
def k0_off77 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off78 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v266 : Index := Scalar.indexCast v162
  let c29 : Index := 29#32
  ![v266.toNat, 29]
def k0_off79 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off80 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v323 : Index := Scalar.indexCast v162
  let c30 : Index := 30#32
  ![v323.toNat, 30]
def k0_off81 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off82 (k0_t9 : Fin k0_t9_loop.trips) : Fin 2 → Nat :=
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v380 : Index := Scalar.indexCast v162
  let c31 : Index := 31#32
  ![v380.toNat, 31]
def k0_off83 (k0_t9 : Fin k0_t9_loop.trips) : Fin 4 → Nat :=
  let c0_246 : Index := 0#32
  let c0_i32_94 : BitVec 32 := 0#32
  let c1_i32_96 : BitVec 32 := 1#32
  let arg21 : BitVec 32 := Scf.iv c0_i32_94 c1_i32_96 k0_t9
  let c32_i32 : BitVec 32 := 32#32
  let v161 : BitVec 32 := Scalar.muli arg21 c32_i32
  let v162 : BitVec 32 := v161
  let v396 : Index := Scalar.indexCast v162
  let c28_247 : Index := 28#32
  let c0_248 : Index := 0#32
  ![0, v396.toNat, 28, 0]
@[reducible] def k0_t10_loop : Scf.Loop 32 :=
  let c0_i32_105 : BitVec 32 := 0#32
  let c8_i32_106 : BitVec 32 := 8#32
  let v106 : BitVec 32 := Scalar.addi c0_i32_105 c8_i32_106
  let c1_i32_107 : BitVec 32 := 1#32
  ⟨c0_i32_105, v106, c1_i32_107⟩
def k0_mult11 (k0_t10 : Fin k0_t10_loop.trips) : BitVec 32 :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  v161
def k0_off84 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off85 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off86 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v209 : Index := Scalar.indexCast v162
  let c32 : Index := 32#32
  ![v209.toNat, 32]
def k0_off87 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off88 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v266 : Index := Scalar.indexCast v162
  let c33 : Index := 33#32
  ![v266.toNat, 33]
def k0_off89 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off90 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v323 : Index := Scalar.indexCast v162
  let c34 : Index := 34#32
  ![v323.toNat, 34]
def k0_off91 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off92 (k0_t10 : Fin k0_t10_loop.trips) : Fin 2 → Nat :=
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v380 : Index := Scalar.indexCast v162
  let c35 : Index := 35#32
  ![v380.toNat, 35]
def k0_off93 (k0_t10 : Fin k0_t10_loop.trips) : Fin 4 → Nat :=
  let c0_246 : Index := 0#32
  let c0_i32_105 : BitVec 32 := 0#32
  let c1_i32_107 : BitVec 32 := 1#32
  let arg21 : BitVec 32 := Scf.iv c0_i32_105 c1_i32_107 k0_t10
  let c32_i32 : BitVec 32 := 32#32
  let v161 : BitVec 32 := Scalar.muli arg21 c32_i32
  let v162 : BitVec 32 := v161
  let v396 : Index := Scalar.indexCast v162
  let c32_247 : Index := 32#32
  let c0_248 : Index := 0#32
  ![0, v396.toNat, 32, 0]
@[reducible] def k0_t11_loop : Scf.Loop 32 :=
  let c0_i32_116 : BitVec 32 := 0#32
  let c8_i32_117 : BitVec 32 := 8#32
  let v114 : BitVec 32 := Scalar.addi c0_i32_116 c8_i32_117
  let c1_i32_118 : BitVec 32 := 1#32
  ⟨c0_i32_116, v114, c1_i32_118⟩
def k0_mult12 (k0_t11 : Fin k0_t11_loop.trips) : BitVec 32 :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  v161
def k0_off94 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off95 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off96 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v209 : Index := Scalar.indexCast v162
  let c36 : Index := 36#32
  ![v209.toNat, 36]
def k0_off97 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off98 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v266 : Index := Scalar.indexCast v162
  let c37 : Index := 37#32
  ![v266.toNat, 37]
def k0_off99 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off100 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v323 : Index := Scalar.indexCast v162
  let c38 : Index := 38#32
  ![v323.toNat, 38]
def k0_off101 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off102 (k0_t11 : Fin k0_t11_loop.trips) : Fin 2 → Nat :=
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v380 : Index := Scalar.indexCast v162
  let c39 : Index := 39#32
  ![v380.toNat, 39]
def k0_off103 (k0_t11 : Fin k0_t11_loop.trips) : Fin 4 → Nat :=
  let c0_246 : Index := 0#32
  let c0_i32_116 : BitVec 32 := 0#32
  let c1_i32_118 : BitVec 32 := 1#32
  let arg21 : BitVec 32 := Scf.iv c0_i32_116 c1_i32_118 k0_t11
  let c32_i32 : BitVec 32 := 32#32
  let v161 : BitVec 32 := Scalar.muli arg21 c32_i32
  let v162 : BitVec 32 := v161
  let v396 : Index := Scalar.indexCast v162
  let c36_247 : Index := 36#32
  let c0_248 : Index := 0#32
  ![0, v396.toNat, 36, 0]
@[reducible] def k0_t12_loop : Scf.Loop 32 :=
  let c0_i32_127 : BitVec 32 := 0#32
  let c8_i32_128 : BitVec 32 := 8#32
  let v122 : BitVec 32 := Scalar.addi c0_i32_127 c8_i32_128
  let c1_i32_129 : BitVec 32 := 1#32
  ⟨c0_i32_127, v122, c1_i32_129⟩
def k0_mult13 (k0_t12 : Fin k0_t12_loop.trips) : BitVec 32 :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  v161
def k0_off104 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off105 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off106 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v209 : Index := Scalar.indexCast v162
  let c40 : Index := 40#32
  ![v209.toNat, 40]
def k0_off107 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off108 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v266 : Index := Scalar.indexCast v162
  let c41 : Index := 41#32
  ![v266.toNat, 41]
def k0_off109 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off110 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v323 : Index := Scalar.indexCast v162
  let c42 : Index := 42#32
  ![v323.toNat, 42]
def k0_off111 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off112 (k0_t12 : Fin k0_t12_loop.trips) : Fin 2 → Nat :=
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v380 : Index := Scalar.indexCast v162
  let c43 : Index := 43#32
  ![v380.toNat, 43]
def k0_off113 (k0_t12 : Fin k0_t12_loop.trips) : Fin 4 → Nat :=
  let c0_246 : Index := 0#32
  let c0_i32_127 : BitVec 32 := 0#32
  let c1_i32_129 : BitVec 32 := 1#32
  let arg21 : BitVec 32 := Scf.iv c0_i32_127 c1_i32_129 k0_t12
  let c32_i32 : BitVec 32 := 32#32
  let v161 : BitVec 32 := Scalar.muli arg21 c32_i32
  let v162 : BitVec 32 := v161
  let v396 : Index := Scalar.indexCast v162
  let c0_247 : Index := 0#32
  let c0_248 : Index := 0#32
  ![0, v396.toNat, 0, 0]
@[reducible] def k0_t13_loop : Scf.Loop 32 :=
  let c0_i32_138 : BitVec 32 := 0#32
  let c8_i32_139 : BitVec 32 := 8#32
  let v130 : BitVec 32 := Scalar.addi c0_i32_138 c8_i32_139
  let c1_i32_140 : BitVec 32 := 1#32
  ⟨c0_i32_138, v130, c1_i32_140⟩
def k0_mult14 (k0_t13 : Fin k0_t13_loop.trips) : BitVec 32 :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  v161
def k0_off114 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off115 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off116 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v209 : Index := Scalar.indexCast v162
  let c44 : Index := 44#32
  ![v209.toNat, 44]
def k0_off117 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v220 : Index := Scalar.indexCast v162
  let c128 : Index := 128#32
  ![v220.toNat, 128]
def k0_off118 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v266 : Index := Scalar.indexCast v162
  let c45 : Index := 45#32
  ![v266.toNat, 45]
def k0_off119 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v277 : Index := Scalar.indexCast v162
  let c256 : Index := 256#32
  ![v277.toNat, 256]
def k0_off120 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v323 : Index := Scalar.indexCast v162
  let c46 : Index := 46#32
  ![v323.toNat, 46]
def k0_off121 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v334 : Index := Scalar.indexCast v162
  let c384 : Index := 384#32
  ![v334.toNat, 384]
def k0_off122 (k0_t13 : Fin k0_t13_loop.trips) : Fin 2 → Nat :=
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v380 : Index := Scalar.indexCast v162
  let c47 : Index := 47#32
  ![v380.toNat, 47]
def k0_off123 (k0_t13 : Fin k0_t13_loop.trips) : Fin 4 → Nat :=
  let c0_246 : Index := 0#32
  let c0_i32_138 : BitVec 32 := 0#32
  let c1_i32_140 : BitVec 32 := 1#32
  let arg21 : BitVec 32 := Scf.iv c0_i32_138 c1_i32_140 k0_t13
  let c32_i32 : BitVec 32 := 32#32
  let v161 : BitVec 32 := Scalar.muli arg21 c32_i32
  let v162 : BitVec 32 := v161
  let v396 : Index := Scalar.indexCast v162
  let c4 : Index := 4#32
  let c0_247 : Index := 0#32
  ![0, v396.toNat, 4, 0]
@[reducible] def k0_t14_loop : Scf.Loop 32 :=
  let c0_i32_149 : BitVec 32 := 0#32
  let c8_i32_150 : BitVec 32 := 8#32
  let v138 : BitVec 32 := Scalar.addi c0_i32_149 c8_i32_150
  let c1_i32_151 : BitVec 32 := 1#32
  ⟨c0_i32_149, v138, c1_i32_151⟩
def k0_mult15 (k0_t14 : Fin k0_t14_loop.trips) : BitVec 32 :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  v161
def k0_off124 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off125 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off126 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v201 : Index := Scalar.indexCast v162
  let c48 : Index := 48#32
  ![v201.toNat, 48]
def k0_off127 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v212 : Index := Scalar.indexCast v162
  let c128 : Index := 128#32
  ![v212.toNat, 128]
def k0_off128 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v250 : Index := Scalar.indexCast v162
  let c49 : Index := 49#32
  ![v250.toNat, 49]
def k0_off129 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v261 : Index := Scalar.indexCast v162
  let c256 : Index := 256#32
  ![v261.toNat, 256]
def k0_off130 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v299 : Index := Scalar.indexCast v162
  let c50 : Index := 50#32
  ![v299.toNat, 50]
def k0_off131 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v310 : Index := Scalar.indexCast v162
  let c384 : Index := 384#32
  ![v310.toNat, 384]
def k0_off132 (k0_t14 : Fin k0_t14_loop.trips) : Fin 2 → Nat :=
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v348 : Index := Scalar.indexCast v162
  let c51 : Index := 51#32
  ![v348.toNat, 51]
def k0_off133 (k0_t14 : Fin k0_t14_loop.trips) : Fin 4 → Nat :=
  let c0_234 : Index := 0#32
  let c0_i32_149 : BitVec 32 := 0#32
  let c1_i32_151 : BitVec 32 := 1#32
  let arg21 : BitVec 32 := Scf.iv c0_i32_149 c1_i32_151 k0_t14
  let c32_i32 : BitVec 32 := 32#32
  let v161 : BitVec 32 := Scalar.muli arg21 c32_i32
  let v162 : BitVec 32 := v161
  let v364 : Index := Scalar.indexCast v162
  let c0_235 : Index := 0#32
  let c0_236 : Index := 0#32
  ![0, v364.toNat, 0, 0]
@[reducible] def k0_t15_loop : Scf.Loop 32 :=
  let c0_i32_160 : BitVec 32 := 0#32
  let c8_i32_161 : BitVec 32 := 8#32
  let v146 : BitVec 32 := Scalar.addi c0_i32_160 c8_i32_161
  let c1_i32_162 : BitVec 32 := 1#32
  ⟨c0_i32_160, v146, c1_i32_162⟩
def k0_mult16 (k0_t15 : Fin k0_t15_loop.trips) : BitVec 32 :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  v161
def k0_off134 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v163 : Index := Scalar.indexCast v162
  let c0_175 : Index := 0#32
  ![v163.toNat, 0]
def k0_off135 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v165 : Index := Scalar.indexCast v162
  let c0_176 : Index := 0#32
  ![v165.toNat, 0]
def k0_off136 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v201 : Index := Scalar.indexCast v162
  let c52 : Index := 52#32
  ![v201.toNat, 52]
def k0_off137 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v212 : Index := Scalar.indexCast v162
  let c128 : Index := 128#32
  ![v212.toNat, 128]
def k0_off138 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v250 : Index := Scalar.indexCast v162
  let c53 : Index := 53#32
  ![v250.toNat, 53]
def k0_off139 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v261 : Index := Scalar.indexCast v162
  let c256 : Index := 256#32
  ![v261.toNat, 256]
def k0_off140 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v299 : Index := Scalar.indexCast v162
  let c54 : Index := 54#32
  ![v299.toNat, 54]
def k0_off141 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v310 : Index := Scalar.indexCast v162
  let c384 : Index := 384#32
  ![v310.toNat, 384]
def k0_off142 (k0_t15 : Fin k0_t15_loop.trips) : Fin 2 → Nat :=
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v348 : Index := Scalar.indexCast v162
  let c55 : Index := 55#32
  ![v348.toNat, 55]
def k0_off143 (k0_t15 : Fin k0_t15_loop.trips) : Fin 4 → Nat :=
  let c0_234 : Index := 0#32
  let c0_i32_160 : BitVec 32 := 0#32
  let c1_i32_162 : BitVec 32 := 1#32
  let arg21 : BitVec 32 := Scf.iv c0_i32_160 c1_i32_162 k0_t15
  let c32_i32 : BitVec 32 := 32#32
  let v161 : BitVec 32 := Scalar.muli arg21 c32_i32
  let v162 : BitVec 32 := v161
  let v364 : Index := Scalar.indexCast v162
  let c4 : Index := 4#32
  let c0_235 : Index := 0#32
  ![0, v364.toNat, 4, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x6144 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x40x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x40x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x8x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S3x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S3x6144x5120 : Shape := ⟨3, ![3, 6144, 5120]⟩
abbrev S5120 : Shape := ⟨1, ![5120]⟩
abbrev S5120x7168 : Shape := ⟨2, ![5120, 7168]⟩
abbrev S7168 : Shape := ⟨1, ![7168]⟩
abbrev S3x6144 : Shape := ⟨2, ![3, 6144]⟩
abbrev S64 : Shape := ⟨1, ![64]⟩
abbrev S_ : Shape := ⟨0, ![]⟩
abbrev S3x6144x40x128 : Shape := ⟨4, ![3, 6144, 40, 128]⟩
abbrev S3x40x6144 : Shape := ⟨3, ![3, 40, 6144]⟩
abbrev S3x6144x8x128 : Shape := ⟨4, ![3, 6144, 8, 128]⟩
abbrev S3x8x6144 : Shape := ⟨3, ![3, 8, 6144]⟩
abbrev S3x6144x1 : Shape := ⟨3, ![3, 6144, 1]⟩
abbrev S1x1x5120 : Shape := ⟨3, ![1, 1, 5120]⟩
abbrev S3x6144x252 : Shape := ⟨3, ![3, 6144, 252]⟩
abbrev S18432x5120 : Shape := ⟨2, ![18432, 5120]⟩
abbrev S18432x7168 : Shape := ⟨2, ![18432, 7168]⟩
abbrev S3x6144x7168 : Shape := ⟨3, ![3, 6144, 7168]⟩
abbrev S1x1x7168 : Shape := ⟨3, ![1, 1, 7168]⟩
abbrev S3x6144x1024 : Shape := ⟨3, ![3, 6144, 1024]⟩
abbrev S3x6144x1x1 : Shape := ⟨4, ![3, 6144, 1, 1]⟩
abbrev S1x1x1x64 : Shape := ⟨4, ![1, 1, 1, 64]⟩
abbrev S3x6144x1x64 : Shape := ⟨4, ![3, 6144, 1, 64]⟩
abbrev S3x6144x40x64 : Shape := ⟨4, ![3, 6144, 40, 64]⟩
abbrev S3x6144x40 : Shape := ⟨3, ![3, 6144, 40]⟩
abbrev S3x6144x40x1 : Shape := ⟨4, ![3, 6144, 40, 1]⟩
abbrev S3x6144x40x252 : Shape := ⟨4, ![3, 6144, 40, 252]⟩
abbrev S3x6144x8x64 : Shape := ⟨4, ![3, 6144, 8, 64]⟩
abbrev S3x6144x8 : Shape := ⟨3, ![3, 6144, 8]⟩
abbrev S3x6144x8x1 : Shape := ⟨4, ![3, 6144, 8, 1]⟩
abbrev S3x6144x8x252 : Shape := ⟨4, ![3, 6144, 8, 252]⟩

abbrev nBuf : Space → Nat
  | .hbm => 29
  | .vmem => 14
  | .smem => 0
  | _ => 0

abbrev bufTy : (tb : Table) → Fin (tcTables nBuf tb) → BufTy
  | .hbm, ⟨0, _⟩ => ⟨S3x6144x5120, .bf16⟩
  | .hbm, ⟨1, _⟩ => ⟨S5120, .f32⟩
  | .hbm, ⟨2, _⟩ => ⟨S5120x7168, .fp8e4m3⟩
  | .hbm, ⟨3, _⟩ => ⟨S7168, .f32⟩
  | .hbm, ⟨4, _⟩ => ⟨S3x6144, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S3x6144x40x128, .fp8e4m3⟩
  | .hbm, ⟨22, _⟩ => ⟨S3x40x6144, .f32⟩
  | .hbm, ⟨23, _⟩ => ⟨S3x6144x8x128, .fp8e4m3⟩
  | .hbm, ⟨24, _⟩ => ⟨S3x8x6144, .f32⟩
  | .hbm, ⟨25, _⟩ => ⟨S3x6144x8x128, .fp8e4m3⟩
  | .hbm, ⟨26, _⟩ => ⟨S3x8x6144, .f32⟩
  | .hbm, ⟨27, _⟩ => ⟨S3x6144x5120, .fp8e4m3⟩
  | .hbm, ⟨28, _⟩ => ⟨S3x6144, .f32⟩
  | .local _ .vmem, ⟨0, _⟩ => ⟨S3x6144x5120, .bf16⟩
  | .local _ .vmem, ⟨1, _⟩ => ⟨S5120, .f32⟩
  | .local _ .vmem, ⟨2, _⟩ => ⟨S5120x7168, .fp8e4m3⟩
  | .local _ .vmem, ⟨3, _⟩ => ⟨S7168, .f32⟩
  | .local _ .vmem, ⟨4, _⟩ => ⟨S3x6144, .i32⟩
  | .local _ .vmem, ⟨5, _⟩ => ⟨S64, .f32⟩
  | .local _ .vmem, ⟨6, _⟩ => ⟨S3x6144x40x128, .fp8e4m3⟩
  | .local _ .vmem, ⟨7, _⟩ => ⟨S3x40x6144, .f32⟩
  | .local _ .vmem, ⟨8, _⟩ => ⟨S3x6144x8x128, .fp8e4m3⟩
  | .local _ .vmem, ⟨9, _⟩ => ⟨S3x8x6144, .f32⟩
  | .local _ .vmem, ⟨10, _⟩ => ⟨S3x6144x8x128, .fp8e4m3⟩
  | .local _ .vmem, ⟨11, _⟩ => ⟨S3x8x6144, .f32⟩
  | .local _ .vmem, ⟨12, _⟩ => ⟨S3x6144x5120, .fp8e4m3⟩
  | .local _ .vmem, ⟨13, _⟩ => ⟨S3x6144, .f32⟩
  | _, _ => ⟨S3x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x6144 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x6144x40x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x40x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x6144x8x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x6144x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x8x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x6144x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelFrame.lean ====
/- The kernel as compiled, at any values: it runs, its arguments stay as they were, every counter ends at zero. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments after a run that leaves the inputs' arrays alone. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c))⟩) h

/-- A window's current staging buffer at a point, and that it is whole. -/
abbrev ms0_0 (t : Fin cfg0.N) : Memref sig .tc .vmem S1x256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x6144 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x40x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x40x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x8x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x5120 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x6144 .f32 := win0_13.stage (cfg0.slots t 13)
abbrev hs0_13 (t : Fin cfg0.N) : (ms0_13 t).IsWhole := hstage0_13 ((cfg0.slots t 13).cast nbuf0_13)
/-- The scratch buffers. -/
abbrev scM0_0 : Memref sig .tc .vmem S256x512 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The invariant, over the scratch buffers. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1692000 in
/-- The body runs on whole staging memrefs: the inputs are handed back as they were, the outputs and the scratch at some contents. -/
theorem anyRun (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)
    (x0 : Vec F S1x256x5120 .bf16) (x1 : Vec F S1x5120 .f32) (x2 : Vec F S5120x7168 .fp8e4m3) (x3 : Vec F S1x7168 .f32) (x4 : Vec F S3x6144 .i32) (x5 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rms_qkv_rope_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_rms_qkv_rope_quant_eq_skeleton]; unfold cc0_rms_qkv_rope_quant_skel
    simp only [k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The outputs: nothing is said of what they hold. -/
def forgets0 : Fin 14 → Bool := fun w => w.val == 6 || w.val == 7 || w.val == 8 || w.val == 9 || w.val == 10 || w.val == 11 || w.val == 12 || w.val == 13

/-- The proof data: each input at its block, the outputs at nothing named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves in an input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((anyRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's obligation for the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs' arrays as they were, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of_inputs m ρ (fun c => (dats m 0 c).toRForget forgets0) (A_eq m) ((θ_run defs _ _).mono (fun _ h => h.1) (run_main_quiescent m ρ))) ((θ_run defs _ _).mono (fun _ h => h.2) (run_main_quiescent m ρ))

end Cert.Kernel.Gen

end
-- ==== Proof.Math.lean ====
/- The mathematics both programs compute, over the extended reals: the power-of-two scale of a row, its codes, the normalised row,
   one head's row of values and its rotation. -/
module

public import Idealize.ShloMosaic.PureOps.Ideal.Laws
public import Idealize.ShloMosaic.Lib.ValueIdx
public import Idealize.ShloMosaic.Lib.ValueLayoutCasts
public import Mathlib.Tactic.NormNum
public import Mathlib.Tactic.Positivity
public import Mathlib.Tactic.Ring

@[expose] public section

noncomputable section

namespace Cert.Qkv

open Idealize.ShloMosaic

/-- The number of normal f32 powers of two, from 2^-126 to 2^125, that `a` reaches. -/
def field (a : EReal) : ℕ := (Finset.univ.filter fun k : Fin 252 => (((2 : ℝ) ^ ((k.val : ℤ) - 126) : ℝ) : EReal) ≤ a).card

/-- The least power of two above `a`, at most 2^126; 1 where `a` is below every normal f32. -/
def scale (a : EReal) : EReal := if field a = 0 then 1 else (((2 : ℝ) ^ ((field a : ℤ) - 126) : ℝ) : EReal)

/-- The scale's reciprocal. -/
def recip (a : EReal) : EReal := if field a = 0 then 1 else (((2 : ℝ) ^ (126 - (field a : ℤ)) : ℝ) : EReal)

/-- The largest magnitude of a row, times the f32 nearest 1/448. -/
def amax {n : ℕ} (f : Fin n → EReal) : EReal :=
  ((Finset.univ : Finset (Fin n)).fold max ⊥ fun d => max (f d) (-(f d))) * Ideal.ofBits .f32 0x3B124925#32

/-- A row's codes: each entry over the scale, clipped to ±448. -/
def code {n : ℕ} (f : Fin n → EReal) (d : Fin n) : EReal :=
  min (Ideal.ofBits .f32 0x43E00000#32) (max (Ideal.ofBits .f32 0xC3E00000#32) (f d * recip (amax f)))

/-- A row's scale. -/
def rowScale {n : ℕ} (f : Fin n → EReal) : EReal := scale (amax f)

/-- A row of 5120, RMS-normalised and weighted. -/
def normed (x g : Fin 5120 → EReal) (d : Fin 5120) : EReal :=
  x d * Ideal.rsqrt ((∑ e, x e * x e) * Ideal.ofBits .f32 0x394CCCCD#32 + Ideal.ofBits .f32 0x358637BD#32) * g d

theorem two_zpow_mono {a b : ℤ} (h : a ≤ b) : (((2 : ℝ) ^ a : ℝ) : EReal) ≤ (((2 : ℝ) ^ b : ℝ) : EReal) :=
  EReal.coe_le_coe_iff.mpr (zpow_le_zpow_right₀ (by norm_num) h)

theorem two_zpow_strict {a b : ℤ} (h : a < b) : (((2 : ℝ) ^ a : ℝ) : EReal) < (((2 : ℝ) ^ b : ℝ) : EReal) :=
  EReal.coe_lt_coe_iff.mpr (zpow_lt_zpow_right₀ (by norm_num) h)

/-- The powers `a` reaches are the first `field a`. -/
theorem lt_field_iff (a : EReal) (k : Fin 252) : k.val < field a ↔ (((2 : ℝ) ^ ((k.val : ℤ) - 126) : ℝ) : EReal) ≤ a := by
  classical
  unfold field
  constructor
  · intro h
    by_contra hk
    have hsub : (Finset.univ.filter fun j : Fin 252 => (((2 : ℝ) ^ ((j.val : ℤ) - 126) : ℝ) : EReal) ≤ a) ⊆ Finset.Iio k := by
      intro j hj
      rw [Finset.mem_filter] at hj
      rw [Finset.mem_Iio]
      by_contra hjk
      have hjk' : k.val ≤ j.val := by simpa [not_lt] using hjk
      exact hk (le_trans (two_zpow_mono (by omega)) hj.2)
    have := Finset.card_le_card hsub
    rw [Fin.card_Iio] at this
    omega
  · intro h
    have hsub : Finset.Iic k ⊆ (Finset.univ.filter fun j : Fin 252 => (((2 : ℝ) ^ ((j.val : ℤ) - 126) : ℝ) : EReal) ≤ a) := by
      intro j hj
      rw [Finset.mem_Iic] at hj
      have hj' : j.val ≤ k.val := hj
      rw [Finset.mem_filter]
      exact ⟨Finset.mem_univ _, le_trans (two_zpow_mono (by omega)) h⟩
    have := Finset.card_le_card hsub
    rw [Fin.card_Iic] at this
    omega

theorem field_le (a : EReal) : field a ≤ 252 := by
  unfold field
  exact (Finset.card_filter_le _ _).trans (by simp)

theorem amax_nonneg {n : ℕ} (hn : 0 < n) (f : Fin n → EReal) : 0 ≤ amax f := by
  unfold amax
  refine mul_nonneg ?_ ?_
  · rw [Finset.le_fold_max]
    right
    refine ⟨⟨0, hn⟩, Finset.mem_univ _, ?_⟩
    rcases le_total 0 (f ⟨0, hn⟩) with h | h
    · exact le_max_of_le_left h
    · exact le_max_of_le_right (by rwa [EReal.neg_nonneg])
  · have h : Ideal.ofBits .f32 0x3B124925#32 = ((9586981 / 4294967296 : ℝ) : EReal) := by
      simp [Ideal.ofBits, Ideal.ieee, -EReal.coe_mul]; norm_num
    rw [h]; exact_mod_cast (by norm_num : (0 : ℝ) ≤ 9586981 / 4294967296)

/-- The word with exponent field `n`, between 1 and 254, and no fraction denotes 2^(n - 127). -/
theorem ofBits_field (n : ℕ) (h1 : 1 ≤ n) (h2 : n ≤ 254) :
    Ideal.ofBits .f32 (BitVec.ofNat 32 (n * 8388608)) = (((2 : ℝ) ^ ((n : ℤ) - 127) : ℝ) : EReal) := by
  have hlt : n * 8388608 < 4294967296 := by omega
  have ht : (BitVec.ofNat 32 (n * 8388608)).toNat = n * 8388608 := by
    rw [BitVec.toNat_ofNat]; exact Nat.mod_eq_of_lt hlt
  have e1 : (BitVec.ofNat 32 (n * 8388608)).extractLsb' 23 8 = BitVec.ofNat 8 n := by
    apply BitVec.eq_of_toNat_eq
    rw [BitVec.extractLsb'_toNat, ht, Nat.shiftRight_eq_div_pow, BitVec.toNat_ofNat]
    rw [show n * 8388608 / 2 ^ 23 = n from Nat.mul_div_cancel n (by norm_num)]
  have e2 : (BitVec.ofNat 32 (n * 8388608)).extractLsb' 0 23 = 0#23 := by
    apply BitVec.eq_of_toNat_eq
    rw [BitVec.extractLsb'_toNat, ht, Nat.shiftRight_zero, BitVec.toNat_ofNat]
    exact Nat.mul_mod_left n 8388608
  have e3 : (BitVec.ofNat 32 (n * 8388608)).extractLsb' (8 + 23) 1 = 0#1 := by
    apply BitVec.eq_of_toNat_eq
    rw [BitVec.extractLsb'_toNat, ht, Nat.shiftRight_eq_div_pow, BitVec.toNat_ofNat]
    rw [Nat.div_eq_of_lt (by show n * 8388608 < 2147483648; omega)]
  show Ideal.ieee 8 23 (BitVec.ofNat 32 (n * 8388608)) = _
  unfold Ideal.ieee
  rw [e1, e2, e3]
  have hn : (BitVec.ofNat 8 n).toNat = n := by rw [BitVec.toNat_ofNat]; exact Nat.mod_eq_of_lt (by omega)
  have hb : (0#1 == 1#1) = false := rfl
  have hf : (0#23).toNat = 0 := rfl
  simp only [hn, hb, hf]
  rw [if_neg (by show n ≠ 255; omega), if_neg (by omega)]
  have : ((n : ℤ) - 127) = 23 + ((n : ℤ) - 127 - 23) := by ring
  rw [this, zpow_add₀ (by norm_num)]
  norm_num

theorem ofBits_field_zero : Ideal.ofBits .f32 (0#32) = 0 := by simp [Ideal.ofBits, Ideal.ieee]

theorem ofBits_one : Ideal.ofBits .f32 0x3F800000#32 = 1 := by
  have := ofBits_field 127 (by norm_num) (by norm_num)
  simpa using this

/-- The exponent word the kernel computes from its count of the fields `a` reaches. -/
def word (a : EReal) : BitVec 32 := if field a = 0 then 1056964608#32 else BitVec.ofNat 32 (field a * 8388608)

theorem scale_word (a : EReal) : Ideal.ofBits .f32 (word a + 8388608#32) = scale a := by
  unfold word scale
  by_cases h : field a = 0
  · rw [if_pos h, if_pos h]; exact ofBits_one
  · rw [if_neg h, if_neg h]
    have := field_le a
    have e : BitVec.ofNat 32 (field a * 8388608) + 8388608#32 = BitVec.ofNat 32 ((field a + 1) * 8388608) := by
      rw [add_mul, one_mul, BitVec.ofNat_add]
    rw [e, ofBits_field _ (by omega) (by omega)]
    congr 2
    push_cast; ring

theorem recip_word (a : EReal) : Ideal.ofBits .f32 (2122317824#32 - word a) = recip a := by
  unfold word recip
  by_cases h : field a = 0
  · rw [if_pos h, if_pos h]; exact ofBits_one
  · rw [if_neg h, if_neg h]
    have := field_le a
    have e : 2122317824#32 - BitVec.ofNat 32 (field a * 8388608) = BitVec.ofNat 32 ((253 - field a) * 8388608) := by
      have e' : 253 * 8388608 = (253 - field a) * 8388608 + field a * 8388608 := by rw [← add_mul]; congr 1; omega
      rw [show (2122317824#32 : BitVec 32) = BitVec.ofNat 32 (253 * 8388608) from rfl, e', BitVec.ofNat_add, BitVec.add_sub_cancel]
    rw [e, ofBits_field _ (by omega) (by omega)]
    congr 2
    have : ((253 - field a : ℕ) : ℤ) = 253 - (field a : ℤ) := by omega
    rw [this]; ring

/-- One over the scale is the reciprocal. -/
theorem div_scale (a : EReal) : Ideal.div 1 (scale a) = recip a := by
  unfold scale recip Ideal.div
  by_cases h : field a = 0
  · rw [if_pos h, if_pos h]; simp
  · rw [if_neg h, if_neg h, if_neg (by exact_mod_cast (by positivity : (2:ℝ) ^ ((field a : ℤ) - 126) ≠ 0)), one_mul,
      ← EReal.coe_inv, ← zpow_neg]
    congr 2; ring

/-- The least of the powers 2^(k - 125) above `a`, or 2^126, is the scale unless `a` is below every normal f32. -/
theorem scale_eq_fold (a : EReal) :
    (if a < (((2 : ℝ) ^ (-126 : ℤ) : ℝ) : EReal) then 1
      else (Finset.univ : Finset (Fin 252)).fold min ⊤ fun k => if a < (((2 : ℝ) ^ ((k.val : ℤ) - 125) : ℝ) : EReal)
        then (((2 : ℝ) ^ ((k.val : ℤ) - 125) : ℝ) : EReal) else (((2 : ℝ) ^ (126 : ℤ) : ℝ) : EReal)) = scale a := by
  have hle := field_le a
  unfold scale
  have h0 := lt_field_iff a ⟨0, by norm_num⟩
  simp only [Nat.cast_zero, zero_sub] at h0
  by_cases h : field a = 0
  · rw [if_pos h, if_pos]
    rw [← not_le, ← h0]; omega
  · rw [if_neg h, if_neg (by rw [not_lt, ← h0]; omega)]
    apply le_antisymm
    · rw [Finset.fold_min_le]
      right
      refine ⟨⟨field a - 1, by omega⟩, Finset.mem_univ _, ?_⟩
      have e : (((field a - 1 : ℕ) : ℤ) - 125) = (field a : ℤ) - 126 := by omega
      simp only [e]
      split
      · exact le_rfl
      · rename_i hn
        by_cases h2 : field a = 252
        · rw [h2]; norm_num
        · exact absurd (by rw [← not_le, ← lt_field_iff a ⟨field a, by omega⟩]; simp) hn
    · rw [Finset.le_fold_min]
      refine ⟨le_top, fun k _ => ?_⟩
      split
      · rename_i hk
        by_contra hlt
        rw [not_le] at hlt
        have hk2 : (k.val : ℤ) - 125 < (field a : ℤ) - 126 := by
          by_contra hge
          exact absurd hlt (not_lt.mpr (two_zpow_mono (by omega)))
        have := (lt_field_iff a ⟨k.val + 1, by omega⟩).mp (by show k.val + 1 < field a; omega)
        refine absurd hk (not_lt.mpr (le_trans (le_of_eq ?_) this))
        congr 2; push_cast; ring
      · exact two_zpow_mono (by omega)

end Cert.Qkv
-- ==== Proof.Spec.lean ====
/- What both programs compute of the inputs, entry by entry, over the extended reals. -/
module

public import proofs.«01_k».proof.Proof.Math

@[expose] public section

noncomputable section

namespace Cert.Qkv

open Idealize.ShloMosaic

/-- The inputs, by coordinates; `f` are the inverse frequencies. -/
structure Inputs where
  x : Fin 3 → Fin 6144 → Fin 5120 → EReal
  g : Fin 5120 → EReal
  w : Fin 5120 → Fin 7168 → EReal
  ws : Fin 7168 → EReal
  pos : Fin 3 → Fin 6144 → BitVec 32
  f : Fin 64 → EReal

namespace Inputs

variable (I : Inputs) (b : Fin 3) (s : Fin 6144)

/-- The normalised row of a position. -/
def row : Fin 5120 → EReal := normed (I.x b s) I.g

/-- The product of the row's codes with a column of the weight. -/
def acc (c : Fin 7168) : EReal := ∑ e : Fin 5120, code (I.row b s) e * I.w e c

/-- A head's row before rotation. -/
def plain (h : Fin 56) (d : Fin 128) : EReal :=
  I.acc b s (⟨128 * h.val + d.val, by omega⟩ : Fin 7168) * rowScale (I.row b s) * I.ws (⟨128 * h.val + d.val, by omega⟩ : Fin 7168)

/-- The rotation angle of a position. -/
def turn (j : Fin 64) : EReal := (((I.pos b s).toInt : ℝ) : EReal) * I.f j

/-- A head's row after rotation. -/
def rope (h : Fin 56) (d : Fin 128) : EReal :=
  if hd : d.val < 64 then
    I.plain b s h d * Ideal.cos (I.turn b s (⟨d.val, hd⟩ : Fin 64))
      + I.plain b s h (⟨d.val + 64, by omega⟩ : Fin 128) * -Ideal.sin (I.turn b s (⟨d.val, hd⟩ : Fin 64))
  else
    I.plain b s h d * Ideal.cos (I.turn b s (⟨d.val - 64, by omega⟩ : Fin 64))
      + I.plain b s h (⟨d.val - 64, by omega⟩ : Fin 128) * Ideal.sin (I.turn b s (⟨d.val - 64, by omega⟩ : Fin 64))

end Inputs

end Cert.Qkv
-- ==== Proof.RefQuant.lean ====
/- The reference's quantiser, entry by entry. -/
module

public import proofs.«01_k».proof.Proof.Gen.ReferenceIdeal.Skeleton
public import proofs.«01_k».proof.Proof.Spec
public import Idealize.ShloMosaic.Lib.Claim

@[expose] public section

set_option maxRecDepth 16384

noncomputable section

namespace Cert.ReferenceIdeal.Gen

open Idealize.ShloMosaic Idealize.ShloMosaic.ValueIdx Cert.Qkv

theorem bits_125 : Ideal.ofBits .f32 0x42FA0000#32 = ((125 : ℝ) : EReal) := by
  simp [Ideal.ofBits, Ideal.ieee]
  rw [← EReal.coe_mul]
  norm_num

theorem bits_least : Ideal.ofBits .f32 0x00800000#32 = (((2 : ℝ) ^ (-126 : ℤ) : ℝ) : EReal) := by
  have := ofBits_field 1 (by norm_num) (by norm_num)
  simpa using this

theorem bits_most : Ideal.ofBits .f32 0x7E800000#32 = (((2 : ℝ) ^ (126 : ℤ) : ℝ) : EReal) := by
  have := ofBits_field 253 (by norm_num) (by norm_num)
  norm_num at this ⊢
  exact this

theorem bits_top : Ideal.ofBits .f32 0x7F800000#32 = (⊤ : EReal) := by simp [Ideal.ofBits, Ideal.ieee]
theorem bits_bot : Ideal.ofBits .f32 0xFF800000#32 = (⊥ : EReal) := by simp [Ideal.ofBits, Ideal.ieee]

/-- The powers of two that the scale is sought among. -/
theorem power (k : Fin 252) : Ideal.exp2 ((((BitVec.ofNat 32 k.val).toInt : ℝ) : EReal) - Ideal.ofBits .f32 0x42FA0000#32)
    = (((2 : ℝ) ^ ((k.val : ℤ) - 125) : ℝ) : EReal) := by
  have hk : k.val < 252 := k.isLt
  have h : (BitVec.ofNat 32 k.val).toInt = (k.val : ℤ) := by
    rw [BitVec.toInt_eq_toNat_of_lt (by rw [BitVec.toNat_ofNat]; omega), BitVec.toNat_ofNat]
    rw [Nat.mod_eq_of_lt (by omega)]
  rw [h, bits_125, ← EReal.coe_sub, Ideal.exp2_coe]
  refine congrArg _ ?_
  have e : (((k.val : ℤ) : ℝ) - 125) = (((k.val : ℤ) - 125 : ℤ) : ℝ) := by push_cast; ring
  rw [e]
  exact Real.rpow_intCast 2 _

theorem sel_lt (a b x y : EReal) : Scalar.select (FloatOps.cmpf (F := Ideal) (φ := .f32) .olt a b) x y = if a < b then x else y := by
  by_cases h : a < b
  · have : FloatOps.cmpf (F := Ideal) (φ := .f32) .olt a b = 1#1 := by
      show BitVec.ofBool (decide (a < b)) = _; rw [decide_eq_true h]; rfl
    rw [this, if_pos h]; rfl
  · have : FloatOps.cmpf (F := Ideal) (φ := .f32) .olt a b = 0#1 := by
      show BitVec.ofBool (decide (a < b)) = _; rw [decide_eq_false h]; rfl
    rw [this, if_neg h]; rfl

theorem sel_gt (a b x y : EReal) : Scalar.select (FloatOps.cmpf (F := Ideal) (φ := .f32) .ogt a b) x y = if b < a then x else y := by
  by_cases h : b < a
  · have : FloatOps.cmpf (F := Ideal) (φ := .f32) .ogt a b = 1#1 := by
      show BitVec.ofBool (decide (b < a)) = _; rw [decide_eq_true h]; rfl
    rw [this, if_pos h]; rfl
  · have : FloatOps.cmpf (F := Ideal) (φ := .f32) .ogt a b = 0#1 := by
      show BitVec.ofBool (decide (b < a)) = _; rw [decide_eq_false h]; rfl
    rw [this, if_neg h]; rfl

theorem min_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (FloatOps.ofBits .f32 acc) (src ∘ h.lift j) := by
  rw [multiReduction_minimumf_eq_fold]; exact h.fold_filter_drop_single _ _ src j

theorem neutral_max : (0xFF800000#32 : BitVec 32) = FKind.maximumf.neutral .f32 (.inl rfl) := rfl

theorem cast_x (x : FVec Ideal S3x6144 .f32) (b : Fin 3) (s : Fin 6144) : shapeCast S3x6144x1 x shapeCasts_S3x6144_S3x6144x1 (ix3 b s (0 : Fin 1)) = x (ix2 b s) := by
  refine shapeCast_apply _ _ _ _ ?_
  rw [Shape.rowMajor_val_two, Shape.rowMajor_val_three]
  show b.val * 6144 + s.val = (b.val * 6144 + s.val) * 1 + 0
  omega

theorem uncast_x (x : FVec Ideal S3x6144x1 .f32) (b : Fin 3) (s : Fin 6144) : shapeCast S3x6144 x shapeCasts_S3x6144x1_S3x6144 (ix2 b s) = x (ix3 b s (0 : Fin 1)) := by
  refine shapeCast_apply _ _ _ _ ?_
  rw [Shape.rowMajor_val_two, Shape.rowMajor_val_three]
  show (b.val * 6144 + s.val) * 1 + 0 = b.val * 6144 + s.val
  omega

theorem lift_x (b : Fin 3) (s : Fin 6144) (k : Fin 5120) : reduces_S3x6144x5120_S3x6144.lift (ix2 b s) k = ix3 b s k := by
  funext a; match a with | ⟨0, _⟩ => rfl | ⟨1, _⟩ => rfl | ⟨2, _⟩ => rfl

theorem lift252_x (b : Fin 3) (s : Fin 6144) (k : Fin 252) : reduces_S3x6144x252_S3x6144.lift (ix2 b s) k = ix3 b s k := by
  funext a; match a with | ⟨0, _⟩ => rfl | ⟨1, _⟩ => rfl | ⟨2, _⟩ => rfl

theorem max_x (t : FVec Ideal S3x6144x5120 .f32) (b : Fin 3) (s : Fin 6144) :
    multiReduction (F := Ideal) .maximumf [2] S3x6144 (absf t) 0xFF800000#32 reduces_S3x6144x5120_S3x6144 (.inl rfl) rfl (ix2 b s)
      = (Finset.univ : Finset (Fin 5120)).fold max (⊥ : EReal) fun d => max (t (ix3 b s d)) (-(t (ix3 b s d))) := by
  refine (Ideal.multiReduction_maximumf_single (absf t) _ reduces_S3x6144x5120_S3x6144 _ _ (ix2 b s)).trans ?_
  rw [show (FloatOps.ofBits (F := Ideal) .f32 0xFF800000#32) = (⊥ : EReal) from bits_bot]
  exact Finset.fold_congr fun d _ => congrArg (absf t) (lift_x b s d)

theorem amax_x (t : FVec Ideal S3x6144x5120 .f32) (b : Fin 3) (s : Fin 6144) :
    mulf (shapeCast S3x6144x1 (multiReduction .maximumf [2] S3x6144 (absf t) 0xFF800000#32 reduces_S3x6144x5120_S3x6144 (.inl rfl) rfl) shapeCasts_S3x6144_S3x6144x1)
      (broadcast S3x6144x1 (Scalar.ofBits (F := Ideal) .f32 0x3B124925#32)) (ix3 b s (0 : Fin 1)) = amax fun d : Fin 5120 => t (ix3 b s d) := by
  unfold amax
  rw [mulf_apply, cast_x, max_x]
  rfl

theorem powers_x (b : Fin 3) (s : Fin 6144) (k : Fin 252) :
    exp2 (subf (sitofp .f32 (iota .tc S3x6144x252 32 [2] iota_S3x6144x252_d2_w32)) (broadcast S3x6144x252 (Scalar.ofBits (F := Ideal) .f32 0x42FA0000#32))) (ix3 b s k)
      = (((2 : ℝ) ^ ((k.val : ℤ) - 125) : ℝ) : EReal) := by
  refine Eq.trans ?_ (power k)
  have e := iota_single_apply .tc S3x6144x252 32 2 iota_S3x6144x252_d2_w32 (ix3 b s k)
  exact congrArg (fun z : BitVec 32 => Ideal.exp2 (((z.toInt : ℝ) : EReal) - Ideal.ofBits .f32 0x42FA0000#32)) e

theorem scale_x (a : FVec Ideal S3x6144x1 .f32) (p : FVec Ideal S3x6144x252 .f32) (b : Fin 3) (s : Fin 6144)
    (hp : ∀ k : Fin 252, p (ix3 b s k) = (((2 : ℝ) ^ ((k.val : ℤ) - 125) : ℝ) : EReal)) :
    select (cmpf (F := Ideal) .olt a (broadcast S3x6144x1 (Scalar.ofBits (F := Ideal) .f32 0x00800000#32))) (broadcast S3x6144x1 (Scalar.ofBits (F := Ideal) .f32 0x3F800000#32))
      (shapeCast S3x6144x1 (multiReduction (F := Ideal) .minimumf [2] S3x6144
        (select (cmpf (F := Ideal) .ogt p (broadcastTo S3x6144x252 a broadcasts_S3x6144x1_S3x6144x252)) p (broadcast S3x6144x252 (Scalar.ofBits (F := Ideal) .f32 0x7E800000#32)))
        0x7F800000#32 reduces_S3x6144x252_S3x6144 (.inl rfl) rfl) shapeCasts_S3x6144_S3x6144x1) (ix3 b s (0 : Fin 1)) = scale (a (ix3 b s (0 : Fin 1))) := by
  have e1 : ∀ k : Fin 252, broadcastTo S3x6144x252 a broadcasts_S3x6144x1_S3x6144x252 (ix3 b s k) = a (ix3 b s (0 : Fin 1)) := fun k =>
    broadcastTo_apply _ _ _ _ fun ax => match ax with | ⟨0, _⟩ => rfl | ⟨1, _⟩ => rfl | ⟨2, _⟩ => rfl
  have h1 : ∀ src : FVec Ideal S3x6144x252 .f32, multiReduction (F := Ideal) .minimumf [2] S3x6144 src 0x7F800000#32 reduces_S3x6144x252_S3x6144 (.inl rfl) rfl (ix2 b s)
      = (Finset.univ : Finset (Fin 252)).fold min (⊤ : EReal) fun k => src (ix3 b s k) := by
    intro src
    refine (min_single src _ reduces_S3x6144x252_S3x6144 _ _ (ix2 b s)).trans ?_
    refine (congrArg (fun z : EReal => Finset.fold min z _ _) bits_top).trans ?_
    exact Finset.fold_congr fun d _ => congrArg src (lift252_x b s d)
  refine Eq.trans ?_ (scale_eq_fold (a (ix3 b s (0 : Fin 1))))
  refine (select_apply _ _ _ _).trans ?_
  refine (sel_lt (a (ix3 b s (0 : Fin 1))) _ _ _).trans ?_
  rw [show (broadcast _ (Scalar.ofBits (F := Ideal) .f32 0x00800000#32) : FVec Ideal _ .f32) (ix3 b s (0 : Fin 1)) = (((2 : ℝ) ^ (-126 : ℤ) : ℝ) : EReal) from bits_least]
  rw [show (broadcast _ (Scalar.ofBits (F := Ideal) .f32 0x3F800000#32) : FVec Ideal _ .f32) (ix3 b s (0 : Fin 1)) = (1 : EReal) from ofBits_one]
  refine congrArg (fun z : EReal => if a (ix3 b s (0 : Fin 1)) < (((2 : ℝ) ^ (-126 : ℤ) : ℝ) : EReal) then 1 else z) ?_
  refine (cast_x _ b s).trans ((h1 _).trans ?_)
  refine Finset.fold_congr fun k _ => ?_
  refine (select_apply _ _ _ _).trans ?_
  refine (sel_gt _ _ _ _).trans ?_
  rw [e1 k, hp k]
  exact congrArg (fun z : EReal => if a (ix3 b s (0 : Fin 1)) < (((2 : ℝ) ^ ((k.val : ℤ) - 125) : ℝ) : EReal) then (((2 : ℝ) ^ ((k.val : ℤ) - 125) : ℝ) : EReal) else z) bits_most

theorem codes_x (t : FVec Ideal S3x6144x5120 .f32) (sc : FVec Ideal S3x6144x1 .f32) (b : Fin 3) (s : Fin 6144)
    (hsc : sc (ix3 b s (0 : Fin 1)) = rowScale fun d : Fin 5120 => t (ix3 b s d)) (d : Fin 5120) :
    minimumf (broadcast S3x6144x5120 (Scalar.ofBits (F := Ideal) .f32 0x43E00000#32)) (maximumf (broadcast S3x6144x5120 (Scalar.ofBits (F := Ideal) .f32 0xC3E00000#32))
      (mulf t (broadcastTo S3x6144x5120 (divf (broadcast S3x6144x1 (Scalar.ofBits (F := Ideal) .f32 0x3F800000#32)) sc) broadcasts_S3x6144x1_S3x6144x5120))) (ix3 b s d)
      = code (fun d : Fin 5120 => t (ix3 b s d)) d := by
  have e1 : ∀ y : FVec Ideal S3x6144x1 .f32, broadcastTo S3x6144x5120 y broadcasts_S3x6144x1_S3x6144x5120 (ix3 b s d) = y (ix3 b s (0 : Fin 1)) := fun y =>
    broadcastTo_apply _ _ _ _ fun ax => match ax with | ⟨0, _⟩ => rfl | ⟨1, _⟩ => rfl | ⟨2, _⟩ => rfl
  unfold code
  refine congrArg (fun z : EReal => min (Ideal.ofBits .f32 0x43E00000#32) (max (Ideal.ofBits .f32 0xC3E00000#32) (t (ix3 b s d) * z))) ?_
  refine (e1 _).trans ?_
  refine Eq.trans ?_ (div_scale (amax fun d : Fin 5120 => t (ix3 b s d)))
  exact congrArg₂ Ideal.div ofBits_one hsc

theorem cast_h40 (x : FVec Ideal S3x6144x40 .f32) (b : Fin 3) (s : Fin 6144) (h : Fin 40) : shapeCast S3x6144x40x1 x shapeCasts_S3x6144x40_S3x6144x40x1 (ix4 b s h (0 : Fin 1)) = x (ix3 b s h) := by
  refine shapeCast_apply _ _ _ _ ?_
  rw [Shape.rowMajor_val_three, Shape.rowMajor_val_four]
  show (b.val * 6144 + s.val) * 40 + h.val = ((b.val * 6144 + s.val) * 40 + h.val) * 1 + 0
  omega

theorem uncast_h40 (x : FVec Ideal S3x6144x40x1 .f32) (b : Fin 3) (s : Fin 6144) (h : Fin 40) : shapeCast S3x6144x40 x shapeCasts_S3x6144x40x1_S3x6144x40 (ix3 b s h) = x (ix4 b s h (0 : Fin 1)) := by
  refine shapeCast_apply _ _ _ _ ?_
  rw [Shape.rowMajor_val_three, Shape.rowMajor_val_four]
  show ((b.val * 6144 + s.val) * 40 + h.val) * 1 + 0 = (b.val * 6144 + s.val) * 40 + h.val
  omega

theorem lift_h40 (b : Fin 3) (s : Fin 6144) (h : Fin 40) (k : Fin 128) : reduces_S3x6144x40x128_S3x6144x40.lift (ix3 b s h) k = ix4 b s h k := by
  funext a; match a with | ⟨0, _⟩ => rfl | ⟨1, _⟩ => rfl | ⟨2, _⟩ => rfl | ⟨3, _⟩ => rfl

theorem lift252_h40 (b : Fin 3) (s : Fin 6144) (h : Fin 40) (k : Fin 252) : reduces_S3x6144x40x252_S3x6144x40.lift (ix3 b s h) k = ix4 b s h k := by
  funext a; match a with | ⟨0, _⟩ => rfl | ⟨1, _⟩ => rfl | ⟨2, _⟩ => rfl | ⟨3, _⟩ => rfl

theorem max_h40 (t : FVec Ideal S3x6144x40x128 .f32) (b : Fin 3) (s : Fin 6144) (h : Fin 40) :
    multiReduction (F := Ideal) .maximumf [3] S3x6144x40 (absf t) 0xFF800000#32 reduces_S3x6144x40x128_S3x6144x40 (.inl rfl) rfl (ix3 b s h)
      = (Finset.univ : Finset (Fin 128)).fold max (⊥ : EReal) fun d => max (t (ix4 b s h d)) (-(t (ix4 b s h d))) := by
  refine (Ideal.multiReduction_maximumf_single (absf t) _ reduces_S3x6144x40x128_S3x6144x40 _ _ (ix3 b s h)).trans ?_
  rw [show (FloatOps.ofBits (F := Ideal) .f32 0xFF800000#32) = (⊥ : EReal) from bits_bot]
  exact Finset.fold_congr fun d _ => congrArg (absf t) (lift_h40 b s h d)

theorem amax_h40 (t : FVec Ideal S3x6144x40x128 .f32) (b : Fin 3) (s : Fin 6144) (h : Fin 40) :
    mulf (shapeCast S3x6144x40x1 (multiReduction .maximumf [3] S3x6144x40 (absf t) 0xFF800000#32 reduces_S3x6144x40x128_S3x6144x40 (.inl rfl) rfl) shapeCasts_S3x6144x40_S3x6144x40x1)
      (broadcast S3x6144x40x1 (Scalar.ofBits (F := Ideal) .f32 0x3B124925#32)) (ix4 b s h (0 : Fin 1)) = amax fun d : Fin 128 => t (ix4 b s h d) := by
  unfold amax
  rw [mulf_apply, cast_h40, max_h40]
  rfl

theorem powers_h40 (b : Fin 3) (s : Fin 6144) (h : Fin 40) (k : Fin 252) :
    exp2 (subf (sitofp .f32 (iota .tc S3x6144x40x252 32 [3] iota_S3x6144x40x252_d3_w32)) (broadcast S3x6144x40x252 (Scalar.ofBits (F := Ideal) .f32 0x42FA0000#32))) (ix4 b s h k)
      = (((2 : ℝ) ^ ((k.val : ℤ) - 125) : ℝ) : EReal) := by
  refine Eq.trans ?_ (power k)
  have e := iota_single_apply .tc S3x6144x40x252 32 3 iota_S3x6144x40x252_d3_w32 (ix4 b s h k)
  exact congrArg (fun z : BitVec 32 => Ideal.exp2 (((z.toInt : ℝ) : EReal) - Ideal.ofBits .f32 0x42FA0000#32)) e

theorem scale_h40 (a : FVec Ideal S3x6144x40x1 .f32) (p : FVec Ideal S3x6144x40x252 .f32) (b : Fin 3) (s : Fin 6144) (h : Fin 40)
    (hp : ∀ k : Fin 252, p (ix4 b s h k) = (((2 : ℝ) ^ ((k.val : ℤ) - 125) : ℝ) : EReal)) :
    select (cmpf (F := Ideal) .olt a (broadcast S3x6144x40x1 (Scalar.ofBits (F := Ideal) .f32 0x00800000#32))) (broadcast S3x6144x40x1 (Scalar.ofBits (F := Ideal) .f32 0x3F800000#32))
      (shapeCast S3x6144x40x1 (multiReduction (F := Ideal) .minimumf [3] S3x6144x40
        (select (cmpf (F := Ideal) .ogt p (broadcastTo S3x6144x40x252 a broadcasts_S3x6144x40x1_S3x6144x40x252)) p (broadcast S3x6144x40x252 (Scalar.ofBits (F := Ideal) .f32 0x7E800000#32)))
        0x7F800000#32 reduces_S3x6144x40x252_S3x6144x40 (.inl rfl) rfl) shapeCasts_S3x6144x40_S3x6144x40x1) (ix4 b s h (0 : Fin 1)) = scale (a (ix4 b s h (0 : Fin 1))) := by
  have e1 : ∀ k : Fin 252, broadcastTo S3x6144x40x252 a broadcasts_S3x6144x40x1_S3x6144x40x252 (ix4 b s h k) = a (ix4 b s h (0 : Fin 1)) := fun k =>
    broadcastTo_apply _ _ _ _ fun ax => match ax with | ⟨0, _⟩ => rfl | ⟨1, _⟩ => rfl | ⟨2, _⟩ => rfl | ⟨3, _⟩ => rfl
  have h1 : ∀ src : FVec Ideal S3x6144x40x252 .f32, multiReduction (F := Ideal) .minimumf [3] S3x6144x40 src 0x7F800000#32 reduces_S3x6144x40x252_S3x6144x40 (.inl rfl) rfl (ix3 b s h)
      = (Finset.univ : Finset (Fin 252)).fold min (⊤ : EReal) fun k => src (ix4 b s h k) := by
    intro src
    refine (min_single src _ reduces_S3x6144x40x252_S3x6144x40 _ _ (ix3 b s h)).trans ?_
    refine (congrArg (fun z : EReal => Finset.fold min z _ _) bits_top).trans ?_
    exact Finset.fold_congr fun d _ => congrArg src (lift252_h40 b s h d)
  refine Eq.trans ?_ (scale_eq_fold (a (ix4 b s h (0 : Fin 1))))
  refine (select_apply _ _ _ _).trans ?_
  refine (sel_lt (a (ix4 b s h (0 : Fin 1))) _ _ _).trans ?_
  rw [show (broadcast _ (Scalar.ofBits (F := Ideal) .f32 0x00800000#32) : FVec Ideal _ .f32) (ix4 b s h (0 : Fin 1)) = (((2 : ℝ) ^ (-126 : ℤ) : ℝ) : EReal) from bits_least]
  rw [show (broadcast _ (Scalar.ofBits (F := Ideal) .f32 0x3F800000#32) : FVec Ideal _ .f32) (ix4 b s h (0 : Fin 1)) = (1 : EReal) from ofBits_one]
  refine congrArg (fun z : EReal => if a (ix4 b s h (0 : Fin 1)) < (((2 : ℝ) ^ (-126 : ℤ) : ℝ) : EReal) then 1 else z) ?_
  refine (cast_h40 _ b s h).trans ((h1 _).trans ?_)
  refine Finset.fold_congr fun k _ => ?_
  refine (select_apply _ _ _ _).trans ?_
  refine (sel_gt _ _ _ _).trans ?_
  rw [e1 k, hp k]
  exact congrArg (fun z : EReal => if a (ix4 b s h (0 : Fin 1)) < (((2 : ℝ) ^ ((k.val : ℤ) - 125) : ℝ) : EReal) then (((2 : ℝ) ^ ((k.val : ℤ) - 125) : ℝ) : EReal) else z) bits_most

theorem codes_h40 (t : FVec Ideal S3x6144x40x128 .f32) (sc : FVec Ideal S3x6144x40x1 .f32) (b : Fin 3) (s : Fin 6144) (h : Fin 40)
    (hsc : sc (ix4 b s h (0 : Fin 1)) = rowScale fun d : Fin 128 => t (ix4 b s h d)) (d : Fin 128) :
    minimumf (broadcast S3x6144x40x128 (Scalar.ofBits (F := Ideal) .f32 0x43E00000#32)) (maximumf (broadcast S3x6144x40x128 (Scalar.ofBits (F := Ideal) .f32 0xC3E00000#32))
      (mulf t (broadcastTo S3x6144x40x128 (divf (broadcast S3x6144x40x1 (Scalar.ofBits (F := Ideal) .f32 0x3F800000#32)) sc) broadcasts_S3x6144x40x1_S3x6144x40x128))) (ix4 b s h d)
      = code (fun d : Fin 128 => t (ix4 b s h d)) d := by
  have e1 : ∀ y : FVec Ideal S3x6144x40x1 .f32, broadcastTo S3x6144x40x128 y broadcasts_S3x6144x40x1_S3x6144x40x128 (ix4 b s h d) = y (ix4 b s h (0 : Fin 1)) := fun y =>
    broadcastTo_apply _ _ _ _ fun ax => match ax with | ⟨0, _⟩ => rfl | ⟨1, _⟩ => rfl | ⟨2, _⟩ => rfl | ⟨3, _⟩ => rfl
  unfold code
  refine congrArg (fun z : EReal => min (Ideal.ofBits .f32 0x43E00000#32) (max (Ideal.ofBits .f32 0xC3E00000#32) (t (ix4 b s h d) * z))) ?_
  refine (e1 _).trans ?_
  refine Eq.trans ?_ (div_scale (amax fun d : Fin 128 => t (ix4 b s h d)))
  exact congrArg₂ Ideal.div ofBits_one hsc

theorem cast_h8 (x : FVec Ideal S3x6144x8 .f32) (b : Fin 3) (s : Fin 6144) (h : Fin 8) : shapeCast S3x6144x8x1 x shapeCasts_S3x6144x8_S3x6144x8x1 (ix4 b s h (0 : Fin 1)) = x (ix3 b s h) := by
  refine shapeCast_apply _ _ _ _ ?_
  rw [Shape.rowMajor_val_three, Shape.rowMajor_val_four]
  show (b.val * 6144 + s.val) * 8 + h.val = ((b.val * 6144 + s.val) * 8 + h.val) * 1 + 0
  omega

theorem uncast_h8 (x : FVec Ideal S3x6144x8x1 .f32) (b : Fin 3) (s : Fin 6144) (h : Fin 8) : shapeCast S3x6144x8 x shapeCasts_S3x6144x8x1_S3x6144x8 (ix3 b s h) = x (ix4 b s h (0 : Fin 1)) := by
  refine shapeCast_apply _ _ _ _ ?_
  rw [Shape.rowMajor_val_three, Shape.rowMajor_val_four]
  show ((b.val * 6144 + s.val) * 8 + h.val) * 1 + 0 = (b.val * 6144 + s.val) * 8 + h.val
  omega

theorem lift_h8 (b : Fin 3) (s : Fin 6144) (h : Fin 8) (k : Fin 128) : reduces_S3x6144x8x128_S3x6144x8.lift (ix3 b s h) k = ix4 b s h k := by
  funext a; match a with | ⟨0, _⟩ => rfl | ⟨1, _⟩ => rfl | ⟨2, _⟩ => rfl | ⟨3, _⟩ => rfl

theorem lift252_h8 (b : Fin 3) (s : Fin 6144) (h : Fin 8) (k : Fin 252) : reduces_S3x6144x8x252_S3x6144x8.lift (ix3 b s h) k = ix4 b s h k := by
  funext a; match a with | ⟨0, _⟩ => rfl | ⟨1, _⟩ => rfl | ⟨2, _⟩ => rfl | ⟨3, _⟩ => rfl

theorem max_h8 (t : FVec Ideal S3x6144x8x128 .f32) (b : Fin 3) (s : Fin 6144) (h : Fin 8) :
    multiReduction (F := Ideal) .maximumf [3] S3x6144x8 (absf t) 0xFF800000#32 reduces_S3x6144x8x128_S3x6144x8 (.inl rfl) rfl (ix3 b s h)
      = (Finset.univ : Finset (Fin 128)).fold max (⊥ : EReal) fun d => max (t (ix4 b s h d)) (-(t (ix4 b s h d))) := by
  refine (Ideal.multiReduction_maximumf_single (absf t) _ reduces_S3x6144x8x128_S3x6144x8 _ _ (ix3 b s h)).trans ?_
  rw [show (FloatOps.ofBits (F := Ideal) .f32 0xFF800000#32) = (⊥ : EReal) from bits_bot]
  exact Finset.fold_congr fun d _ => congrArg (absf t) (lift_h8 b s h d)

theorem amax_h8 (t : FVec Ideal S3x6144x8x128 .f32) (b : Fin 3) (s : Fin 6144) (h : Fin 8) :
    mulf (shapeCast S3x6144x8x1 (multiReduction .maximumf [3] S3x6144x8 (absf t) 0xFF800000#32 reduces_S3x6144x8x128_S3x6144x8 (.inl rfl) rfl) shapeCasts_S3x6144x8_S3x6144x8x1)
      (broadcast S3x6144x8x1 (Scalar.ofBits (F := Ideal) .f32 0x3B124925#32)) (ix4 b s h (0 : Fin 1)) = amax fun d : Fin 128 => t (ix4 b s h d) := by
  unfold amax
  rw [mulf_apply, cast_h8, max_h8]
  rfl

theorem powers_h8 (b : Fin 3) (s : Fin 6144) (h : Fin 8) (k : Fin 252) :
    exp2 (subf (sitofp .f32 (iota .tc S3x6144x8x252 32 [3] iota_S3x6144x8x252_d3_w32)) (broadcast S3x6144x8x252 (Scalar.ofBits (F := Ideal) .f32 0x42FA0000#32))) (ix4 b s h k)
      = (((2 : ℝ) ^ ((k.val : ℤ) - 125) : ℝ) : EReal) := by
  refine Eq.trans ?_ (power k)
  have e := iota_single_apply .tc S3x6144x8x252 32 3 iota_S3x6144x8x252_d3_w32 (ix4 b s h k)
  exact congrArg (fun z : BitVec 32 => Ideal.exp2 (((z.toInt : ℝ) : EReal) - Ideal.ofBits .f32 0x42FA0000#32)) e

theorem scale_h8 (a : FVec Ideal S3x6144x8x1 .f32) (p : FVec Ideal S3x6144x8x252 .f32) (b : Fin 3) (s : Fin 6144) (h : Fin 8)
    (hp : ∀ k : Fin 252, p (ix4 b s h k) = (((2 : ℝ) ^ ((k.val : ℤ) - 125) : ℝ) : EReal)) :
    select (cmpf (F := Ideal) .olt a (broadcast S3x6144x8x1 (Scalar.ofBits (F := Ideal) .f32 0x00800000#32))) (broadcast S3x6144x8x1 (Scalar.ofBits (F := Ideal) .f32 0x3F800000#32))
      (shapeCast S3x6144x8x1 (multiReduction (F := Ideal) .minimumf [3] S3x6144x8
        (select (cmpf (F := Ideal) .ogt p (broadcastTo S3x6144x8x252 a broadcasts_S3x6144x8x1_S3x6144x8x252)) p (broadcast S3x6144x8x252 (Scalar.ofBits (F := Ideal) .f32 0x7E800000#32)))
        0x7F800000#32 reduces_S3x6144x8x252_S3x6144x8 (.inl rfl) rfl) shapeCasts_S3x6144x8_S3x6144x8x1) (ix4 b s h (0 : Fin 1)) = scale (a (ix4 b s h (0 : Fin 1))) := by
  have e1 : ∀ k : Fin 252, broadcastTo S3x6144x8x252 a broadcasts_S3x6144x8x1_S3x6144x8x252 (ix4 b s h k) = a (ix4 b s h (0 : Fin 1)) := fun k =>
    broadcastTo_apply _ _ _ _ fun ax => match ax with | ⟨0, _⟩ => rfl | ⟨1, _⟩ => rfl | ⟨2, _⟩ => rfl | ⟨3, _⟩ => rfl
  have h1 : ∀ src : FVec Ideal S3x6144x8x252 .f32, multiReduction (F := Ideal) .minimumf [3] S3x6144x8 src 0x7F800000#32 reduces_S3x6144x8x252_S3x6144x8 (.inl rfl) rfl (ix3 b s h)
      = (Finset.univ : Finset (Fin 252)).fold min (⊤ : EReal) fun k => src (ix4 b s h k) := by
    intro src
    refine (min_single src _ reduces_S3x6144x8x252_S3x6144x8 _ _ (ix3 b s h)).trans ?_
    refine (congrArg (fun z : EReal => Finset.fold min z _ _) bits_top).trans ?_
    exact Finset.fold_congr fun d _ => congrArg src (lift252_h8 b s h d)
  refine Eq.trans ?_ (scale_eq_fold (a (ix4 b s h (0 : Fin 1))))
  refine (select_apply _ _ _ _).trans ?_
  refine (sel_lt (a (ix4 b s h (0 : Fin 1))) _ _ _).trans ?_
  rw [show (broadcast _ (Scalar.ofBits (F := Ideal) .f32 0x00800000#32) : FVec Ideal _ .f32) (ix4 b s h (0 : Fin 1)) = (((2 : ℝ) ^ (-126 : ℤ) : ℝ) : EReal) from bits_least]
  rw [show (broadcast _ (Scalar.ofBits (F := Ideal) .f32 0x3F800000#32) : FVec Ideal _ .f32) (ix4 b s h (0 : Fin 1)) = (1 : EReal) from ofBits_one]
  refine congrArg (fun z : EReal => if a (ix4 b s h (0 : Fin 1)) < (((2 : ℝ) ^ (-126 : ℤ) : ℝ) : EReal) then 1 else z) ?_
  refine (cast_h8 _ b s h).trans ((h1 _).trans ?_)
  refine Finset.fold_congr fun k _ => ?_
  refine (select_apply _ _ _ _).trans ?_
  refine (sel_gt _ _ _ _).trans ?_
  rw [e1 k, hp k]
  exact congrArg (fun z : EReal => if a (ix4 b s h (0 : Fin 1)) < (((2 : ℝ) ^ ((k.val : ℤ) - 125) : ℝ) : EReal) then (((2 : ℝ) ^ ((k.val : ℤ) - 125) : ℝ) : EReal) else z) bits_most

theorem codes_h8 (t : FVec Ideal S3x6144x8x128 .f32) (sc : FVec Ideal S3x6144x8x1 .f32) (b : Fin 3) (s : Fin 6144) (h : Fin 8)
    (hsc : sc (ix4 b s h (0 : Fin 1)) = rowScale fun d : Fin 128 => t (ix4 b s h d)) (d : Fin 128) :
    minimumf (broadcast S3x6144x8x128 (Scalar.ofBits (F := Ideal) .f32 0x43E00000#32)) (maximumf (broadcast S3x6144x8x128 (Scalar.ofBits (F := Ideal) .f32 0xC3E00000#32))
      (mulf t (broadcastTo S3x6144x8x128 (divf (broadcast S3x6144x8x1 (Scalar.ofBits (F := Ideal) .f32 0x3F800000#32)) sc) broadcasts_S3x6144x8x1_S3x6144x8x128))) (ix4 b s h d)
      = code (fun d : Fin 128 => t (ix4 b s h d)) d := by
  have e1 : ∀ y : FVec Ideal S3x6144x8x1 .f32, broadcastTo S3x6144x8x128 y broadcasts_S3x6144x8x1_S3x6144x8x128 (ix4 b s h d) = y (ix4 b s h (0 : Fin 1)) := fun y =>
    broadcastTo_apply _ _ _ _ fun ax => match ax with | ⟨0, _⟩ => rfl | ⟨1, _⟩ => rfl | ⟨2, _⟩ => rfl | ⟨3, _⟩ => rfl
  unfold code
  refine congrArg (fun z : EReal => min (Ideal.ofBits .f32 0x43E00000#32) (max (Ideal.ofBits .f32 0xC3E00000#32) (t (ix4 b s h d) * z))) ?_
  refine (e1 _).trans ?_
  refine Eq.trans ?_ (div_scale (amax fun d : Fin 128 => t (ix4 b s h d)))
  exact congrArg₂ Ideal.div ofBits_one hsc

end Cert.ReferenceIdeal.Gen
-- ==== Proof.RefVals.lean ====
/- The reference's values, entry by entry, as the specification's. -/
module

public import proofs.«01_k».proof.Proof.RefQuant
public import Idealize.ShloMosaic.Lib.MatmulPlain

@[expose] public section

set_option maxRecDepth 16384

noncomputable section

namespace Cert.ReferenceIdeal.Gen

open Idealize.ShloMosaic Idealize.ShloMosaic.ValueIdx Cert.Qkv

/-- The inputs by coordinates, from the vectors the reference loads. -/
def insOf (x : Vec Ideal S3x6144x5120 .bf16) (g : Vec Ideal S5120 .f32) (w : Vec Ideal S5120x7168 .fp8e4m3) (ws : Vec Ideal S7168 .f32)
    (p : Vec Ideal S3x6144 .i32) (f : Vec Ideal S64 .f32) : Inputs where
  x b s e := x (ix3 b s e)
  g e := g (ix1 e)
  w e k := w (ix2 e k)
  ws k := ws (ix1 k)
  pos b s := p (ix2 b s)
  f j := f (ix1 j)

theorem normed_at (x : Vec Ideal S3x6144x5120 .bf16) (g : Vec Ideal S5120 .f32) (b : Fin 3) (s : Fin 6144) (d : Fin 5120) :
    k0_pay5 (F := Ideal) x g (ix3 b s d) = normed (fun e => x (ix3 b s e)) (fun e => g (ix1 e)) d := by
  have hsum : multiReduction (F := Ideal) .add [2] S3x6144 (mulf (extf .f32 x bitsLt_bf16_f32 : FVec Ideal S3x6144x5120 .f32) (extf .f32 x bitsLt_bf16_f32))
      0x00000000#32 reduces_S3x6144x5120_S3x6144 (.inl rfl) rfl (ix2 b s) = ∑ e : Fin 5120, x (ix3 b s e) * x (ix3 b s e) := by
    refine (Ideal.multiReduction_add_single _ _ reduces_S3x6144x5120_S3x6144 _ _ (ix2 b s)).trans ?_
    refine Finset.sum_congr rfl fun e _ => ?_
    refine (congrArg _ (lift_x b s e)).trans ?_
    exact congrArg₂ (fun a b : EReal => a * b) rfl rfl
  have hb : ∀ y : FVec Ideal S3x6144x1 .f32, broadcastTo S3x6144x5120 y broadcasts_S3x6144x1_S3x6144x5120 (ix3 b s d) = y (ix3 b s (0 : Fin 1)) := fun y =>
    broadcastTo_apply _ _ _ _ fun ax => match ax with | ⟨0, _⟩ => rfl | ⟨1, _⟩ => rfl | ⟨2, _⟩ => rfl
  have hg1 : shapeCast S1x1x5120 g shapeCasts_S5120_S1x1x5120 (ix3 (0 : Fin 1) (0 : Fin 1) d) = g (ix1 d) := by
    refine shapeCast_apply _ _ _ _ ?_
    rw [Shape.rowMajor_val_three, Shape.rowMajor_val_one]
    show d.val = (0 * 1 + 0) * 5120 + d.val
    omega
  have hg : broadcastTo S3x6144x5120 (shapeCast S1x1x5120 g shapeCasts_S5120_S1x1x5120) broadcasts_S1x1x5120_S3x6144x5120 (ix3 b s d) = g (ix1 d) :=
    (broadcastTo_apply _ _ _ (ix3 (0 : Fin 1) (0 : Fin 1) d) fun ax => match ax with | ⟨0, _⟩ => rfl | ⟨1, _⟩ => rfl | ⟨2, _⟩ => rfl).trans hg1
  unfold k0_pay5 normed
  refine congrArg₂ (fun a b : EReal => a * b) (congrArg₂ (fun a b : EReal => a * b) rfl ((hb _).trans ?_)) hg
  refine congrArg Ideal.rsqrt ?_
  refine congrArg (fun z : EReal => z * Ideal.ofBits .f32 0x394CCCCD#32 + Ideal.ofBits .f32 0x358637BD#32) ?_
  exact (cast_x _ b s).trans hsum

theorem rowScale_at (x : Vec Ideal S3x6144x5120 .bf16) (g : Vec Ideal S5120 .f32) (b : Fin 3) (s : Fin 6144) :
    k0_pay6 (F := Ideal) x g (ix3 b s (0 : Fin 1)) = rowScale fun d : Fin 5120 => k0_pay5 (F := Ideal) x g (ix3 b s d) := by
  unfold k0_pay6 rowScale
  refine (scale_x _ _ b s (fun k => powers_x b s k)).trans ?_
  exact congrArg scale (amax_x _ b s)

theorem rowCode_at (x : Vec Ideal S3x6144x5120 .bf16) (g : Vec Ideal S5120 .f32) (b : Fin 3) (s : Fin 6144) (d : Fin 5120) :
    k0_pay9 (F := Ideal) (k0_pay7 x g) k0_pay8 (ix3 b s d) = code (fun d : Fin 5120 => k0_pay5 (F := Ideal) x g (ix3 b s d)) d := by
  refine Eq.trans ?_ (codes_x (k0_pay5 x g) (k0_pay6 x g) b s (rowScale_at x g b s) d)
  unfold k0_pay9 k0_pay7 k0_pay8
  rfl

theorem rowScale_out (sc : FVec Ideal S3x6144x1 .f32) (b : Fin 3) (s : Fin 6144) :
    k0_pay10 (F := Ideal) sc (ix2 b s) = sc (ix3 b s (0 : Fin 1)) := by
  unfold k0_pay10
  exact uncast_x sc b s

theorem product_at (sc : FVec Ideal S3x6144x1 .f32) (v41 v42 : FVec Ideal S3x6144x5120 .f32) (w : Vec Ideal S5120x7168 .fp8e4m3) (ws : Vec Ideal S7168 .f32)
    (b : Fin 3) (s : Fin 6144) (k : Fin 7168) :
    k0_pay11 (F := Ideal) sc v41 v42 w ws (ix3 b s k)
      = (∑ e : Fin 5120, k0_pay9 (F := Ideal) v41 v42 (ix3 b s e) * w (ix2 e k)) * sc (ix3 b s (0 : Fin 1)) * ws (ix1 k) := by
  have hr : b.val * 6144 + s.val < 18432 := by omega
  have h0 : ∀ y : FVec Ideal S3x6144x5120 .fp8e4m3, ∀ e : Fin 5120,
      shapeCast S18432x5120 y shapeCasts_S3x6144x5120_S18432x5120 (ix2 (⟨b.val * 6144 + s.val, hr⟩ : Fin 18432) e) = y (ix3 b s e) := by
    intro y e
    refine shapeCast_apply _ _ _ _ ?_
    rw [Shape.rowMajor_val_three, Shape.rowMajor_val_two]
    rfl
  have h1 : ∀ (x : FVec Ideal S18432x5120 .fp8e4m3) (w : FVec Ideal S5120x7168 .fp8e4m3),
      matmul dot_S18432x5120_S5120x7168_S18432x7168_1_0_0_1_n_n none x w (constant S18432x7168 .f32 0x00000000#32) (ix2 (⟨b.val * 6144 + s.val, hr⟩ : Fin 18432) k)
        = ∑ e : Fin 5120, x (ix2 (⟨b.val * 6144 + s.val, hr⟩ : Fin 18432) e) * w (ix2 e k) := by
    intro x w
    refine (Ideal.matmul_plain_apply (M := 18432) (K := 5120) (N := 7168) none x w (constant S18432x7168 .f32 0x00000000#32) (⟨b.val * 6144 + s.val, hr⟩ : Fin 18432) k).trans ?_
    refine (congrArg (fun a : EReal => a + ∑ e : Fin 5120, x (ix2 (⟨b.val * 6144 + s.val, hr⟩ : Fin 18432) e) * w (ix2 e k)) (Ideal.ofBits_zero_f32 : Ideal.ofBits .f32 0x00000000#32 = 0)).trans ?_
    exact zero_add _
  have h2 : ∀ y : FVec Ideal S18432x7168 .f32, shapeCast S3x6144x7168 y shapeCasts_S18432x7168_S3x6144x7168 (ix3 b s k) = y (ix2 (⟨b.val * 6144 + s.val, hr⟩ : Fin 18432) k) := by
    intro y
    refine shapeCast_apply _ _ _ _ ?_
    rw [Shape.rowMajor_val_three, Shape.rowMajor_val_two]
    rfl
  have h3 : ∀ y : FVec Ideal S3x6144x1 .f32, broadcastTo S3x6144x7168 y broadcasts_S3x6144x1_S3x6144x7168 (ix3 b s k) = y (ix3 b s (0 : Fin 1)) := fun y =>
    broadcastTo_apply _ _ _ _ fun ax => match ax with | ⟨0, _⟩ => rfl | ⟨1, _⟩ => rfl | ⟨2, _⟩ => rfl
  have h4 : shapeCast S1x1x7168 ws shapeCasts_S7168_S1x1x7168 (ix3 (0 : Fin 1) (0 : Fin 1) k) = ws (ix1 k) := by
    refine shapeCast_apply _ _ _ _ ?_
    rw [Shape.rowMajor_val_three, Shape.rowMajor_val_one]
    show k.val = (0 * 1 + 0) * 7168 + k.val
    omega
  have h5 : broadcastTo S3x6144x7168 (shapeCast S1x1x7168 ws shapeCasts_S7168_S1x1x7168) broadcasts_S1x1x7168_S3x6144x7168 (ix3 b s k) = ws (ix1 k) :=
    (broadcastTo_apply _ _ _ (ix3 (0 : Fin 1) (0 : Fin 1) k) fun ax => match ax with | ⟨0, _⟩ => rfl | ⟨1, _⟩ => rfl | ⟨2, _⟩ => rfl).trans h4
  unfold k0_pay11
  refine congrArg₂ (fun a b : EReal => a * b) (congrArg₂ (fun a b : EReal => a * b) ?_ ?_) h5
  · refine (h2 _).trans ((h1 _ w).trans ?_)
    exact Finset.sum_congr rfl fun e _ => congrArg (fun a : EReal => a * w (ix2 e k)) (h0 _ e)
  · exact (h3 _).trans ((cast_x _ b s).trans (rowScale_out sc b s))

theorem heads_q (y : FVec Ideal S3x6144x7168 .f32) (b : Fin 3) (s : Fin 6144) (h : Fin 40) (d : Fin 128) :
    shapeCast S3x6144x40x128 (extractStridedSlice S3x6144x5120 ![0, 0, 0] y slices_S3x6144x7168_o0_0_0_S3x6144x5120) shapeCasts_S3x6144x5120_S3x6144x40x128 (ix4 b s h d)
      = y (ix3 b s (⟨128 * (h.val) + d.val, by omega⟩ : Fin 7168)) := by
  refine (shapeCast_apply _ _ (ix4 b s h d) (ix3 b s (⟨128 * h.val + d.val, by omega⟩ : Fin 5120)) ?_).trans ?_
  · rw [Shape.rowMajor_val_three, Shape.rowMajor_val_four]
    show (b.val * 6144 + s.val) * 5120 + (128 * h.val + d.val) = ((b.val * 6144 + s.val) * 40 + h.val) * 128 + d.val
    omega
  · refine extractStridedSlice_apply _ _ _ _ _ fun a => ?_
    match a with
    | ⟨0, _⟩ => show b.val = 0 + b.val; omega
    | ⟨1, _⟩ => show s.val = 0 + s.val; omega
    | ⟨2, _⟩ => show 128 * (h.val) + d.val = 0 + (128 * h.val + d.val); omega

theorem heads_k (y : FVec Ideal S3x6144x7168 .f32) (b : Fin 3) (s : Fin 6144) (h : Fin 8) (d : Fin 128) :
    shapeCast S3x6144x8x128 (extractStridedSlice S3x6144x1024 ![0, 0, 5120] y slices_S3x6144x7168_o0_0_5120_S3x6144x1024) shapeCasts_S3x6144x1024_S3x6144x8x128 (ix4 b s h d)
      = y (ix3 b s (⟨128 * (40 + h.val) + d.val, by omega⟩ : Fin 7168)) := by
  refine (shapeCast_apply _ _ (ix4 b s h d) (ix3 b s (⟨128 * h.val + d.val, by omega⟩ : Fin 1024)) ?_).trans ?_
  · rw [Shape.rowMajor_val_three, Shape.rowMajor_val_four]
    show (b.val * 6144 + s.val) * 1024 + (128 * h.val + d.val) = ((b.val * 6144 + s.val) * 8 + h.val) * 128 + d.val
    omega
  · refine extractStridedSlice_apply _ _ _ _ _ fun a => ?_
    match a with
    | ⟨0, _⟩ => show b.val = 0 + b.val; omega
    | ⟨1, _⟩ => show s.val = 0 + s.val; omega
    | ⟨2, _⟩ => show 128 * (40 + h.val) + d.val = 5120 + (128 * h.val + d.val); omega

theorem heads_v (y : FVec Ideal S3x6144x7168 .f32) (b : Fin 3) (s : Fin 6144) (h : Fin 8) (d : Fin 128) :
    shapeCast S3x6144x8x128 (extractStridedSlice S3x6144x1024 ![0, 0, 6144] y slices_S3x6144x7168_o0_0_6144_S3x6144x1024) shapeCasts_S3x6144x1024_S3x6144x8x128 (ix4 b s h d)
      = y (ix3 b s (⟨128 * (48 + h.val) + d.val, by omega⟩ : Fin 7168)) := by
  refine (shapeCast_apply _ _ (ix4 b s h d) (ix3 b s (⟨128 * h.val + d.val, by omega⟩ : Fin 1024)) ?_).trans ?_
  · rw [Shape.rowMajor_val_three, Shape.rowMajor_val_four]
    show (b.val * 6144 + s.val) * 1024 + (128 * h.val + d.val) = ((b.val * 6144 + s.val) * 8 + h.val) * 128 + d.val
    omega
  · refine extractStridedSlice_apply _ _ _ _ _ fun a => ?_
    match a with
    | ⟨0, _⟩ => show b.val = 0 + b.val; omega
    | ⟨1, _⟩ => show s.val = 0 + s.val; omega
    | ⟨2, _⟩ => show 128 * (48 + h.val) + d.val = 6144 + (128 * h.val + d.val); omega

theorem angle_at (p : Vec Ideal S3x6144 .i32) (f : Vec Ideal S64 .f32) (b : Fin 3) (s : Fin 6144) (j : Fin 64) :
    k0_pay14 (F := Ideal) p f (ix4 b s (0 : Fin 1) j) = (((p (ix2 b s)).toInt : ℝ) : EReal) * f (ix1 j) := by
  have h1 : ∀ y : FVec Ideal S3x6144 .f32, shapeCast S3x6144x1x1 y shapeCasts_S3x6144_S3x6144x1x1 (ix4 b s (0 : Fin 1) (0 : Fin 1)) = y (ix2 b s) := by
    intro y
    refine shapeCast_apply _ _ _ _ ?_
    rw [Shape.rowMajor_val_two, Shape.rowMajor_val_four]
    show b.val * 6144 + s.val = ((b.val * 6144 + s.val) * 1 + 0) * 1 + 0
    omega
  have h2 : ∀ y : FVec Ideal S3x6144x1x1 .f32, broadcastTo S3x6144x1x64 y broadcasts_S3x6144x1x1_S3x6144x1x64 (ix4 b s (0 : Fin 1) j) = y (ix4 b s (0 : Fin 1) (0 : Fin 1)) := fun y =>
    broadcastTo_apply _ _ _ _ fun ax => match ax with | ⟨0, _⟩ => rfl | ⟨1, _⟩ => rfl | ⟨2, _⟩ => rfl | ⟨3, _⟩ => rfl
  have h3 : ∀ y : FVec Ideal S64 .f32, shapeCast S1x1x1x64 y shapeCasts_S64_S1x1x1x64 (ix4 (0 : Fin 1) (0 : Fin 1) (0 : Fin 1) j) = y (ix1 j) := by
    intro y
    refine shapeCast_apply _ _ _ _ ?_
    rw [Shape.rowMajor_val_one, Shape.rowMajor_val_four]
    show j.val = ((0 * 1 + 0) * 1 + 0) * 64 + j.val
    omega
  have h4 : ∀ y : FVec Ideal S1x1x1x64 .f32, broadcastTo S3x6144x1x64 y broadcasts_S1x1x1x64_S3x6144x1x64 (ix4 b s (0 : Fin 1) j) = y (ix4 (0 : Fin 1) (0 : Fin 1) (0 : Fin 1) j) := fun y =>
    broadcastTo_apply _ _ _ _ fun ax => match ax with | ⟨0, _⟩ => rfl | ⟨1, _⟩ => rfl | ⟨2, _⟩ => rfl | ⟨3, _⟩ => rfl
  unfold k0_pay14
  exact congrArg₂ (fun a b : EReal => a * b) ((h2 _).trans (h1 _)) ((h4 _).trans ((h3 _).trans (shapeCast_apply _ _ (ix1 j) (ix1 j) rfl)))

theorem cos_at (p : Vec Ideal S3x6144 .i32) (f : Vec Ideal S64 .f32) (b : Fin 3) (s : Fin 6144) (j : Fin 64) :
    k0_pay15 (F := Ideal) p f (ix4 b s (0 : Fin 1) j) = Ideal.cos ((((p (ix2 b s)).toInt : ℝ) : EReal) * f (ix1 j)) := by
  unfold k0_pay15
  exact congrArg Ideal.cos (angle_at p f b s j)

theorem sin_at (p : Vec Ideal S3x6144 .i32) (f : Vec Ideal S64 .f32) (b : Fin 3) (s : Fin 6144) (j : Fin 64) :
    k0_pay16 (F := Ideal) p f (ix4 b s (0 : Fin 1) j) = Ideal.sin ((((p (ix2 b s)).toInt : ℝ) : EReal) * f (ix1 j)) := by
  unfold k0_pay16
  exact congrArg Ideal.sin (angle_at p f b s j)

theorem sub_as_add (p q c s : EReal) : p * c - q * s = p * c + q * -s := by rw [sub_eq_add_neg, mul_neg]

/-- The rotation as the reference writes it: two halves, side by side. -/
def turn40 (y : FVec Ideal S3x6144x40x128 .f32) (c w : FVec Ideal S3x6144x1x64 .f32) : FVec Ideal S3x6144x40x128 .f32 :=
  concatenate S3x6144x40x128 3
    [⟨S3x6144x40x64, subf (mulf (extractStridedSlice S3x6144x40x64 ![0, 0, 0, 0] y slices_S3x6144x40x128_o0_0_0_0_S3x6144x40x64) (broadcastTo S3x6144x40x64 c broadcasts_S3x6144x1x64_S3x6144x40x64))
        (mulf (extractStridedSlice S3x6144x40x64 ![0, 0, 0, 64] y slices_S3x6144x40x128_o0_0_0_64_S3x6144x40x64) (broadcastTo S3x6144x40x64 w broadcasts_S3x6144x1x64_S3x6144x40x64))⟩,
     ⟨S3x6144x40x64, addf (mulf (extractStridedSlice S3x6144x40x64 ![0, 0, 0, 64] y slices_S3x6144x40x128_o0_0_0_64_S3x6144x40x64) (broadcastTo S3x6144x40x64 c broadcasts_S3x6144x1x64_S3x6144x40x64))
        (mulf (extractStridedSlice S3x6144x40x64 ![0, 0, 0, 0] y slices_S3x6144x40x128_o0_0_0_0_S3x6144x40x64) (broadcastTo S3x6144x40x64 w broadcasts_S3x6144x1x64_S3x6144x40x64))⟩]
    concatenates_S3x6144x40x64_S3x6144x40x64_S3x6144x40x128_d3

theorem lowHalf40 (y : FVec Ideal S3x6144x40x128 .f32) (b : Fin 3) (s : Fin 6144) (h : Fin 40) (j : Fin 64) :
    extractStridedSlice S3x6144x40x64 ![0, 0, 0, 0] y slices_S3x6144x40x128_o0_0_0_0_S3x6144x40x64 (ix4 b s h j) = y (ix4 b s h (⟨j.val, by omega⟩ : Fin 128)) := by
  refine extractStridedSlice_apply _ _ _ _ _ fun a => ?_
  match a with
  | ⟨0, _⟩ => show b.val = 0 + b.val; omega
  | ⟨1, _⟩ => show s.val = 0 + s.val; omega
  | ⟨2, _⟩ => show h.val = 0 + h.val; omega
  | ⟨3, _⟩ => show j.val = 0 + j.val; omega

theorem highHalf40 (y : FVec Ideal S3x6144x40x128 .f32) (b : Fin 3) (s : Fin 6144) (h : Fin 40) (j : Fin 64) :
    extractStridedSlice S3x6144x40x64 ![0, 0, 0, 64] y slices_S3x6144x40x128_o0_0_0_64_S3x6144x40x64 (ix4 b s h j) = y (ix4 b s h (⟨j.val + 64, by omega⟩ : Fin 128)) := by
  refine extractStridedSlice_apply _ _ _ _ _ fun a => ?_
  match a with
  | ⟨0, _⟩ => show b.val = 0 + b.val; omega
  | ⟨1, _⟩ => show s.val = 0 + s.val; omega
  | ⟨2, _⟩ => show h.val = 0 + h.val; omega
  | ⟨3, _⟩ => show j.val + 64 = 64 + j.val; omega

theorem overHeads40 (c : FVec Ideal S3x6144x1x64 .f32) (b : Fin 3) (s : Fin 6144) (h : Fin 40) (j : Fin 64) :
    broadcastTo S3x6144x40x64 c broadcasts_S3x6144x1x64_S3x6144x40x64 (ix4 b s h j) = c (ix4 b s (0 : Fin 1) j) :=
  broadcastTo_apply _ _ _ _ fun ax => match ax with | ⟨0, _⟩ => rfl | ⟨1, _⟩ => rfl | ⟨2, _⟩ => rfl | ⟨3, _⟩ => rfl

theorem turn40_low (y : FVec Ideal S3x6144x40x128 .f32) (c w : FVec Ideal S3x6144x1x64 .f32) (b : Fin 3) (s : Fin 6144) (h : Fin 40) (d : Fin 128) (hd : d.val < 64) :
    turn40 y c w (ix4 b s h d) = y (ix4 b s h d) * c (ix4 b s (0 : Fin 1) (⟨d.val, hd⟩ : Fin 64))
      + y (ix4 b s h (⟨d.val + 64, by omega⟩ : Fin 128)) * -w (ix4 b s (0 : Fin 1) (⟨d.val, hd⟩ : Fin 64)) := by
  unfold turn40
  refine (concatenate_pair_apply_left (t := S3x6144x40x128) (s₁ := S3x6144x40x64) (s₂ := S3x6144x40x64) 3 _ _ _ _ rfl (ix4 b s h (⟨d.val, hd⟩ : Fin 64))
    (fun a => match a with | ⟨0, _⟩ => rfl | ⟨1, _⟩ => rfl | ⟨2, _⟩ => rfl | ⟨3, _⟩ => rfl)).trans ?_
  refine Eq.trans ?_ (sub_as_add _ _ _ _)
  exact congrArg₂ (fun a b : EReal => a - b)
    (congrArg₂ (fun a b : EReal => a * b) (lowHalf40 y b s h _) (overHeads40 c b s h _))
    (congrArg₂ (fun a b : EReal => a * b) (highHalf40 y b s h _) (overHeads40 w b s h _))

theorem turn40_high (y : FVec Ideal S3x6144x40x128 .f32) (c w : FVec Ideal S3x6144x1x64 .f32) (b : Fin 3) (s : Fin 6144) (h : Fin 40) (d : Fin 128) (hd : ¬ d.val < 64) :
    turn40 y c w (ix4 b s h d) = y (ix4 b s h d) * c (ix4 b s (0 : Fin 1) (⟨d.val - 64, by omega⟩ : Fin 64))
      + y (ix4 b s h (⟨d.val - 64, by omega⟩ : Fin 128)) * w (ix4 b s (0 : Fin 1) (⟨d.val - 64, by omega⟩ : Fin 64)) := by
  unfold turn40
  refine (concatenate_pair_apply_right (t := S3x6144x40x128) (s₁ := S3x6144x40x64) (s₂ := S3x6144x40x64) 3 _ _ _ _ rfl rfl (ix4 b s h (⟨d.val - 64, by omega⟩ : Fin 64))
    (fun a ha => match a with | ⟨0, _⟩ => rfl | ⟨1, _⟩ => rfl | ⟨2, _⟩ => rfl | ⟨3, _⟩ => absurd rfl ha) (by show d.val - 64 + 64 = d.val; omega)).trans ?_
  have e : (⟨d.val - 64 + 64, by omega⟩ : Fin 128) = d := Fin.ext (by show d.val - 64 + 64 = d.val; omega)
  have hh := highHalf40 y b s h (⟨d.val - 64, by omega⟩ : Fin 64)
  rw [e] at hh
  exact congrArg₂ (fun a b : EReal => a + b)
    (congrArg₂ (fun a b : EReal => a * b) hh (overHeads40 c b s h _))
    (congrArg₂ (fun a b : EReal => a * b) (lowHalf40 y b s h _) (overHeads40 w b s h _))

/-- The rotation as the reference writes it: two halves, side by side. -/
def turn8 (y : FVec Ideal S3x6144x8x128 .f32) (c w : FVec Ideal S3x6144x1x64 .f32) : FVec Ideal S3x6144x8x128 .f32 :=
  concatenate S3x6144x8x128 3
    [⟨S3x6144x8x64, subf (mulf (extractStridedSlice S3x6144x8x64 ![0, 0, 0, 0] y slices_S3x6144x8x128_o0_0_0_0_S3x6144x8x64) (broadcastTo S3x6144x8x64 c broadcasts_S3x6144x1x64_S3x6144x8x64))
        (mulf (extractStridedSlice S3x6144x8x64 ![0, 0, 0, 64] y slices_S3x6144x8x128_o0_0_0_64_S3x6144x8x64) (broadcastTo S3x6144x8x64 w broadcasts_S3x6144x1x64_S3x6144x8x64))⟩,
     ⟨S3x6144x8x64, addf (mulf (extractStridedSlice S3x6144x8x64 ![0, 0, 0, 64] y slices_S3x6144x8x128_o0_0_0_64_S3x6144x8x64) (broadcastTo S3x6144x8x64 c broadcasts_S3x6144x1x64_S3x6144x8x64))
        (mulf (extractStridedSlice S3x6144x8x64 ![0, 0, 0, 0] y slices_S3x6144x8x128_o0_0_0_0_S3x6144x8x64) (broadcastTo S3x6144x8x64 w broadcasts_S3x6144x1x64_S3x6144x8x64))⟩]
    concatenates_S3x6144x8x64_S3x6144x8x64_S3x6144x8x128_d3

theorem lowHalf8 (y : FVec Ideal S3x6144x8x128 .f32) (b : Fin 3) (s : Fin 6144) (h : Fin 8) (j : Fin 64) :
    extractStridedSlice S3x6144x8x64 ![0, 0, 0, 0] y slices_S3x6144x8x128_o0_0_0_0_S3x6144x8x64 (ix4 b s h j) = y (ix4 b s h (⟨j.val, by omega⟩ : Fin 128)) := by
  refine extractStridedSlice_apply _ _ _ _ _ fun a => ?_
  match a with
  | ⟨0, _⟩ => show b.val = 0 + b.val; omega
  | ⟨1, _⟩ => show s.val = 0 + s.val; omega
  | ⟨2, _⟩ => show h.val = 0 + h.val; omega
  | ⟨3, _⟩ => show j.val = 0 + j.val; omega

theorem highHalf8 (y : FVec Ideal S3x6144x8x128 .f32) (b : Fin 3) (s : Fin 6144) (h : Fin 8) (j : Fin 64) :
    extractStridedSlice S3x6144x8x64 ![0, 0, 0, 64] y slices_S3x6144x8x128_o0_0_0_64_S3x6144x8x64 (ix4 b s h j) = y (ix4 b s h (⟨j.val + 64, by omega⟩ : Fin 128)) := by
  refine extractStridedSlice_apply _ _ _ _ _ fun a => ?_
  match a with
  | ⟨0, _⟩ => show b.val = 0 + b.val; omega
  | ⟨1, _⟩ => show s.val = 0 + s.val; omega
  | ⟨2, _⟩ => show h.val = 0 + h.val; omega
  | ⟨3, _⟩ => show j.val + 64 = 64 + j.val; omega

theorem overHeads8 (c : FVec Ideal S3x6144x1x64 .f32) (b : Fin 3) (s : Fin 6144) (h : Fin 8) (j : Fin 64) :
    broadcastTo S3x6144x8x64 c broadcasts_S3x6144x1x64_S3x6144x8x64 (ix4 b s h j) = c (ix4 b s (0 : Fin 1) j) :=
  broadcastTo_apply _ _ _ _ fun ax => match ax with | ⟨0, _⟩ => rfl | ⟨1, _⟩ => rfl | ⟨2, _⟩ => rfl | ⟨3, _⟩ => rfl

theorem turn8_low (y : FVec Ideal S3x6144x8x128 .f32) (c w : FVec Ideal S3x6144x1x64 .f32) (b : Fin 3) (s : Fin 6144) (h : Fin 8) (d : Fin 128) (hd : d.val < 64) :
    turn8 y c w (ix4 b s h d) = y (ix4 b s h d) * c (ix4 b s (0 : Fin 1) (⟨d.val, hd⟩ : Fin 64))
      + y (ix4 b s h (⟨d.val + 64, by omega⟩ : Fin 128)) * -w (ix4 b s (0 : Fin 1) (⟨d.val, hd⟩ : Fin 64)) := by
  unfold turn8
  refine (concatenate_pair_apply_left (t := S3x6144x8x128) (s₁ := S3x6144x8x64) (s₂ := S3x6144x8x64) 3 _ _ _ _ rfl (ix4 b s h (⟨d.val, hd⟩ : Fin 64))
    (fun a => match a with | ⟨0, _⟩ => rfl | ⟨1, _⟩ => rfl | ⟨2, _⟩ => rfl | ⟨3, _⟩ => rfl)).trans ?_
  refine Eq.trans ?_ (sub_as_add _ _ _ _)
  exact congrArg₂ (fun a b : EReal => a - b)
    (congrArg₂ (fun a b : EReal => a * b) (lowHalf8 y b s h _) (overHeads8 c b s h _))
    (congrArg₂ (fun a b : EReal => a * b) (highHalf8 y b s h _) (overHeads8 w b s h _))

theorem turn8_high (y : FVec Ideal S3x6144x8x128 .f32) (c w : FVec Ideal S3x6144x1x64 .f32) (b : Fin 3) (s : Fin 6144) (h : Fin 8) (d : Fin 128) (hd : ¬ d.val < 64) :
    turn8 y c w (ix4 b s h d) = y (ix4 b s h d) * c (ix4 b s (0 : Fin 1) (⟨d.val - 64, by omega⟩ : Fin 64))
      + y (ix4 b s h (⟨d.val - 64, by omega⟩ : Fin 128)) * w (ix4 b s (0 : Fin 1) (⟨d.val - 64, by omega⟩ : Fin 64)) := by
  unfold turn8
  refine (concatenate_pair_apply_right (t := S3x6144x8x128) (s₁ := S3x6144x8x64) (s₂ := S3x6144x8x64) 3 _ _ _ _ rfl rfl (ix4 b s h (⟨d.val - 64, by omega⟩ : Fin 64))
    (fun a ha => match a with | ⟨0, _⟩ => rfl | ⟨1, _⟩ => rfl | ⟨2, _⟩ => rfl | ⟨3, _⟩ => absurd rfl ha) (by show d.val - 64 + 64 = d.val; omega)).trans ?_
  have e : (⟨d.val - 64 + 64, by omega⟩ : Fin 128) = d := Fin.ext (by show d.val - 64 + 64 = d.val; omega)
  have hh := highHalf8 y b s h (⟨d.val - 64, by omega⟩ : Fin 64)
  rw [e] at hh
  exact congrArg₂ (fun a b : EReal => a + b)
    (congrArg₂ (fun a b : EReal => a * b) hh (overHeads8 c b s h _))
    (congrArg₂ (fun a b : EReal => a * b) (lowHalf8 y b s h _) (overHeads8 w b s h _))

theorem scale40_at (y : FVec Ideal S3x6144x40x128 .f32) (a : FVec Ideal S3x6144x40x1 .f32) (b : Fin 3) (s : Fin 6144) (h : Fin 40)
    (ha : a (ix4 b s h (0 : Fin 1)) = amax fun d : Fin 128 => y (ix4 b s h d)) :
    k0_pay20 (F := Ideal) a k0_pay19 (ix4 b s h (0 : Fin 1)) = rowScale fun d : Fin 128 => y (ix4 b s h d) := by
  unfold k0_pay20 k0_pay19 rowScale
  refine (scale_h40 _ _ b s h (fun k => powers_h40 b s h k)).trans ?_
  exact congrArg scale ha

theorem code40_at (y : FVec Ideal S3x6144x40x128 .f32) (a : FVec Ideal S3x6144x40x1 .f32) (b : Fin 3) (s : Fin 6144) (h : Fin 40)
    (ha : a (ix4 b s h (0 : Fin 1)) = amax fun d : Fin 128 => y (ix4 b s h d)) (d : Fin 128) :
    k0_pay21 (F := Ideal) y a k0_pay19 (ix4 b s h d) = code (fun d : Fin 128 => y (ix4 b s h d)) d := by
  refine Eq.trans ?_ (codes_h40 y (k0_pay20 a k0_pay19) b s h (scale40_at y a b s h ha) d)
  unfold k0_pay21
  rfl

theorem scale40_out (a : FVec Ideal S3x6144x40x1 .f32) (v : FVec Ideal S3x6144x40x252 .f32) (b : Fin 3) (s : Fin 6144) (h : Fin 40) :
    k0_pay2 (F := Ideal) (k0_pay22 a v) (ix3 b h s) = k0_pay20 (F := Ideal) a v (ix4 b s h (0 : Fin 1)) := by
  unfold k0_pay2 k0_pay22
  exact (transpose_ix3_021_apply _ _ b h s).trans (uncast_h40 _ b s h)

theorem scale8_at (y : FVec Ideal S3x6144x8x128 .f32) (a : FVec Ideal S3x6144x8x1 .f32) (b : Fin 3) (s : Fin 6144) (h : Fin 8)
    (ha : a (ix4 b s h (0 : Fin 1)) = amax fun d : Fin 128 => y (ix4 b s h d)) :
    k0_pay27 (F := Ideal) a k0_pay25 (cmpf (F := Ideal) .ogt k0_pay25 (broadcastTo S3x6144x8x252 a broadcasts_S3x6144x8x1_S3x6144x8x252)) (Scalar.ofBits .f32 0x7E800000#32) (ix4 b s h (0 : Fin 1))
      = rowScale fun d : Fin 128 => y (ix4 b s h d) := by
  unfold k0_pay27 k0_pay25 rowScale
  refine (scale_h8 _ _ b s h (fun k => powers_h8 b s h k)).trans ?_
  exact congrArg scale ha

theorem code8_at (y : FVec Ideal S3x6144x8x128 .f32) (a : FVec Ideal S3x6144x8x1 .f32) (b : Fin 3) (s : Fin 6144) (h : Fin 8)
    (ha : a (ix4 b s h (0 : Fin 1)) = amax fun d : Fin 128 => y (ix4 b s h d)) (d : Fin 128) :
    k0_pay28 (F := Ideal) y a k0_pay25 (cmpf (F := Ideal) .ogt k0_pay25 (broadcastTo S3x6144x8x252 a broadcasts_S3x6144x8x1_S3x6144x8x252)) (Scalar.ofBits .f32 0x7E800000#32) (ix4 b s h d)
      = code (fun d : Fin 128 => y (ix4 b s h d)) d := by
  refine Eq.trans ?_ (codes_h8 y _ b s h (scale8_at y a b s h ha) d)
  unfold k0_pay28
  rfl

theorem scale8_out (a : FVec Ideal S3x6144x8x1 .f32) (p : FVec Ideal S3x6144x8x252 .f32) (t : IVec S3x6144x8x252 1) (z : Ideal .f32) (b : Fin 3) (s : Fin 6144) (h : Fin 8) :
    k0_pay3 (F := Ideal) (k0_pay29 a p t z) (ix3 b h s) = k0_pay27 (F := Ideal) a p t z (ix4 b s h (0 : Fin 1)) := by
  unfold k0_pay3 k0_pay29
  exact (transpose_ix3_021_apply _ _ b h s).trans (uncast_h8 _ b s h)

theorem scaleV_at (y : FVec Ideal S3x6144x8x128 .f32) (b : Fin 3) (s : Fin 6144) (h : Fin 8) :
    k0_pay30 (F := Ideal) y (ix4 b s h (0 : Fin 1)) = rowScale fun d : Fin 128 => y (ix4 b s h d) := by
  unfold k0_pay30 rowScale
  refine (scale_h8 _ _ b s h (fun k => powers_h8 b s h k)).trans ?_
  exact congrArg scale (amax_h8 _ b s h)

theorem codeV_at (y : FVec Ideal S3x6144x8x128 .f32) (b : Fin 3) (s : Fin 6144) (h : Fin 8) (d : Fin 128) :
    k0_pay1 (F := Ideal) (Scalar.ofBits .f32 0x43E00000#32) (k0_pay31 y) (ix4 b s h d) = code (fun d : Fin 128 => y (ix4 b s h d)) d := by
  refine Eq.trans ?_ (codes_h8 y (k0_pay30 y) b s h (scaleV_at y b s h) d)
  unfold k0_pay1 k0_pay31
  rfl

theorem scaleV_out (a : FVec Ideal S3x6144x8x1 .f32) (b : Fin 3) (s : Fin 6144) (h : Fin 8) :
    k0_pay4 (F := Ideal) a (ix3 b h s) = a (ix4 b s h (0 : Fin 1)) := by
  unfold k0_pay4
  exact (transpose_ix3_021_apply _ _ b h s).trans (uncast_h8 _ b s h)

section
variable (x : Vec Ideal S3x6144x5120 .bf16) (g : Vec Ideal S5120 .f32) (w : Vec Ideal S5120x7168 .fp8e4m3) (ws : Vec Ideal S7168 .f32)
variable (p : Vec Ideal S3x6144 .i32) (f : Vec Ideal S64 .f32) (b : Fin 3) (s : Fin 6144)

theorem row_eq : (fun d : Fin 5120 => k0_pay5 (F := Ideal) x g (ix3 b s d)) = (insOf x g w ws p f).row b s :=
  funext fun d => normed_at x g b s d

theorem plain_eq (h : Fin 56) (d : Fin 128) :
    k0_pay11 (F := Ideal) (k0_pay6 x g) (k0_pay7 x g) k0_pay8 w ws (ix3 b s (⟨128 * h.val + d.val, by omega⟩ : Fin 7168)) = (insOf x g w ws p f).plain b s h d := by
  refine (product_at _ _ _ w ws b s _).trans ?_
  have e1 := row_eq x g w ws p f b s
  have e2 := rowScale_at x g b s
  rw [e1] at e2
  unfold Inputs.plain
  refine congrArg (fun z : EReal => z * ws (ix1 _)) ?_
  refine congrArg₂ (fun a b : EReal => a * b) ?_ e2
  unfold Inputs.acc
  refine Finset.sum_congr rfl fun e _ => ?_
  refine congrArg (fun z : EReal => z * w (ix2 e _)) ?_
  have e3 := rowCode_at x g b s e
  rw [e1] at e3
  exact e3

theorem rope_q (y : FVec Ideal S3x6144x40x128 .f32) (h : Fin 40) (hy : ∀ d : Fin 128, y (ix4 b s h d) = (insOf x g w ws p f).plain b s (⟨h.val, by omega⟩ : Fin 56) d) :
    (fun d : Fin 128 => turn40 y (k0_pay15 p f) (k0_pay16 p f) (ix4 b s h d)) = (insOf x g w ws p f).rope b s (⟨h.val, by omega⟩ : Fin 56) := by
  funext d
  unfold Inputs.rope
  by_cases hd : d.val < 64
  · rw [dif_pos hd]
    refine (turn40_low y _ _ b s h d hd).trans ?_
    rw [hy, hy, cos_at, sin_at]
    rfl
  · rw [dif_neg hd]
    refine (turn40_high y _ _ b s h d hd).trans ?_
    rw [hy, hy, cos_at, sin_at]
    rfl

theorem rope_k (y : FVec Ideal S3x6144x8x128 .f32) (h : Fin 8) (hy : ∀ d : Fin 128, y (ix4 b s h d) = (insOf x g w ws p f).plain b s (⟨40 + h.val, by omega⟩ : Fin 56) d) :
    (fun d : Fin 128 => turn8 y (k0_pay15 p f) (k0_pay16 p f) (ix4 b s h d)) = (insOf x g w ws p f).rope b s (⟨40 + h.val, by omega⟩ : Fin 56) := by
  funext d
  unfold Inputs.rope
  by_cases hd : d.val < 64
  · rw [dif_pos hd]
    refine (turn8_low y _ _ b s h d hd).trans ?_
    rw [hy, hy, cos_at, sin_at]
    rfl
  · rw [dif_neg hd]
    refine (turn8_high y _ _ b s h d hd).trans ?_
    rw [hy, hy, cos_at, sin_at]
    rfl

theorem q_turn : k0_pay17 (F := Ideal) (k0_pay6 x g) (k0_pay7 x g) k0_pay8 w ws p f
    = turn40 (shapeCast S3x6144x40x128 (extractStridedSlice S3x6144x5120 ![0, 0, 0] (k0_pay11 (k0_pay6 x g) (k0_pay7 x g) k0_pay8 w ws) slices_S3x6144x7168_o0_0_0_S3x6144x5120) shapeCasts_S3x6144x5120_S3x6144x40x128)
      (k0_pay15 p f) (k0_pay16 p f) := by
  unfold k0_pay17 turn40
  rfl

theorem q_rope (h : Fin 40) : (fun d : Fin 128 => k0_pay17 (F := Ideal) (k0_pay6 x g) (k0_pay7 x g) k0_pay8 w ws p f (ix4 b s h d))
    = (insOf x g w ws p f).rope b s (⟨h.val, by omega⟩ : Fin 56) := by
  rw [q_turn]
  exact rope_q x g w ws p f b s _ h fun d => (heads_q _ b s h d).trans (plain_eq x g w ws p f b s (⟨h.val, by omega⟩ : Fin 56) d)

theorem q_amax (h : Fin 40) : k0_pay18 (F := Ideal) (k0_pay6 x g) (k0_pay7 x g) k0_pay8 w ws p f (ix4 b s h (0 : Fin 1))
    = amax fun d : Fin 128 => k0_pay17 (F := Ideal) (k0_pay6 x g) (k0_pay7 x g) k0_pay8 w ws p f (ix4 b s h d) := by
  unfold k0_pay18
  exact amax_h40 _ b s h

theorem k_rope (h : Fin 8) : (fun d : Fin 128 => k0_pay23 (F := Ideal) (k0_pay12 (k0_pay6 x g) (k0_pay7 x g) k0_pay8 w ws) (k0_pay15 p f) (k0_pay16 p f) (ix4 b s h d))
    = (insOf x g w ws p f).rope b s (⟨40 + h.val, by omega⟩ : Fin 56) := by
  refine Eq.trans ?_ (rope_k x g w ws p f b s (k0_pay12 (k0_pay6 x g) (k0_pay7 x g) k0_pay8 w ws) h fun d => ?_)
  · unfold k0_pay23 turn8
    rfl
  · unfold k0_pay12
    exact (heads_k _ b s h d).trans (plain_eq x g w ws p f b s (⟨40 + h.val, by omega⟩ : Fin 56) d)

theorem k_amax (y : FVec Ideal S3x6144x8x128 .f32) (c z : FVec Ideal S3x6144x1x64 .f32) (h : Fin 8) : k0_pay24 (F := Ideal) y c z (ix4 b s h (0 : Fin 1))
    = amax fun d : Fin 128 => k0_pay23 (F := Ideal) y c z (ix4 b s h d) := by
  unfold k0_pay24
  exact amax_h8 _ b s h

theorem v_plain (h : Fin 8) : (fun d : Fin 128 => k0_pay13 (F := Ideal) (k0_pay6 x g) (k0_pay7 x g) k0_pay8 w ws (ix4 b s h d))
    = (insOf x g w ws p f).plain b s (⟨48 + h.val, by omega⟩ : Fin 56) := by
  funext d
  unfold k0_pay13
  exact (heads_v _ b s h d).trans (plain_eq x g w ws p f b s (⟨48 + h.val, by omega⟩ : Fin 56) d)
end

end Cert.ReferenceIdeal.Gen
-- ==== Proof.Setup.lean ====
/- The memrefs that the pipeline hands to the kernel's body at a point (`ms0_W`: window W's current staging buffer; `scM0_J`: the
   kernel's scratch buffer J), and the frame kit's invariant with the scratch buffers as memrefs. -/
module

public import proofs.«01_k».proof.Proof.Gen.KernelIdeal.Frame
public import proofs.«01_k».proof.Proof.Gen.KernelIdeal.Loops
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S1x256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x6144 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x40x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x40x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x8x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x5120 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x6144 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x512 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Block.lean ====
/- What the kernel computes on one block of 32 rows, as functions of the loaded arrays: the scale's exponent bits, the scale, the
   codes, one head's values with and without the rotation, and the four heads' codes side by side. -/
module

public import proofs.«01_k».proof.Proof.Setup

@[expose] public section

set_option maxRecDepth 16384

noncomputable section

namespace Cert.KernelIdeal.Gen

open Idealize.ShloMosaic Idealize.ShloMosaic.TcCoe

variable {F : FTy → Type} [FloatOps F]

/-- The number of exponent fields whose powers `a` reaches, less the zero field, shifted to the exponent's place. -/
def countOf (a : FVec F S32x1 .f32) : IVec S32x1 32 :=
  subi (shapeCast S32x1 (multiReductionI .add [1] S32
    (select (cmpf .oge (broadcastTo S32x253 a broadcasts_S32x1_S32x253)
      (broadcastTo S32x253 (bitcastToFloat (F := F) .f32 (muli (iota .tc S1x253 32 [1] iota_S1x253_d1_w32) (broadcast S1x253 8388608#32)))
        broadcasts_S1x253_S32x253))
      (broadcast S32x253 8388608#32) (broadcast S32x253 0#32)) 0#32 reduces_S32x253_S32 rfl) shapeCasts_S32_S32x1)
    (broadcast S32x1 8388608#32)

/-- The exponent field, as a word, of the scale's power of two below `a` (the field 0 read as 126). -/
def bitsOf (a : FVec F S32x1 .f32) : IVec S32x1 32 :=
  select (cmpi .eq (countOf a) (broadcast S32x1 0#32)) (broadcast S32x1 1056964608#32) (countOf a)

/-- The largest magnitude of each row over 448. -/
def amaxOf (t : FVec F S32x128 .f32) : FVec F S32x1 .f32 :=
  mulf (shapeCast S32x1 (multiReduction .maximumf [1] S32 (absf t) 0xFF800000#32 reduces_S32x128_S32 (.inl rfl) rfl) shapeCasts_S32_S32x1)
    (broadcast S32x1 (Scalar.ofBits .f32 0x3B124925#32))

/-- The largest magnitude of each row of 5120 over 448. -/
def amaxWide (t : FVec F S32x5120 .f32) : FVec F S32x1 .f32 :=
  mulf (shapeCast S32x1 (multiReduction .maximumf [1] S32 (absf t) 0xFF800000#32 reduces_S32x5120_S32 (.inl rfl) rfl) shapeCasts_S32_S32x1)
    (broadcast S32x1 (Scalar.ofBits .f32 0x3B124925#32))

/-- The scale: the next power of two. -/
def scaleOf (b : IVec S32x1 32) : FVec F S32x1 .f32 :=
  bitcastToFloat (F := F) .f32 (addi b (broadcast S32x1 8388608#32))

/-- The scale's reciprocal. -/
def invOf (b : IVec S32x1 32) : FVec F S32x1 .f32 :=
  bitcastToFloat (F := F) .f32 (subi (broadcast S32x1 2122317824#32) b)

/-- The codes of a block of 128 columns. -/
def codesOf (t : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf t (broadcastTo S32x128 (invOf (F := F) (bitsOf (amaxOf t))) broadcasts_S32x1_S32x128)))) bitsLt_fp8e4m3_f32

/-- The codes of a block of 5120 columns. -/
def codesWide (t : FVec F S32x5120 .f32) : FVec F S32x5120 .fp8e4m3 :=
  truncf .fp8e4m3 (minimumf (broadcast S32x5120 (Scalar.ofBits .f32 0x43E00000#32))
    (maximumf (broadcast S32x5120 (Scalar.ofBits .f32 0xC3E00000#32))
      (mulf t (broadcastTo S32x5120 (invOf (F := F) (bitsOf (amaxWide t))) broadcasts_S32x1_S32x5120)))) bitsLt_fp8e4m3_f32

/-- One head's values without the rotation: the product, times the row's scale, times the column's scale. -/
def headPlain (a xs : Vec F S32x128 .f32) (w : Vec F S1x128 .f32) : FVec F S32x128 .f32 :=
  mulf (mulf a xs) (broadcastTo S32x128 (shapeCast S1x128 w shapeCasts_S1x128_S1x128) broadcasts_S1x128_S32x128)

/-- One head's values, rotated. -/
def headRope (a xs : Vec F S32x128 .f32) (w : Vec F S1x128 .f32) (c s : Vec F S32x128 .f32) : FVec F S32x128 .f32 :=
  addf (mulf (headPlain a xs w) c) (mulf (dynamicRotate 1 64#32 none (headPlain a xs w) rotates_S32x128_d1) s)

/-- Four heads' codes side by side. -/
def stackOf (c0 c1 c2 c3 : FVec F S32x128 .fp8e4m3) : FVec F S1x32x4x128 .fp8e4m3 :=
  shapeCast S1x32x4x128 (concatenate S32x4x128 1
    [⟨S32x1x128, shapeCast S32x1x128 c0 shapeCasts_S32x128_S32x1x128⟩, ⟨S32x1x128, shapeCast S32x1x128 c1 shapeCasts_S32x128_S32x1x128⟩,
     ⟨S32x1x128, shapeCast S32x1x128 c2 shapeCasts_S32x128_S32x1x128⟩, ⟨S32x1x128, shapeCast S32x1x128 c3 shapeCasts_S32x128_S32x1x128⟩]
    concatenates_S32x1x128_S32x1x128_S32x1x128_S32x1x128_S32x4x128_d1) shapeCasts_S32x4x128_S1x32x4x128

/-- A column of scales, as stored. -/
def scaleCol (t : FVec F S32x128 .f32) : FVec F S32x1 .f32 :=
  shapeCast S32x1 (scaleOf (F := F) (bitsOf (amaxOf t))) shapeCasts_S32x1_S32x1

end Cert.KernelIdeal.Gen
-- ==== Proof.Elem.lean ====
/- The block functions of Block.lean read at an index, over the extended reals. -/
module

public import proofs.«01_k».proof.Proof.Block
public import proofs.«01_k».proof.Proof.Math
public import Idealize.ShloMosaic.Lib.KernelVsHost

@[expose] public section

set_option maxRecDepth 16384

noncomputable section

namespace Cert.KernelIdeal.Gen

open Idealize.ShloMosaic Idealize.ShloMosaic.TcCoe Idealize.ShloMosaic.ValueIdx Cert.Qkv

theorem fold_addi_ite {ι : Type} (p : ι → Prop) [DecidablePred p] (S : Finset ι) :
    S.fold IntOp.addi (0#32) (fun k => if p k then 8388608#32 else 0#32) = BitVec.ofNat 32 ((S.filter p).card * 8388608) := by
  classical
  induction S using Finset.induction_on with
  | empty => simp
  | insert a S ha ih =>
    rw [Finset.fold_insert ha, ih, Finset.filter_insert]
    by_cases h : p a
    · rw [if_pos h, if_pos h, Finset.card_insert_of_notMem (by simp [ha]), add_mul, one_mul, Nat.add_comm, BitVec.ofNat_add]; rfl
    · rw [if_neg h, if_neg h]; exact BitVec.zero_add _

theorem lift253 (r : Fin 32) (k : Fin 253) : reduces_S32x253_S32.lift (ix1 r) k = ix2 r k := by
  funext a; match a with | ⟨0, _⟩ => rfl | ⟨1, _⟩ => rfl
theorem lift128 (r : Fin 32) (k : Fin 128) : reduces_S32x128_S32.lift (ix1 r) k = ix2 r k := by
  funext a; match a with | ⟨0, _⟩ => rfl | ⟨1, _⟩ => rfl
theorem lift5120 (r : Fin 32) (k : Fin 5120) : reduces_S32x5120_S32.lift (ix1 r) k = ix2 r k := by
  funext a; match a with | ⟨0, _⟩ => rfl | ⟨1, _⟩ => rfl

/-- The fields the kernel counts: the zero field, reached by every nonnegative value, and `field`'s. -/
theorem count_fields (a : EReal) (h : 0 ≤ a) :
    (Finset.univ.filter fun k : Fin 253 => Ideal.ofBits .f32 (BitVec.ofNat 32 k.val * 8388608#32) ≤ a).card = field a + 1 := by
  have e : ∀ k : Fin 253, Ideal.ofBits .f32 (BitVec.ofNat 32 k.val * 8388608#32) ≤ a ↔ k.val < field a + 1 := by
    intro k
    have e1 : BitVec.ofNat 32 k.val * 8388608#32 = BitVec.ofNat 32 (k.val * 8388608) := by rw [BitVec.ofNat_mul]
    rw [e1]
    by_cases hk : k.val = 0
    · rw [hk]; simp only [Nat.zero_mul]; rw [ofBits_field_zero]; simp [h]
    · rw [ofBits_field _ (by omega) (by omega)]
      have := lt_field_iff a ⟨k.val - 1, by omega⟩
      have e2 : ((k.val - 1 : ℕ) : ℤ) - 126 = (k.val : ℤ) - 127 := by omega
      simp only [e2] at this
      rw [← this]; omega
  rw [Finset.filter_congr (fun k _ => e k)]
  have hle := field_le a
  have : (Finset.univ.filter fun k : Fin 253 => k.val < field a + 1) = Finset.univ.filter fun k : Fin 253 => k.val < field a + 1 := rfl
  rw [Fin.card_filter_val_lt]
  omega

theorem powers_apply (r : Fin 32) (k : Fin 253) :
    broadcastTo S32x253 (bitcastToFloat (F := Ideal) .f32 (muli (iota .tc S1x253 32 [1] iota_S1x253_d1_w32) (broadcast S1x253 8388608#32)))
      broadcasts_S1x253_S32x253 (ix2 r k) = Ideal.ofBits .f32 (BitVec.ofNat 32 k.val * 8388608#32) := by
  rw [broadcastTo_1b_ab_apply]
  have e4 := iota_single_apply .tc S1x253 32 1 iota_S1x253_d1_w32 (ix2 (0 : Fin 1) k)
  show Ideal.ofBits .f32 ((iota .tc S1x253 32 [1] iota_S1x253_d1_w32 (ix2 (0 : Fin 1) k)) * 8388608#32) = _
  rw [e4]

theorem reached_apply (a : FVec Ideal S32x1 .f32) (r : Fin 32) (k : Fin 253) (p : FVec Ideal S32x253 .f32) :
    select (cmpf (F := Ideal) .oge (broadcastTo S32x253 a broadcasts_S32x1_S32x253) p)
      (broadcast S32x253 8388608#32) (broadcast S32x253 0#32) (ix2 r k)
      = if p (ix2 r k) ≤ a (ix2 r 0) then 8388608#32 else 0#32 := by
  have e1 : broadcastTo S32x253 a broadcasts_S32x1_S32x253 (ix2 r k) = a (ix2 r 0) :=
    broadcastTo_apply _ _ _ _ fun ax => match ax with | ⟨0, _⟩ => rfl | ⟨1, _⟩ => rfl
  rw [select_apply, cmpf_apply, e1]
  generalize p (ix2 r k) = q
  generalize a (ix2 r 0) = b
  by_cases h : q ≤ b
  · have : FloatOps.cmpf (F := Ideal) (φ := .f32) .oge b q = 1#1 := by
      show BitVec.ofBool (decide (q ≤ b)) = _; rw [decide_eq_true h]; rfl
    rw [this, if_pos h]; rfl
  · have : FloatOps.cmpf (F := Ideal) (φ := .f32) .oge b q = 0#1 := by
      show BitVec.ofBool (decide (q ≤ b)) = _; rw [decide_eq_false h]; rfl
    rw [this, if_neg h]; rfl

theorem reached2_apply (a : FVec Ideal S32x1 .f32) (r : Fin 32) (k : Fin 253) :
    select (cmpf (F := Ideal) .oge (broadcastTo S32x253 a broadcasts_S32x1_S32x253)
      (broadcastTo S32x253 (bitcastToFloat (F := Ideal) .f32 (muli (iota .tc S1x253 32 [1] iota_S1x253_d1_w32) (broadcast S1x253 8388608#32)))
        broadcasts_S1x253_S32x253)) (broadcast S32x253 8388608#32) (broadcast S32x253 0#32) (ix2 r k)
      = if Ideal.ofBits .f32 (BitVec.ofNat 32 k.val * 8388608#32) ≤ a (ix2 r 0) then 8388608#32 else 0#32 := by
  rw [reached_apply, powers_apply]

theorem count_fold (a : FVec Ideal S32x1 .f32) (r : Fin 32) (h : 0 ≤ a (ix2 r 0)) :
    (Finset.univ : Finset (Fin 253)).fold IntOp.addi (0#32)
      (fun k => if Ideal.ofBits .f32 (BitVec.ofNat 32 k.val * 8388608#32) ≤ a (ix2 r 0) then 8388608#32 else 0#32)
      = BitVec.ofNat 32 ((field (a (ix2 r 0)) + 1) * 8388608) := by
  rw [fold_addi_ite, count_fields _ h]

theorem count_red (a : FVec Ideal S32x1 .f32) (r : Fin 32) :
    multiReductionI .add [1] S32 (select (cmpf (F := Ideal) .oge (broadcastTo S32x253 a broadcasts_S32x1_S32x253)
      (broadcastTo S32x253 (bitcastToFloat (F := Ideal) .f32 (muli (iota .tc S1x253 32 [1] iota_S1x253_d1_w32) (broadcast S1x253 8388608#32)))
        broadcasts_S1x253_S32x253)) (broadcast S32x253 8388608#32) (broadcast S32x253 0#32)) 0#32 reduces_S32x253_S32 rfl (ix1 r)
      = (Finset.univ : Finset (Fin 253)).fold IntOp.addi (0#32)
      (fun k => if Ideal.ofBits .f32 (BitVec.ofNat 32 k.val * 8388608#32) ≤ a (ix2 r 0) then 8388608#32 else 0#32) := by
  have e : ∀ x : IVec S32x253 32, multiReductionI .add [1] S32 x 0#32 reduces_S32x253_S32 rfl (ix1 r)
      = (Finset.univ : Finset (Fin 253)).fold IntOp.addi (0#32) (fun k => x (ix2 r k)) := by
    intro x
    refine (multiReductionI_eq_fold .add x 0#32 reduces_S32x253_S32 rfl (ix1 r)).trans ?_
    refine (Shape.Reduces.fold_filter_drop_single reduces_S32x253_S32 IntOp.addi _ x (ix1 r)).trans ?_
    exact Finset.fold_congr fun k _ => congrArg x (lift253 r k)
  refine (e _).trans ?_
  exact Finset.fold_congr fun k _ => reached2_apply a r k

theorem countOf_apply (a : FVec Ideal S32x1 .f32) (r : Fin 32) (h : 0 ≤ a (ix2 r 0)) :
    countOf (F := Ideal) a (ix2 r (0 : Fin 1)) = BitVec.ofNat 32 (field (a (ix2 r 0)) * 8388608) := by
  have hc : ∀ x : IVec S32 32, subi (shapeCast S32x1 x shapeCasts_S32_S32x1) (broadcast S32x1 8388608#32) (ix2 r (0 : Fin 1)) = x (ix1 r) - 8388608#32 := by
    intro x
    rw [← shapeCast_a_a1_apply x shapeCasts_S32_S32x1 r 0]; rfl
  unfold countOf
  refine (hc _).trans ?_
  rw [count_red, count_fold a r h, add_mul, one_mul, BitVec.ofNat_add, BitVec.add_sub_cancel]

theorem bitsOf_apply (a : FVec Ideal S32x1 .f32) (r : Fin 32) (h : 0 ≤ a (ix2 r 0)) :
    bitsOf (F := Ideal) a (ix2 r (0 : Fin 1)) = word (a (ix2 r 0)) := by
  have hs : bitsOf (F := Ideal) a (ix2 r (0 : Fin 1))
      = Scalar.select (Scalar.cmpi .eq (countOf (F := Ideal) a (ix2 r (0 : Fin 1))) 0#32) 1056964608#32 (countOf (F := Ideal) a (ix2 r (0 : Fin 1))) := rfl
  rw [hs, countOf_apply a r h]
  unfold word
  have hle := field_le (a (ix2 r 0))
  generalize field (a (ix2 r 0)) = n at hle ⊢
  by_cases hz : n = 0
  · subst hz; rfl
  · rw [if_neg hz]
    have hne : BitVec.ofNat 32 (n * 8388608) ≠ 0#32 := by
      intro h0
      have h1 := congrArg BitVec.toNat h0
      rw [BitVec.toNat_ofNat, BitVec.toNat_ofNat, Nat.mod_eq_of_lt (by show n * 8388608 < 4294967296; omega)] at h1
      have h2 : n * 8388608 = 0 := h1
      omega
    have h0 : Scalar.cmpi .eq (BitVec.ofNat 32 (n * 8388608)) 0#32 = 0#1 := by
      show BitVec.ofBool (decide (_ = _)) = _
      rw [decide_eq_false hne]; rfl
    rw [h0]; rfl

theorem amaxOf_apply (t : FVec Ideal S32x128 .f32) (r : Fin 32) :
    amaxOf (F := Ideal) t (ix2 r (0 : Fin 1)) = amax fun d : Fin 128 => t (ix2 r d) := by
  unfold amaxOf amax
  rw [mulf_apply, shapeCast_a_a1_apply]
  refine congrArg (· * _) ?_
  refine (Ideal.multiReduction_maximumf_single _ _ _ _ _ _).trans ?_
  show Finset.fold max (Ideal.ofBits .f32 0xFF800000#32) (fun d => (absf t) (reduces_S32x128_S32.lift (ix1 r) d)) _ = _
  rw [show Ideal.ofBits .f32 0xFF800000#32 = ⊥ by simp [Ideal.ofBits, Ideal.ieee]]
  exact Finset.fold_congr fun d _ => congrArg (absf t) (lift128 r d)

theorem amaxWide_apply (t : FVec Ideal S32x5120 .f32) (r : Fin 32) :
    amaxWide (F := Ideal) t (ix2 r (0 : Fin 1)) = amax fun d : Fin 5120 => t (ix2 r d) := by
  have h1 : multiReduction (F := Ideal) .maximumf [1] S32 (absf t) 0xFF800000#32 reduces_S32x5120_S32 (.inl rfl) rfl (ix1 r)
      = (Finset.univ : Finset (Fin 5120)).fold max (⊥ : EReal) fun d => max (t (ix2 r d)) (-(t (ix2 r d))) := by
    refine (Ideal.multiReduction_maximumf_single (absf t) _ reduces_S32x5120_S32 _ _ (ix1 r)).trans ?_
    rw [show (FloatOps.ofBits (F := Ideal) .f32 0xFF800000#32) = (⊥ : EReal) by simp [Ideal.ofBits, Ideal.ieee]]
    exact Finset.fold_congr fun d _ => congrArg (absf t) (lift5120 r d)
  unfold amaxWide amax
  rw [mulf_apply, shapeCast_a_a1_apply]
  exact congrArg₂ (fun a b : EReal => a * b) h1 rfl

theorem codesOf_apply (t : FVec Ideal S32x128 .f32) (r : Fin 32) (d : Fin 128) :
    codesOf (F := Ideal) t (ix2 r d) = code (fun e : Fin 128 => t (ix2 r e)) d := by
  unfold codesOf code
  have e1 : broadcastTo S32x128 (invOf (F := Ideal) (bitsOf (amaxOf t))) broadcasts_S32x1_S32x128 (ix2 r d)
      = invOf (F := Ideal) (bitsOf (amaxOf t)) (ix2 r (0 : Fin 1)) :=
    broadcastTo_apply _ _ _ _ fun ax => match ax with | ⟨0, _⟩ => rfl | ⟨1, _⟩ => rfl
  have e2 : invOf (F := Ideal) (bitsOf (amaxOf t)) (ix2 r (0 : Fin 1)) = recip (amax fun e : Fin 128 => t (ix2 r e)) := by
    rw [← recip_word, ← amaxOf_apply, ← bitsOf_apply _ r (by rw [amaxOf_apply]; exact amax_nonneg (by norm_num) _)]
    rfl
  show min _ (max _ (t (ix2 r d) * broadcastTo S32x128 (invOf (F := Ideal) (bitsOf (amaxOf t))) broadcasts_S32x1_S32x128 (ix2 r d))) = _
  rw [e1, e2]; rfl

theorem codesWide_apply (t : FVec Ideal S32x5120 .f32) (r : Fin 32) (d : Fin 5120) :
    codesWide (F := Ideal) t (ix2 r d) = code (fun e : Fin 5120 => t (ix2 r e)) d := by
  unfold codesWide code
  have e1 : broadcastTo S32x5120 (invOf (F := Ideal) (bitsOf (amaxWide t))) broadcasts_S32x1_S32x5120 (ix2 r d)
      = invOf (F := Ideal) (bitsOf (amaxWide t)) (ix2 r (0 : Fin 1)) :=
    broadcastTo_apply _ _ _ _ fun ax => match ax with | ⟨0, _⟩ => rfl | ⟨1, _⟩ => rfl
  have e2 : invOf (F := Ideal) (bitsOf (amaxWide t)) (ix2 r (0 : Fin 1)) = recip (amax fun e : Fin 5120 => t (ix2 r e)) := by
    rw [← recip_word, ← amaxWide_apply, ← bitsOf_apply _ r (by rw [amaxWide_apply]; exact amax_nonneg (by norm_num) _)]
    rfl
  show min _ (max _ (t (ix2 r d) * broadcastTo S32x5120 (invOf (F := Ideal) (bitsOf (amaxWide t))) broadcasts_S32x1_S32x5120 (ix2 r d))) = _
  rw [e1, e2]; rfl

theorem scaleOf_apply (t : FVec Ideal S32x128 .f32) (r : Fin 32) :
    scaleOf (F := Ideal) (bitsOf (amaxOf t)) (ix2 r (0 : Fin 1)) = rowScale (fun e : Fin 128 => t (ix2 r e)) := by
  unfold rowScale
  rw [← scale_word, ← amaxOf_apply, ← bitsOf_apply _ r (by rw [amaxOf_apply]; exact amax_nonneg (by norm_num) _)]
  rfl

theorem scaleWide_apply (t : FVec Ideal S32x5120 .f32) (r : Fin 32) :
    scaleOf (F := Ideal) (bitsOf (amaxWide t)) (ix2 r (0 : Fin 1)) = rowScale (fun e : Fin 5120 => t (ix2 r e)) := by
  unfold rowScale
  rw [← scale_word, ← amaxWide_apply, ← bitsOf_apply _ r (by rw [amaxWide_apply]; exact amax_nonneg (by norm_num) _)]
  rfl

theorem scaleCol_apply (t : FVec Ideal S32x128 .f32) (r : Fin 32) :
    scaleCol (F := Ideal) t (ix2 r (0 : Fin 1)) = rowScale (fun e : Fin 128 => t (ix2 r e)) := by
  unfold scaleCol
  rw [shapeCast_apply _ _ (ix2 r (0 : Fin 1)) (ix2 r (0 : Fin 1)) rfl, scaleOf_apply]

theorem headPlain_apply (a xs : Vec Ideal S32x128 .f32) (w : Vec Ideal S1x128 .f32) (r : Fin 32) (d : Fin 128) :
    headPlain (F := Ideal) a xs w (ix2 r d) = a (ix2 r d) * xs (ix2 r d) * w (ix2 (0 : Fin 1) d) := by
  unfold headPlain
  rw [mulf_apply, mulf_apply, broadcastTo_1b_ab_apply, shapeCast_apply _ _ (ix2 (0 : Fin 1) d) (ix2 (0 : Fin 1) d) rfl]

theorem headRope_apply (a xs : Vec Ideal S32x128 .f32) (w : Vec Ideal S1x128 .f32) (c s : Vec Ideal S32x128 .f32) (r : Fin 32) (d : Fin 128) :
    headRope (F := Ideal) a xs w c s (ix2 r d)
      = headPlain (F := Ideal) a xs w (ix2 r d) * c (ix2 r d)
        + headPlain (F := Ideal) a xs w (ix2 r (⟨(d.val + 64) % 128, Nat.mod_lt _ (by norm_num)⟩ : Fin 128)) * s (ix2 r d) := by
  unfold headRope
  rw [addf_apply, mulf_apply, mulf_apply]
  rw [dynamicRotate_apply (1 : Fin 2) 64#32 _ rotates_S32x128_d1 (ix2 r d) (ix2 r (⟨(d.val + 64) % 128, Nat.mod_lt _ (by norm_num)⟩ : Fin 128))
    (fun b => match b with | ⟨0, _⟩ => rfl | ⟨1, _⟩ => (show (d.val + 64) % 128 = (d.val + 128 - 64 % 128) % 128 by omega))]

theorem stackOf_apply (cs : Fin 4 → FVec Ideal S32x128 .fp8e4m3) (r : Fin 32) (h : Fin 4) (d : Fin 128) :
    stackOf (F := Ideal) (cs 0) (cs 1) (cs 2) (cs 3) (ix4 (0 : Fin 1) r h d) = cs h (ix2 r d) := by
  unfold stackOf
  rw [shapeCast_abc_1abc_apply]
  have hc : ∀ x : FVec Ideal S32x128 .fp8e4m3, shapeCast S32x1x128 x shapeCasts_S32x128_S32x1x128 (ix3 r (0 : Fin 1) d) = x (ix2 r d) := by
    intro x
    exact shapeCast_apply _ _ _ _ (by rw [Shape.rowMajor_val_two, Shape.rowMajor_val_three]; show r.val * 128 + d.val = (r.val * 1 + 0) * 128 + d.val; rw [Nat.mul_one, Nat.add_zero])
  rw [← hc (cs h)]
  refine concatenate_apply_piece (t := S32x4x128) 1 _ _ (ix3 r h d) h.val (by show h.val < 4; exact h.isLt) S32x1x128
    (shapeCast S32x1x128 (cs h) shapeCasts_S32x128_S32x1x128) ?_ rfl h.val ?_ (ix3 r (0 : Fin 1) d) ?_ ?_
  · match h with | ⟨0, _⟩ => rfl | ⟨1, _⟩ => rfl | ⟨2, _⟩ => rfl | ⟨3, _⟩ => rfl
  · match h with | ⟨0, _⟩ => rfl | ⟨1, _⟩ => rfl | ⟨2, _⟩ => rfl | ⟨3, _⟩ => rfl
  · intro b hb
    match b with | ⟨0, _⟩ => rfl | ⟨1, _⟩ => exact absurd rfl hb | ⟨2, _⟩ => rfl
  · rfl

/-- The normalised rows of a block. -/
theorem norm_apply (x : Vec Ideal S1x32x5120 .bf16) (g : Vec Ideal S1x5120 .f32) (r : Fin 32) (d : Fin 5120) :
    k0_pay8 (F := Ideal) x g (ix2 r d) = normed (fun e => x (ix3 (0 : Fin 1) r e)) (fun e => g (ix2 (0 : Fin 1) e)) d := by
  have hx : ∀ e : Fin 5120, (extf .f32 (shapeCast S32x5120 x shapeCasts_S1x32x5120_S32x5120) bitsLt_bf16_f32 : FVec Ideal S32x5120 .f32) (ix2 r e)
      = x (ix3 (0 : Fin 1) r e) := fun e => shapeCast_1ab_ab_apply x _ r e
  have hsum : multiReduction (F := Ideal) .add [1] S32 (mulf (extf .f32 (shapeCast S32x5120 x shapeCasts_S1x32x5120_S32x5120) bitsLt_bf16_f32)
      (extf .f32 (shapeCast S32x5120 x shapeCasts_S1x32x5120_S32x5120) bitsLt_bf16_f32)) 0x00000000#32 reduces_S32x5120_S32 (.inl rfl) rfl (ix1 r)
      = ∑ e : Fin 5120, x (ix3 (0 : Fin 1) r e) * x (ix3 (0 : Fin 1) r e) := by
    refine (Ideal.multiReduction_add_single _ _ reduces_S32x5120_S32 _ _ (ix1 r)).trans ?_
    refine Finset.sum_congr rfl fun e _ => ?_
    refine (congrArg _ (lift5120 r e)).trans ?_
    exact congrArg₂ (fun a b : EReal => a * b) (hx e) (hx e)
  have hb : ∀ y : FVec Ideal S32x1 .f32, broadcastTo S32x5120 y broadcasts_S32x1_S32x5120 (ix2 r d) = y (ix2 r (0 : Fin 1)) := fun y =>
    broadcastTo_apply _ _ _ _ fun ax => match ax with | ⟨0, _⟩ => rfl | ⟨1, _⟩ => rfl
  have hc : ∀ y : FVec Ideal S32 .f32, shapeCast S32x1 y shapeCasts_S32_S32x1 (ix2 r (0 : Fin 1)) = y (ix1 r) := fun y => shapeCast_a_a1_apply y _ r 0
  have hg : broadcastTo S32x5120 (shapeCast S1x5120 g shapeCasts_S1x5120_S1x5120) broadcasts_S1x5120_S32x5120 (ix2 r d) = g (ix2 (0 : Fin 1) d) :=
    (broadcastTo_1b_ab_apply _ _ _ _).trans (shapeCast_apply _ _ _ _ rfl)
  unfold k0_pay8 normed
  refine congrArg₂ (fun a b : EReal => a * b) (congrArg₂ (fun a b : EReal => a * b) (hx d) ((hb _).trans ?_)) hg
  refine congrArg Ideal.rsqrt ?_
  refine congrArg (fun z : EReal => z * Ideal.ofBits .f32 0x394CCCCD#32 + Ideal.ofBits .f32 0x358637BD#32) ?_
  exact (hc _).trans hsum

end Cert.KernelIdeal.Gen
-- ==== Proof.Steps.lean ====
/- From one trip of a row loop to the whole loop, and from a loaded block to the arrays it was loaded from. -/
module

public import proofs.«01_k».proof.Proof.Elem
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.ValueIdx Cert.Qkv

/-- Pieces collected trip after trip: what every trip's pieces satisfy, all of them satisfy. -/
theorem steps_all {α : Type} {N : ℕ} (P : ℕ → List α) (h0 : P 0 = []) (L : Fin N → List α) (hs : ∀ k : Fin N, P (k.val + 1) = L k ++ P k.val)
    (Q : α → Prop) (hL : ∀ k, ∀ p ∈ L k, Q p) : ∀ p ∈ P N, Q p := by
  have h : ∀ n, n ≤ N → ∀ p ∈ P n, Q p := by
    intro n
    induction n with
    | zero => intro _ p hp; rw [h0] at hp; exact absurd hp List.not_mem_nil
    | succ n ih =>
      intro hn p hp
      rw [hs ⟨n, hn⟩] at hp
      rcases List.mem_append.mp hp with hp | hp
      · exact hL _ p hp
      · exact ih (Nat.le_of_succ_le hn) p hp
  exact h N le_rfl

/-- Pieces collected trip after trip: each trip's pieces are among them. -/
theorem steps_mem {α : Type} {N : ℕ} (P : ℕ → List α) (L : Fin N → List α) (hs : ∀ k : Fin N, P (k.val + 1) = L k ++ P k.val)
    (k : Fin N) : ∀ p ∈ L k, p ∈ P N := by
  intro p hp
  have h : ∀ n, n ≤ N → k.val < n → p ∈ P n := by
    intro n
    induction n with
    | zero => intro _ hk; exact absurd hk (Nat.not_lt_zero _)
    | succ n ih =>
      intro hn hk
      rw [hs ⟨n, hn⟩]
      rcases Nat.lt_succ_iff_lt_or_eq.mp hk with h | h
      · exact List.mem_append_right _ (ih (Nat.le_of_succ_le hn) h)
      · refine List.mem_append_left _ ?_
        have : (⟨n, hn⟩ : Fin N) = k := Fin.ext h.symm
        rw [this]; exact hp
  exact h N le_rfl k.isLt

/-- Four consecutive heads of 128 of the rows' products, scaled by the row and by the column, unrotated. -/
def plainRow (A : S256x512.Idx → EReal) (XS : S256x128.Idx → EReal) (W : S1x7168.Idx → EReal) (n : Fin 14) (row : Fin 256) (i : Fin 4) (d : Fin 128) : EReal :=
  A (ix2 row (⟨128 * i.val + d.val, by omega⟩ : Fin 512)) * XS (ix2 row d) * W (ix2 (0 : Fin 1) (⟨512 * n.val + 128 * i.val + d.val, by omega⟩ : Fin 7168))

/-- The same, rotated. -/
def ropeRow (A : S256x512.Idx → EReal) (XS C S : S256x128.Idx → EReal) (W : S1x7168.Idx → EReal) (n : Fin 14) (row : Fin 256) (i : Fin 4) (d : Fin 128) : EReal :=
  plainRow A XS W n row i d * C (ix2 row d)
    + plainRow A XS W n row i (⟨(d.val + 64) % 128, Nat.mod_lt _ (by norm_num)⟩ : Fin 128) * S (ix2 row d)

variable {sig : RefSig} {κ : Kind} {sp : Space}

theorem load_acc (v : View sig κ sp S256x512 .f32) (f : v.ty.Contents (Elt Ideal)) {off : Fin 2 → ℕ} (inb : ∀ a, off a + S32x128.size a ≤ S256x512.size a)
    {k : ℕ} (hk : k < 8) (i : Fin 4) (h : off = ![32 * k, 128 * i.val]) (r : Fin 32) (d : Fin 128) :
    View.readAt (Elt Ideal) v (Rect.unit (s := S256x512) off S32x128.size inb).toLoadRect f (ix2 r d)
      = v.read (Elt Ideal) f (ix2 (⟨32 * k + r.val, by omega⟩ : Fin 256) (⟨128 * i.val + d.val, by omega⟩ : Fin 512)) := by
  subst h
  refine congrArg (v.read (Elt Ideal) f) ?_
  funext a
  refine Fin.ext ((ValueKit.rect_emb_unit_val _ _ _ _ a).trans ?_)
  match a with
  | ⟨0, _⟩ => rfl
  | ⟨1, _⟩ => rfl

theorem load_row (v : View sig κ sp S256x128 .f32) (f : v.ty.Contents (Elt Ideal)) {off : Fin 2 → ℕ} (inb : ∀ a, off a + S32x128.size a ≤ S256x128.size a)
    {k : ℕ} (hk : k < 8) (h : off = ![32 * k, 0]) (r : Fin 32) (d : Fin 128) :
    View.readAt (Elt Ideal) v (Rect.unit (s := S256x128) off S32x128.size inb).toLoadRect f (ix2 r d)
      = v.read (Elt Ideal) f (ix2 (⟨32 * k + r.val, by omega⟩ : Fin 256) d) := by
  subst h
  refine congrArg (v.read (Elt Ideal) f) ?_
  funext a
  refine Fin.ext ((ValueKit.rect_emb_unit_val _ _ _ _ a).trans ?_)
  match a with
  | ⟨0, _⟩ => rfl
  | ⟨1, _⟩ => exact Nat.zero_add _

theorem load_col (v : View sig κ sp S1x7168 .f32) (f : v.ty.Contents (Elt Ideal)) {off : Fin 2 → ℕ} (inb : ∀ a, off a + S1x128.size a ≤ S1x7168.size a)
    (n : Fin 14) (i : Fin 4) (h : off = ![0, 512 * n.val + 128 * i.val]) (d : Fin 128) :
    View.readAt (Elt Ideal) v (Rect.unit (s := S1x7168) off S1x128.size inb).toLoadRect f (ix2 (0 : Fin 1) d)
      = v.read (Elt Ideal) f (ix2 (0 : Fin 1) (⟨512 * n.val + 128 * i.val + d.val, by omega⟩ : Fin 7168)) := by
  subst h
  refine congrArg (v.read (Elt Ideal) f) ?_
  funext a
  refine Fin.ext ((ValueKit.rect_emb_unit_val _ _ _ _ a).trans ?_)
  match a with
  | ⟨0, _⟩ => rfl
  | ⟨1, _⟩ => rfl

theorem plain_load (v16 : View sig κ sp S256x512 .f32) (f16 : v16.ty.Contents (Elt Ideal)) (v19 : View sig κ sp S256x128 .f32) (f19 : v19.ty.Contents (Elt Ideal))
    (v5 : View sig κ sp S1x7168 .f32) (f5 : v5.ty.Contents (Elt Ideal)) {oA oR oW : Fin 2 → ℕ} (iA) (iR) (iW) {k : ℕ} (hk : k < 8) (n : Fin 14) (i : Fin 4)
    (hA : oA = ![32 * k, 128 * i.val]) (hR : oR = ![32 * k, 0]) (hW : oW = ![0, 512 * n.val + 128 * i.val]) (r : Fin 32) (d : Fin 128) :
    headPlain (F := Ideal) (View.readAt (Elt Ideal) v16 (Rect.unit (s := S256x512) oA S32x128.size iA).toLoadRect f16)
        (View.readAt (Elt Ideal) v19 (Rect.unit (s := S256x128) oR S32x128.size iR).toLoadRect f19)
        (View.readAt (Elt Ideal) v5 (Rect.unit (s := S1x7168) oW S1x128.size iW).toLoadRect f5) (ix2 r d)
      = plainRow (v16.read (Elt Ideal) f16) (v19.read (Elt Ideal) f19) (v5.read (Elt Ideal) f5) n (⟨32 * k + r.val, by omega⟩ : Fin 256) i d := by
  refine (headPlain_apply _ _ _ r d).trans ?_
  exact congrArg₂ (fun a b : EReal => a * b) (congrArg₂ (fun a b : EReal => a * b) (load_acc v16 f16 iA hk i hA r d) (load_row v19 f19 iR hk hR r d))
    (load_col v5 f5 iW n i hW d)

theorem rope_load (v16 : View sig κ sp S256x512 .f32) (f16 : v16.ty.Contents (Elt Ideal)) (v19 : View sig κ sp S256x128 .f32) (f19 : v19.ty.Contents (Elt Ideal))
    (v5 : View sig κ sp S1x7168 .f32) (f5 : v5.ty.Contents (Elt Ideal))
    (v17 : View sig κ sp S256x128 .f32) (f17 : v17.ty.Contents (Elt Ideal)) (v18 : View sig κ sp S256x128 .f32) (f18 : v18.ty.Contents (Elt Ideal))
    {oA oR oW : Fin 2 → ℕ} (iA) (iR) (iW) {k : ℕ} (hk : k < 8) (n : Fin 14) (i : Fin 4)
    (hA : oA = ![32 * k, 128 * i.val]) (hR : oR = ![32 * k, 0]) (hW : oW = ![0, 512 * n.val + 128 * i.val]) (r : Fin 32) (d : Fin 128) :
    headRope (F := Ideal) (View.readAt (Elt Ideal) v16 (Rect.unit (s := S256x512) oA S32x128.size iA).toLoadRect f16)
        (View.readAt (Elt Ideal) v19 (Rect.unit (s := S256x128) oR S32x128.size iR).toLoadRect f19)
        (View.readAt (Elt Ideal) v5 (Rect.unit (s := S1x7168) oW S1x128.size iW).toLoadRect f5)
        (View.readAt (Elt Ideal) v17 (Rect.unit (s := S256x128) oR S32x128.size iR).toLoadRect f17)
        (View.readAt (Elt Ideal) v18 (Rect.unit (s := S256x128) oR S32x128.size iR).toLoadRect f18) (ix2 r d)
      = ropeRow (v16.read (Elt Ideal) f16) (v19.read (Elt Ideal) f19) (v17.read (Elt Ideal) f17) (v18.read (Elt Ideal) f18) (v5.read (Elt Ideal) f5) n
          (⟨32 * k + r.val, by omega⟩ : Fin 256) i d := by
  refine (headRope_apply _ _ _ _ _ r d).trans ?_
  exact congrArg₂ (fun a b : EReal => a + b)
    (congrArg₂ (fun a b : EReal => a * b) (plain_load v16 f16 v19 f19 v5 f5 iA iR iW hk n i hA hR hW r d) (load_row v17 f17 iR hk hR r d))
    (congrArg₂ (fun a b : EReal => a * b) (plain_load v16 f16 v19 f19 v5 f5 iA iR iW hk n i hA hR hW r _) (load_row v18 f18 iR hk hR r d))

/-- What one trip stores of the codes is the block of the whole array of codes it is stored at. -/
theorem piece_codes {H : ℕ} (G : (⟨4, ![1, 256, H, 128]⟩ : Shape).Idx → Elt Ideal .fp8e4m3) (T : Fin 256 → Fin 4 → Fin 128 → EReal) {k : ℕ} (hk : k < 8) (m : ℕ) (hm : 4 * m + 4 ≤ H)
    {off : Fin 4 → ℕ} (inb : ∀ a, off a + S1x32x4x128.size a ≤ (⟨4, ![1, 256, H, 128]⟩ : Shape).size a) (hoff : off = ![0, 32 * k, 4 * m, 0])
    (t0 t1 t2 t3 : FVec Ideal S32x128 .f32)
    (h0 : ∀ r d, t0 (ix2 r d) = T (⟨32 * k + r.val, by omega⟩ : Fin 256) 0 d) (h1 : ∀ r d, t1 (ix2 r d) = T (⟨32 * k + r.val, by omega⟩ : Fin 256) 1 d)
    (h2 : ∀ r d, t2 (ix2 r d) = T (⟨32 * k + r.val, by omega⟩ : Fin 256) 2 d) (h3 : ∀ r d, t3 (ix2 r d) = T (⟨32 * k + r.val, by omega⟩ : Fin 256) 3 d)
    (hG : ∀ row i d, G (ix4 (0 : Fin 1) row (⟨4 * m + i.val, by omega⟩ : Fin H) d) = code (T row i) d) :
    ∀ x, stackOf (F := Ideal) (codesOf t0) (codesOf t1) (codesOf t2) (codesOf t3) x
      = G ((Rect.unit (s := (⟨4, ![1, 256, H, 128]⟩ : Shape)) off S1x32x4x128.size inb).emb x) := by
  subst hoff
  intro x
  obtain ⟨r, i, d, rfl⟩ : ∃ (r : Fin 32) (i : Fin 4) (d : Fin 128), x = ix4 (0 : Fin 1) r i d :=
    ⟨x 1, x 2, x 3, by funext a; match a with | ⟨0, _⟩ => exact Subsingleton.elim (α := Fin 1) _ _ | ⟨1, _⟩ => rfl | ⟨2, _⟩ => rfl | ⟨3, _⟩ => rfl⟩
  have he : (Rect.unit (s := (⟨4, ![1, 256, H, 128]⟩ : Shape)) ![0, 32 * k, 4 * m, 0] S1x32x4x128.size inb).emb (ix4 (0 : Fin 1) r i d)
      = ix4 (0 : Fin 1) (⟨32 * k + r.val, by omega⟩ : Fin 256) (⟨4 * m + i.val, by omega⟩ : Fin H) d := by
    funext a
    refine Fin.ext ((ValueKit.rect_emb_unit_val _ _ _ _ a).trans ?_)
    match a with
    | ⟨0, _⟩ => rfl
    | ⟨1, _⟩ => rfl
    | ⟨2, _⟩ => rfl
    | ⟨3, _⟩ => exact Nat.zero_add _
  refine (stackOf_apply (fun j => codesOf (![t0, t1, t2, t3] j)) r i d).trans ?_
  refine Eq.trans ?_ ((hG _ i d).symm.trans (congrArg G he.symm))
  refine (codesOf_apply _ r d).trans ?_
  refine congrArg (fun f => code f d) ?_
  funext e
  match i with
  | ⟨0, _⟩ => exact h0 r e
  | ⟨1, _⟩ => exact h1 r e
  | ⟨2, _⟩ => exact h2 r e
  | ⟨3, _⟩ => exact h3 r e

/-- One trip's block of codes covers its rows of its four heads. -/
theorem mem_codes {H : ℕ} {k : ℕ} (m : ℕ) (hm : 4 * m + 4 ≤ H)
    {off : Fin 4 → ℕ} (inb : ∀ a, off a + S1x32x4x128.size a ≤ (⟨4, ![1, 256, H, 128]⟩ : Shape).size a) (hoff : off = ![0, 32 * k, 4 * m, 0])
    (row : Fin 256) (hr : row.val / 32 = k) (i : Fin 4) (d : Fin 128) :
    ix4 (0 : Fin 1) row (⟨4 * m + i.val, by omega⟩ : Fin H) d ∈ (Rect.unit (s := (⟨4, ![1, 256, H, 128]⟩ : Shape)) off S1x32x4x128.size inb).set := by
  subst hoff
  refine Rect.mem_set_unit.mpr ?_
  intro a
  match a with
  | ⟨0, _⟩ => exact ⟨Nat.le_refl 0, Nat.zero_lt_one⟩
  | ⟨1, _⟩ => exact ⟨(show 32 * k ≤ row.val by omega), (show row.val < 32 * k + 32 by omega)⟩
  | ⟨2, _⟩ => exact ⟨(show 4 * m ≤ 4 * m + i.val by omega), (show 4 * m + i.val < 4 * m + 4 by omega)⟩
  | ⟨3, _⟩ => exact ⟨Nat.zero_le _, (show d.val < 0 + 128 by omega)⟩

/-- What one trip stores of the scales is the column of the whole array of scales it is stored at. -/
theorem piece_scale (G : S256x128.Idx → EReal) (t : FVec Ideal S32x128 .f32) (T : Fin 256 → Fin 128 → EReal) {k : ℕ} (hk : k < 8) (j : ℕ) (hj : j < 128)
    {off : Fin 2 → ℕ} (inb : ∀ a, off a + S32x1.size a ≤ S256x128.size a) (hoff : off = ![32 * k, j])
    (h : ∀ r d, t (ix2 r d) = T (⟨32 * k + r.val, by omega⟩ : Fin 256) d)
    (hG : ∀ row, G (ix2 row (⟨j, hj⟩ : Fin 128)) = rowScale (T row)) :
    ∀ x, scaleCol (F := Ideal) t x = G ((Rect.unit (s := S256x128) off S32x1.size inb).emb x) := by
  subst hoff
  intro x
  obtain ⟨r, rfl⟩ : ∃ (r : Fin 32), x = ix2 r (0 : Fin 1) :=
    ⟨x 0, by funext a; match a with | ⟨0, _⟩ => rfl | ⟨1, _⟩ => exact Subsingleton.elim (α := Fin 1) _ _⟩
  have he : (Rect.unit (s := S256x128) ![32 * k, j] S32x1.size inb).emb (ix2 r (0 : Fin 1))
      = ix2 (⟨32 * k + r.val, by omega⟩ : Fin 256) (⟨j, hj⟩ : Fin 128) := by
    funext a
    refine Fin.ext ((ValueKit.rect_emb_unit_val _ _ _ _ a).trans ?_)
    match a with
    | ⟨0, _⟩ => rfl
    | ⟨1, _⟩ => rfl
  refine (scaleCol_apply t r).trans ?_
  refine Eq.trans ?_ ((hG _).symm.trans (congrArg G he.symm))
  exact congrArg rowScale (funext fun e => h r e)

/-- One trip's column of scales covers its rows. -/
theorem mem_scale {k : ℕ} (j : ℕ) (hj : j < 128) {off : Fin 2 → ℕ} (inb : ∀ a, off a + S32x1.size a ≤ S256x128.size a) (hoff : off = ![32 * k, j])
    (row : Fin 256) (hr : row.val / 32 = k) :
    ix2 row (⟨j, hj⟩ : Fin 128) ∈ (Rect.unit (s := S256x128) off S32x1.size inb).set := by
  subst hoff
  refine Rect.mem_set_unit.mpr ?_
  intro a
  match a with
  | ⟨0, _⟩ => exact ⟨(show 32 * k ≤ row.val by omega), (show row.val < 32 * k + 32 by omega)⟩
  | ⟨1, _⟩ => exact ⟨Nat.le_refl j, Nat.lt_succ_self j⟩

end Cert.KernelIdeal.Gen
-- ==== Proof.TripsA.lean ====
/- The loops over the rows of a quarter chunk, for the first five chunks of the query heads: one trip, then all of them. -/
module

public import proofs.«01_k».proof.Proof.Steps

@[expose] public section

set_option maxRecDepth 16384

noncomputable section

namespace Cert.KernelIdeal.Gen

open Idealize.ShloMosaic Idealize.ShloMosaic.TcCoe Idealize.ShloMosaic.ValueIdx Cert.Qkv

variable {F : FTy → Type} [FloatOps F]
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)

section
variable (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t2  (k : Fin k0_t2_loop.trips) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1
      = [⟨Rect.unit (k0_off13 k) S1x32x4x128.size (k0_off13_inb k), stackOf
        (codesOf (headRope (View.readAt (Elt F) arg16.view (Rect.unit (s := S256x512) (k0_off4 k) S32x128.size (k0_off4_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 0] S1x128.size inb_S1x7168_S1x128_0_0).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18)))
        (codesOf (headRope (View.readAt (Elt F) arg16.view (Rect.unit (s := S256x512) (k0_off7 k) S32x128.size (k0_off7_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 128] S1x128.size inb_S1x7168_S1x128_0_128).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18)))
        (codesOf (headRope (View.readAt (Elt F) arg16.view (Rect.unit (s := S256x512) (k0_off9 k) S32x128.size (k0_off9_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 256] S1x128.size inb_S1x7168_S1x128_0_256).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18)))
        (codesOf (headRope (View.readAt (Elt F) arg16.view (Rect.unit (s := S256x512) (k0_off11 k) S32x128.size (k0_off11_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 384] S1x128.size inb_S1x7168_S1x128_0_384).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18)))⟩] := by
  dsimp only [tripL_k0_t2]; unfold trip_k0_t2; rfl

theorem trip2_t2  (k : Fin k0_t2_loop.trips) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2
      = [⟨Rect.unit (k0_off12 k) S32x1.size (k0_off12_inb k), scaleCol (headRope (View.readAt (Elt F) arg16.view (Rect.unit (s := S256x512) (k0_off11 k) S32x128.size (k0_off11_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 384] S1x128.size inb_S1x7168_S1x128_0_384).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18))⟩,
         ⟨Rect.unit (k0_off10 k) S32x1.size (k0_off10_inb k), scaleCol (headRope (View.readAt (Elt F) arg16.view (Rect.unit (s := S256x512) (k0_off9 k) S32x128.size (k0_off9_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 256] S1x128.size inb_S1x7168_S1x128_0_256).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18))⟩,
         ⟨Rect.unit (k0_off8 k) S32x1.size (k0_off8_inb k), scaleCol (headRope (View.readAt (Elt F) arg16.view (Rect.unit (s := S256x512) (k0_off7 k) S32x128.size (k0_off7_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 128] S1x128.size inb_S1x7168_S1x128_0_128).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18))⟩,
         ⟨Rect.unit (k0_off6 k) S32x1.size (k0_off6_inb k), scaleCol (headRope (View.readAt (Elt F) arg16.view (Rect.unit (s := S256x512) (k0_off4 k) S32x128.size (k0_off4_inb k)).toLoadRect X_arg16) (View.readAt (Elt F) arg19.view (Rect.unit (s := S256x128) (k0_off5 k) S32x128.size (k0_off5_inb k)).toLoadRect X_arg19) (View.readAt (Elt F) arg5.view (Rect.unit (s := S1x7168) ![0, 0] S1x128.size inb_S1x7168_S1x128_0_0).toLoadRect X_arg5) (View.readAt (Elt F) arg17.view (Rect.unit (s := S256x128) (k0_off5 k) S32x128.size (k0_off5_inb k)).toLoadRect X_arg17) (View.readAt (Elt F) arg18.view (Rect.unit (s := S256x128) (k0_off5 k) S32x128.size (k0_off5_inb k)).toLoadRect X_arg18))⟩] := by
  dsimp only [tripL_k0_t2]; unfold trip_k0_t2; rfl
end

section
variable (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 2 stores of the codes. -/
theorem codes_t2
    (G : S1x256x40x128.Idx → Elt Ideal .fp8e4m3)
    (hG : ∀ (row : Fin 256) (i : Fin 4) (d : Fin 128), G (ix4 (0 : Fin 1) row (⟨4 * 0 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 0 row i) d) :
    ∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t2_loop.lb k0_t2_loop.ub k0_t2_loop.st)).1, ∀ x, p.2 x = G (p.1.emb x) := by
  have hk : ∀ k : Fin k0_t2_loop.trips, k.val < 8 := by decide
  refine steps_all (N := k0_t2_loop.trips) (fun j => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) rfl (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip1_t2] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 0) (hk k) 0 (by norm_num) (k0_off13_inb k) (k0_off13_eq k) _ _ _ _ (fun r d => rope_load arg16.view X_arg16 arg19.view X_arg19 arg5.view X_arg5 arg17.view X_arg17 arg18.view X_arg18 (k0_off4_inb k) (k0_off5_inb k) inb_S1x7168_S1x128_0_0 (hk k) 0 0 (k0_off4_eq k) (k0_off5_eq k) rfl r d) (fun r d => rope_load arg16.view X_arg16 arg19.view X_arg19 arg5.view X_arg5 arg17.view X_arg17 arg18.view X_arg18 (k0_off7_inb k) (k0_off5_inb k) inb_S1x7168_S1x128_0_128 (hk k) 0 1 (k0_off7_eq k) (k0_off5_eq k) rfl r d) (fun r d => rope_load arg16.view X_arg16 arg19.view X_arg19 arg5.view X_arg5 arg17.view X_arg17 arg18.view X_arg18 (k0_off9_inb k) (k0_off5_inb k) inb_S1x7168_S1x128_0_256 (hk k) 0 2 (k0_off9_eq k) (k0_off5_eq k) rfl r d) (fun r d => rope_load arg16.view X_arg16 arg19.view X_arg19 arg5.view X_arg5 arg17.view X_arg17 arg18.view X_arg18 (k0_off11_inb k) (k0_off5_inb k) inb_S1x7168_S1x128_0_384 (hk k) 0 3 (k0_off11_eq k) (k0_off5_eq k) rfl r d) hG

/-- The codes loop 2 stores cover its four heads of every row. -/
theorem cover_codes_t2  (row : Fin 256) (j : Fin 4) (d : Fin 128) :
    ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t2_loop.lb k0_t2_loop.ub k0_t2_loop.st)).1, ix4 (0 : Fin 1) row (⟨4 * 0 + j.val, by omega⟩ : Fin 40) d ∈ p.1.set := by
  let k : Fin k0_t2_loop.trips := ⟨row.val / 32, lt_of_lt_of_le (Nat.div_lt_of_lt_mul (by omega : row.val < 32 * 8)) (by decide)⟩
  refine ⟨_, steps_mem (N := k0_t2_loop.trips) (fun j => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k _ (by rw [trip1_t2]; exact List.mem_singleton.mpr rfl), ?_⟩
  exact mem_codes 0 (by norm_num) (k0_off13_inb k) (k0_off13_eq k) row rfl j d

/-- What loop 2 stores of the scales. -/
theorem scales_t2
    (G : S256x128.Idx → EReal)
    (hG : ∀ (i : Fin 4) (row : Fin 256), G (ix2 row (⟨4 * 0 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 0 row i)) :
    ∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t2_loop.lb k0_t2_loop.ub k0_t2_loop.st)).2, ∀ x, p.2 x = G (p.1.emb x) := by
  have hk : ∀ k : Fin k0_t2_loop.trips, k.val < 8 := by decide
  refine steps_all (N := k0_t2_loop.trips) (fun j => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) rfl (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip2_t2] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 0 row 3 d) (hk k) 3 (by norm_num) (k0_off12_inb k) (k0_off12_eq k) (fun r d => rope_load arg16.view X_arg16 arg19.view X_arg19 arg5.view X_arg5 arg17.view X_arg17 arg18.view X_arg18 (k0_off11_inb k) (k0_off5_inb k) inb_S1x7168_S1x128_0_384 (hk k) 0 3 (k0_off11_eq k) (k0_off5_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 0 row 2 d) (hk k) 2 (by norm_num) (k0_off10_inb k) (k0_off10_eq k) (fun r d => rope_load arg16.view X_arg16 arg19.view X_arg19 arg5.view X_arg5 arg17.view X_arg17 arg18.view X_arg18 (k0_off9_inb k) (k0_off5_inb k) inb_S1x7168_S1x128_0_256 (hk k) 0 2 (k0_off9_eq k) (k0_off5_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 0 row 1 d) (hk k) 1 (by norm_num) (k0_off8_inb k) (k0_off8_eq k) (fun r d => rope_load arg16.view X_arg16 arg19.view X_arg19 arg5.view X_arg5 arg17.view X_arg17 arg18.view X_arg18 (k0_off7_inb k) (k0_off5_inb k) inb_S1x7168_S1x128_0_128 (hk k) 0 1 (k0_off7_eq k) (k0_off5_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 0 row 0 d) (hk k) 0 (by norm_num) (k0_off6_inb k) (k0_off6_eq k) (fun r d => rope_load arg16.view X_arg16 arg19.view X_arg19 arg5.view X_arg5 arg17.view X_arg17 arg18.view X_arg18 (k0_off4_inb k) (k0_off5_inb k) inb_S1x7168_S1x128_0_0 (hk k) 0 0 (k0_off4_eq k) (k0_off5_eq k) rfl r d) (hG 0)

/-- The scales loop 2 stores cover its four columns of every row. -/
theorem cover_scales_t2  (row : Fin 256) (j : Fin 4) :
    ∃ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t2_loop.lb k0_t2_loop.ub k0_t2_loop.st)).2, ix2 row (⟨4 * 0 + j.val, by omega⟩ : Fin 128) ∈ p.1.set := by
  let k : Fin k0_t2_loop.trips := ⟨row.val / 32, lt_of_lt_of_le (Nat.div_lt_of_lt_mul (by omega : row.val < 32 * 8)) (by decide)⟩
  have hm := steps_mem (N := k0_t2_loop.trips) (fun j => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) (fun k => (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k
  rw [trip2_t2] at hm
  match j with
  | ⟨3, _⟩ => exact ⟨_, hm _ (List.mem_cons_self ..), mem_scale 3 (by norm_num) (k0_off12_inb k) (k0_off12_eq k) row rfl⟩
  | ⟨2, _⟩ => exact ⟨_, hm _ (List.mem_cons_of_mem _ (List.mem_cons_self ..)), mem_scale 2 (by norm_num) (k0_off10_inb k) (k0_off10_eq k) row rfl⟩
  | ⟨1, _⟩ => exact ⟨_, hm _ (List.mem_cons_of_mem _ (List.mem_cons_of_mem _ (List.mem_cons_self ..))), mem_scale 1 (by norm_num) (k0_off8_inb k) (k0_off8_eq k) row rfl⟩
  | ⟨0, _⟩ => exact ⟨_, hm _ (List.mem_cons_of_mem _ (List.mem_cons_of_mem _ (List.mem_cons_of_mem _ (List.mem_cons_self ..)))), mem_scale 0 (by norm_num) (k0_off6_inb k) (k0_off6_eq k) row rfl⟩
end

section
variable (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t3  (k : Fin k0_t3_loop.trips) :
    (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1
      = [⟨Rect.unit (k0_off23 k) S1x32x4x128.size (k0_off23_inb k), stackOf
        (codesOf (headRope (View.readAt (Elt F) arg16.view (Rect.unit (s := S256x512) (k0_off14 k) S32x128.size (k0_off14_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 512] S1x128.size inb_S1x7168_S1x128_0_512).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18)))
        (codesOf (headRope (View.readAt (Elt F) arg16.view (Rect.unit (s := S256x512) (k0_off17 k) S32x128.size (k0_off17_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 640] S1x128.size inb_S1x7168_S1x128_0_640).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18)))
        (codesOf (headRope (View.readAt (Elt F) arg16.view (Rect.unit (s := S256x512) (k0_off19 k) S32x128.size (k0_off19_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 768] S1x128.size inb_S1x7168_S1x128_0_768).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18)))
        (codesOf (headRope (View.readAt (Elt F) arg16.view (Rect.unit (s := S256x512) (k0_off21 k) S32x128.size (k0_off21_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 896] S1x128.size inb_S1x7168_S1x128_0_896).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18)))⟩] := by
  dsimp only [tripL_k0_t3]; unfold trip_k0_t3; rfl

theorem trip2_t3  (k : Fin k0_t3_loop.trips) :
    (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2
      = [⟨Rect.unit (k0_off22 k) S32x1.size (k0_off22_inb k), scaleCol (headRope (View.readAt (Elt F) arg16.view (Rect.unit (s := S256x512) (k0_off21 k) S32x128.size (k0_off21_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 896] S1x128.size inb_S1x7168_S1x128_0_896).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18))⟩,
         ⟨Rect.unit (k0_off20 k) S32x1.size (k0_off20_inb k), scaleCol (headRope (View.readAt (Elt F) arg16.view (Rect.unit (s := S256x512) (k0_off19 k) S32x128.size (k0_off19_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 768] S1x128.size inb_S1x7168_S1x128_0_768).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18))⟩,
         ⟨Rect.unit (k0_off18 k) S32x1.size (k0_off18_inb k), scaleCol (headRope (View.readAt (Elt F) arg16.view (Rect.unit (s := S256x512) (k0_off17 k) S32x128.size (k0_off17_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 640] S1x128.size inb_S1x7168_S1x128_0_640).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18))⟩,
         ⟨Rect.unit (k0_off16 k) S32x1.size (k0_off16_inb k), scaleCol (headRope (View.readAt (Elt F) arg16.view (Rect.unit (s := S256x512) (k0_off14 k) S32x128.size (k0_off14_inb k)).toLoadRect X_arg16) (View.readAt (Elt F) arg19.view (Rect.unit (s := S256x128) (k0_off15 k) S32x128.size (k0_off15_inb k)).toLoadRect X_arg19) (View.readAt (Elt F) arg5.view (Rect.unit (s := S1x7168) ![0, 512] S1x128.size inb_S1x7168_S1x128_0_512).toLoadRect X_arg5) (View.readAt (Elt F) arg17.view (Rect.unit (s := S256x128) (k0_off15 k) S32x128.size (k0_off15_inb k)).toLoadRect X_arg17) (View.readAt (Elt F) arg18.view (Rect.unit (s := S256x128) (k0_off15 k) S32x128.size (k0_off15_inb k)).toLoadRect X_arg18))⟩] := by
  dsimp only [tripL_k0_t3]; unfold trip_k0_t3; rfl
end

section
variable (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 3 stores of the codes. -/
theorem codes_t3
    (G : S1x256x40x128.Idx → Elt Ideal .fp8e4m3)
    (hG : ∀ (row : Fin 256) (i : Fin 4) (d : Fin 128), G (ix4 (0 : Fin 1) row (⟨4 * 1 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 1 row i) d) :
    ∀ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t3_loop.lb k0_t3_loop.ub k0_t3_loop.st)).1, ∀ x, p.2 x = G (p.1.emb x) := by
  have hk : ∀ k : Fin k0_t3_loop.trips, k.val < 8 := by decide
  refine steps_all (N := k0_t3_loop.trips) (fun j => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) rfl (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip1_t3] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 1) (hk k) 1 (by norm_num) (k0_off23_inb k) (k0_off23_eq k) _ _ _ _ (fun r d => rope_load arg16.view X_arg16 arg19.view X_arg19 arg5.view X_arg5 arg17.view X_arg17 arg18.view X_arg18 (k0_off14_inb k) (k0_off15_inb k) inb_S1x7168_S1x128_0_512 (hk k) 1 0 (k0_off14_eq k) (k0_off15_eq k) rfl r d) (fun r d => rope_load arg16.view X_arg16 arg19.view X_arg19 arg5.view X_arg5 arg17.view X_arg17 arg18.view X_arg18 (k0_off17_inb k) (k0_off15_inb k) inb_S1x7168_S1x128_0_640 (hk k) 1 1 (k0_off17_eq k) (k0_off15_eq k) rfl r d) (fun r d => rope_load arg16.view X_arg16 arg19.view X_arg19 arg5.view X_arg5 arg17.view X_arg17 arg18.view X_arg18 (k0_off19_inb k) (k0_off15_inb k) inb_S1x7168_S1x128_0_768 (hk k) 1 2 (k0_off19_eq k) (k0_off15_eq k) rfl r d) (fun r d => rope_load arg16.view X_arg16 arg19.view X_arg19 arg5.view X_arg5 arg17.view X_arg17 arg18.view X_arg18 (k0_off21_inb k) (k0_off15_inb k) inb_S1x7168_S1x128_0_896 (hk k) 1 3 (k0_off21_eq k) (k0_off15_eq k) rfl r d) hG

/-- The codes loop 3 stores cover its four heads of every row. -/
theorem cover_codes_t3  (row : Fin 256) (j : Fin 4) (d : Fin 128) :
    ∃ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t3_loop.lb k0_t3_loop.ub k0_t3_loop.st)).1, ix4 (0 : Fin 1) row (⟨4 * 1 + j.val, by omega⟩ : Fin 40) d ∈ p.1.set := by
  let k : Fin k0_t3_loop.trips := ⟨row.val / 32, lt_of_lt_of_le (Nat.div_lt_of_lt_mul (by omega : row.val < 32 * 8)) (by decide)⟩
  refine ⟨_, steps_mem (N := k0_t3_loop.trips) (fun j => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k _ (by rw [trip1_t3]; exact List.mem_singleton.mpr rfl), ?_⟩
  exact mem_codes 1 (by norm_num) (k0_off23_inb k) (k0_off23_eq k) row rfl j d

/-- What loop 3 stores of the scales. -/
theorem scales_t3
    (G : S256x128.Idx → EReal)
    (hG : ∀ (i : Fin 4) (row : Fin 256), G (ix2 row (⟨4 * 1 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 1 row i)) :
    ∀ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t3_loop.lb k0_t3_loop.ub k0_t3_loop.st)).2, ∀ x, p.2 x = G (p.1.emb x) := by
  have hk : ∀ k : Fin k0_t3_loop.trips, k.val < 8 := by decide
  refine steps_all (N := k0_t3_loop.trips) (fun j => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) rfl (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip2_t3] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 1 row 3 d) (hk k) 7 (by norm_num) (k0_off22_inb k) (k0_off22_eq k) (fun r d => rope_load arg16.view X_arg16 arg19.view X_arg19 arg5.view X_arg5 arg17.view X_arg17 arg18.view X_arg18 (k0_off21_inb k) (k0_off15_inb k) inb_S1x7168_S1x128_0_896 (hk k) 1 3 (k0_off21_eq k) (k0_off15_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 1 row 2 d) (hk k) 6 (by norm_num) (k0_off20_inb k) (k0_off20_eq k) (fun r d => rope_load arg16.view X_arg16 arg19.view X_arg19 arg5.view X_arg5 arg17.view X_arg17 arg18.view X_arg18 (k0_off19_inb k) (k0_off15_inb k) inb_S1x7168_S1x128_0_768 (hk k) 1 2 (k0_off19_eq k) (k0_off15_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 1 row 1 d) (hk k) 5 (by norm_num) (k0_off18_inb k) (k0_off18_eq k) (fun r d => rope_load arg16.view X_arg16 arg19.view X_arg19 arg5.view X_arg5 arg17.view X_arg17 arg18.view X_arg18 (k0_off17_inb k) (k0_off15_inb k) inb_S1x7168_S1x128_0_640 (hk k) 1 1 (k0_off17_eq k) (k0_off15_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 1 row 0 d) (hk k) 4 (by norm_num) (k0_off16_inb k) (k0_off16_eq k) (fun r d => rope_load arg16.view X_arg16 arg19.view X_arg19 arg5.view X_arg5 arg17.view X_arg17 arg18.view X_arg18 (k0_off14_inb k) (k0_off15_inb k) inb_S1x7168_S1x128_0_512 (hk k) 1 0 (k0_off14_eq k) (k0_off15_eq k) rfl r d) (hG 0)

/-- The scales loop 3 stores cover its four columns of every row. -/
theorem cover_scales_t3  (row : Fin 256) (j : Fin 4) :
    ∃ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t3_loop.lb k0_t3_loop.ub k0_t3_loop.st)).2, ix2 row (⟨4 * 1 + j.val, by omega⟩ : Fin 128) ∈ p.1.set := by
  let k : Fin k0_t3_loop.trips := ⟨row.val / 32, lt_of_lt_of_le (Nat.div_lt_of_lt_mul (by omega : row.val < 32 * 8)) (by decide)⟩
  have hm := steps_mem (N := k0_t3_loop.trips) (fun j => (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) (fun k => (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k
  rw [trip2_t3] at hm
  match j with
  | ⟨3, _⟩ => exact ⟨_, hm _ (List.mem_cons_self ..), mem_scale 7 (by norm_num) (k0_off22_inb k) (k0_off22_eq k) row rfl⟩
  | ⟨2, _⟩ => exact ⟨_, hm _ (List.mem_cons_of_mem _ (List.mem_cons_self ..)), mem_scale 6 (by norm_num) (k0_off20_inb k) (k0_off20_eq k) row rfl⟩
  | ⟨1, _⟩ => exact ⟨_, hm _ (List.mem_cons_of_mem _ (List.mem_cons_of_mem _ (List.mem_cons_self ..))), mem_scale 5 (by norm_num) (k0_off18_inb k) (k0_off18_eq k) row rfl⟩
  | ⟨0, _⟩ => exact ⟨_, hm _ (List.mem_cons_of_mem _ (List.mem_cons_of_mem _ (List.mem_cons_of_mem _ (List.mem_cons_self ..)))), mem_scale 4 (by norm_num) (k0_off16_inb k) (k0_off16_eq k) row rfl⟩
end

section
variable (c0_i32_39 : BitVec 32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t4  (k : Fin k0_t4_loop.trips) :
    (tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1
      = [⟨Rect.unit (k0_off33 k) S1x32x4x128.size (k0_off33_inb k), stackOf
        (codesOf (headRope (View.readAt (Elt F) arg16.view (Rect.unit (s := S256x512) (k0_off24 k) S32x128.size (k0_off24_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1024] S1x128.size inb_S1x7168_S1x128_0_1024).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18)))
        (codesOf (headRope (View.readAt (Elt F) arg16.view (Rect.unit (s := S256x512) (k0_off27 k) S32x128.size (k0_off27_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1152] S1x128.size inb_S1x7168_S1x128_0_1152).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18)))
        (codesOf (headRope (View.readAt (Elt F) arg16.view (Rect.unit (s := S256x512) (k0_off29 k) S32x128.size (k0_off29_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1280] S1x128.size inb_S1x7168_S1x128_0_1280).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18)))
        (codesOf (headRope (View.readAt (Elt F) arg16.view (Rect.unit (s := S256x512) (k0_off31 k) S32x128.size (k0_off31_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1408] S1x128.size inb_S1x7168_S1x128_0_1408).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18)))⟩] := by
  dsimp only [tripL_k0_t4]; unfold trip_k0_t4; rfl

theorem trip2_t4  (k : Fin k0_t4_loop.trips) :
    (tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2
      = [⟨Rect.unit (k0_off32 k) S32x1.size (k0_off32_inb k), scaleCol (headRope (View.readAt (Elt F) arg16.view (Rect.unit (s := S256x512) (k0_off31 k) S32x128.size (k0_off31_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1408] S1x128.size inb_S1x7168_S1x128_0_1408).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18))⟩,
         ⟨Rect.unit (k0_off30 k) S32x1.size (k0_off30_inb k), scaleCol (headRope (View.readAt (Elt F) arg16.view (Rect.unit (s := S256x512) (k0_off29 k) S32x128.size (k0_off29_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1280] S1x128.size inb_S1x7168_S1x128_0_1280).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18))⟩,
         ⟨Rect.unit (k0_off28 k) S32x1.size (k0_off28_inb k), scaleCol (headRope (View.readAt (Elt F) arg16.view (Rect.unit (s := S256x512) (k0_off27 k) S32x128.size (k0_off27_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1152] S1x128.size inb_S1x7168_S1x128_0_1152).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18))⟩,
         ⟨Rect.unit (k0_off26 k) S32x1.size (k0_off26_inb k), scaleCol (headRope (View.readAt (Elt F) arg16.view (Rect.unit (s := S256x512) (k0_off24 k) S32x128.size (k0_off24_inb k)).toLoadRect X_arg16) (View.readAt (Elt F) arg19.view (Rect.unit (s := S256x128) (k0_off25 k) S32x128.size (k0_off25_inb k)).toLoadRect X_arg19) (View.readAt (Elt F) arg5.view (Rect.unit (s := S1x7168) ![0, 1024] S1x128.size inb_S1x7168_S1x128_0_1024).toLoadRect X_arg5) (View.readAt (Elt F) arg17.view (Rect.unit (s := S256x128) (k0_off25 k) S32x128.size (k0_off25_inb k)).toLoadRect X_arg17) (View.readAt (Elt F) arg18.view (Rect.unit (s := S256x128) (k0_off25 k) S32x128.size (k0_off25_inb k)).toLoadRect X_arg18))⟩] := by
  dsimp only [tripL_k0_t4]; unfold trip_k0_t4; rfl
end

section
variable (c0_i32_39 : BitVec 32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 4 stores of the codes. -/
theorem codes_t4
    (G : S1x256x40x128.Idx → Elt Ideal .fp8e4m3)
    (hG : ∀ (row : Fin 256) (i : Fin 4) (d : Fin 128), G (ix4 (0 : Fin 1) row (⟨4 * 2 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 2 row i) d) :
    ∀ p ∈ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t4_loop.lb k0_t4_loop.ub k0_t4_loop.st)).1, ∀ x, p.2 x = G (p.1.emb x) := by
  have hk : ∀ k : Fin k0_t4_loop.trips, k.val < 8 := by decide
  refine steps_all (N := k0_t4_loop.trips) (fun j => (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) rfl (fun k => (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip1_t4] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 2) (hk k) 2 (by norm_num) (k0_off33_inb k) (k0_off33_eq k) _ _ _ _ (fun r d => rope_load arg16.view X_arg16 arg19.view X_arg19 arg5.view X_arg5 arg17.view X_arg17 arg18.view X_arg18 (k0_off24_inb k) (k0_off25_inb k) inb_S1x7168_S1x128_0_1024 (hk k) 2 0 (k0_off24_eq k) (k0_off25_eq k) rfl r d) (fun r d => rope_load arg16.view X_arg16 arg19.view X_arg19 arg5.view X_arg5 arg17.view X_arg17 arg18.view X_arg18 (k0_off27_inb k) (k0_off25_inb k) inb_S1x7168_S1x128_0_1152 (hk k) 2 1 (k0_off27_eq k) (k0_off25_eq k) rfl r d) (fun r d => rope_load arg16.view X_arg16 arg19.view X_arg19 arg5.view X_arg5 arg17.view X_arg17 arg18.view X_arg18 (k0_off29_inb k) (k0_off25_inb k) inb_S1x7168_S1x128_0_1280 (hk k) 2 2 (k0_off29_eq k) (k0_off25_eq k) rfl r d) (fun r d => rope_load arg16.view X_arg16 arg19.view X_arg19 arg5.view X_arg5 arg17.view X_arg17 arg18.view X_arg18 (k0_off31_inb k) (k0_off25_inb k) inb_S1x7168_S1x128_0_1408 (hk k) 2 3 (k0_off31_eq k) (k0_off25_eq k) rfl r d) hG

/-- The codes loop 4 stores cover its four heads of every row. -/
theorem cover_codes_t4  (row : Fin 256) (j : Fin 4) (d : Fin 128) :
    ∃ p ∈ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t4_loop.lb k0_t4_loop.ub k0_t4_loop.st)).1, ix4 (0 : Fin 1) row (⟨4 * 2 + j.val, by omega⟩ : Fin 40) d ∈ p.1.set := by
  let k : Fin k0_t4_loop.trips := ⟨row.val / 32, lt_of_lt_of_le (Nat.div_lt_of_lt_mul (by omega : row.val < 32 * 8)) (by decide)⟩
  refine ⟨_, steps_mem (N := k0_t4_loop.trips) (fun j => (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) (fun k => (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k _ (by rw [trip1_t4]; exact List.mem_singleton.mpr rfl), ?_⟩
  exact mem_codes 2 (by norm_num) (k0_off33_inb k) (k0_off33_eq k) row rfl j d

/-- What loop 4 stores of the scales. -/
theorem scales_t4
    (G : S256x128.Idx → EReal)
    (hG : ∀ (i : Fin 4) (row : Fin 256), G (ix2 row (⟨4 * 2 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 2 row i)) :
    ∀ p ∈ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t4_loop.lb k0_t4_loop.ub k0_t4_loop.st)).2, ∀ x, p.2 x = G (p.1.emb x) := by
  have hk : ∀ k : Fin k0_t4_loop.trips, k.val < 8 := by decide
  refine steps_all (N := k0_t4_loop.trips) (fun j => (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) rfl (fun k => (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip2_t4] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 2 row 3 d) (hk k) 11 (by norm_num) (k0_off32_inb k) (k0_off32_eq k) (fun r d => rope_load arg16.view X_arg16 arg19.view X_arg19 arg5.view X_arg5 arg17.view X_arg17 arg18.view X_arg18 (k0_off31_inb k) (k0_off25_inb k) inb_S1x7168_S1x128_0_1408 (hk k) 2 3 (k0_off31_eq k) (k0_off25_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 2 row 2 d) (hk k) 10 (by norm_num) (k0_off30_inb k) (k0_off30_eq k) (fun r d => rope_load arg16.view X_arg16 arg19.view X_arg19 arg5.view X_arg5 arg17.view X_arg17 arg18.view X_arg18 (k0_off29_inb k) (k0_off25_inb k) inb_S1x7168_S1x128_0_1280 (hk k) 2 2 (k0_off29_eq k) (k0_off25_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 2 row 1 d) (hk k) 9 (by norm_num) (k0_off28_inb k) (k0_off28_eq k) (fun r d => rope_load arg16.view X_arg16 arg19.view X_arg19 arg5.view X_arg5 arg17.view X_arg17 arg18.view X_arg18 (k0_off27_inb k) (k0_off25_inb k) inb_S1x7168_S1x128_0_1152 (hk k) 2 1 (k0_off27_eq k) (k0_off25_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 2 row 0 d) (hk k) 8 (by norm_num) (k0_off26_inb k) (k0_off26_eq k) (fun r d => rope_load arg16.view X_arg16 arg19.view X_arg19 arg5.view X_arg5 arg17.view X_arg17 arg18.view X_arg18 (k0_off24_inb k) (k0_off25_inb k) inb_S1x7168_S1x128_0_1024 (hk k) 2 0 (k0_off24_eq k) (k0_off25_eq k) rfl r d) (hG 0)

/-- The scales loop 4 stores cover its four columns of every row. -/
theorem cover_scales_t4  (row : Fin 256) (j : Fin 4) :
    ∃ p ∈ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t4_loop.lb k0_t4_loop.ub k0_t4_loop.st)).2, ix2 row (⟨4 * 2 + j.val, by omega⟩ : Fin 128) ∈ p.1.set := by
  let k : Fin k0_t4_loop.trips := ⟨row.val / 32, lt_of_lt_of_le (Nat.div_lt_of_lt_mul (by omega : row.val < 32 * 8)) (by decide)⟩
  have hm := steps_mem (N := k0_t4_loop.trips) (fun j => (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) (fun k => (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k
  rw [trip2_t4] at hm
  match j with
  | ⟨3, _⟩ => exact ⟨_, hm _ (List.mem_cons_self ..), mem_scale 11 (by norm_num) (k0_off32_inb k) (k0_off32_eq k) row rfl⟩
  | ⟨2, _⟩ => exact ⟨_, hm _ (List.mem_cons_of_mem _ (List.mem_cons_self ..)), mem_scale 10 (by norm_num) (k0_off30_inb k) (k0_off30_eq k) row rfl⟩
  | ⟨1, _⟩ => exact ⟨_, hm _ (List.mem_cons_of_mem _ (List.mem_cons_of_mem _ (List.mem_cons_self ..))), mem_scale 9 (by norm_num) (k0_off28_inb k) (k0_off28_eq k) row rfl⟩
  | ⟨0, _⟩ => exact ⟨_, hm _ (List.mem_cons_of_mem _ (List.mem_cons_of_mem _ (List.mem_cons_of_mem _ (List.mem_cons_self ..)))), mem_scale 8 (by norm_num) (k0_off26_inb k) (k0_off26_eq k) row rfl⟩
end

section
variable (c0_i32_39 : BitVec 32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t5  (k : Fin k0_t5_loop.trips) :
    (tripL_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1
      = [⟨Rect.unit (k0_off43 k) S1x32x4x128.size (k0_off43_inb k), stackOf
        (codesOf (headRope (View.readAt (Elt F) arg16.view (Rect.unit (s := S256x512) (k0_off34 k) S32x128.size (k0_off34_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1536] S1x128.size inb_S1x7168_S1x128_0_1536).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18)))
        (codesOf (headRope (View.readAt (Elt F) arg16.view (Rect.unit (s := S256x512) (k0_off37 k) S32x128.size (k0_off37_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1664] S1x128.size inb_S1x7168_S1x128_0_1664).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18)))
        (codesOf (headRope (View.readAt (Elt F) arg16.view (Rect.unit (s := S256x512) (k0_off39 k) S32x128.size (k0_off39_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1792] S1x128.size inb_S1x7168_S1x128_0_1792).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18)))
        (codesOf (headRope (View.readAt (Elt F) arg16.view (Rect.unit (s := S256x512) (k0_off41 k) S32x128.size (k0_off41_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1920] S1x128.size inb_S1x7168_S1x128_0_1920).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18)))⟩] := by
  dsimp only [tripL_k0_t5]; unfold trip_k0_t5; rfl

theorem trip2_t5  (k : Fin k0_t5_loop.trips) :
    (tripL_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2
      = [⟨Rect.unit (k0_off42 k) S32x1.size (k0_off42_inb k), scaleCol (headRope (View.readAt (Elt F) arg16.view (Rect.unit (s := S256x512) (k0_off41 k) S32x128.size (k0_off41_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1920] S1x128.size inb_S1x7168_S1x128_0_1920).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18))⟩,
         ⟨Rect.unit (k0_off40 k) S32x1.size (k0_off40_inb k), scaleCol (headRope (View.readAt (Elt F) arg16.view (Rect.unit (s := S256x512) (k0_off39 k) S32x128.size (k0_off39_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1792] S1x128.size inb_S1x7168_S1x128_0_1792).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18))⟩,
         ⟨Rect.unit (k0_off38 k) S32x1.size (k0_off38_inb k), scaleCol (headRope (View.readAt (Elt F) arg16.view (Rect.unit (s := S256x512) (k0_off37 k) S32x128.size (k0_off37_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1664] S1x128.size inb_S1x7168_S1x128_0_1664).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18))⟩,
         ⟨Rect.unit (k0_off36 k) S32x1.size (k0_off36_inb k), scaleCol (headRope (View.readAt (Elt F) arg16.view (Rect.unit (s := S256x512) (k0_off34 k) S32x128.size (k0_off34_inb k)).toLoadRect X_arg16) (View.readAt (Elt F) arg19.view (Rect.unit (s := S256x128) (k0_off35 k) S32x128.size (k0_off35_inb k)).toLoadRect X_arg19) (View.readAt (Elt F) arg5.view (Rect.unit (s := S1x7168) ![0, 1536] S1x128.size inb_S1x7168_S1x128_0_1536).toLoadRect X_arg5) (View.readAt (Elt F) arg17.view (Rect.unit (s := S256x128) (k0_off35 k) S32x128.size (k0_off35_inb k)).toLoadRect X_arg17) (View.readAt (Elt F) arg18.view (Rect.unit (s := S256x128) (k0_off35 k) S32x128.size (k0_off35_inb k)).toLoadRect X_arg18))⟩] := by
  dsimp only [tripL_k0_t5]; unfold trip_k0_t5; rfl
end

section
variable (c0_i32_39 : BitVec 32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 5 stores of the codes. -/
theorem codes_t5
    (G : S1x256x40x128.Idx → Elt Ideal .fp8e4m3)
    (hG : ∀ (row : Fin 256) (i : Fin 4) (d : Fin 128), G (ix4 (0 : Fin 1) row (⟨4 * 3 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 3 row i) d) :
    ∀ p ∈ (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t5_loop.lb k0_t5_loop.ub k0_t5_loop.st)).1, ∀ x, p.2 x = G (p.1.emb x) := by
  have hk : ∀ k : Fin k0_t5_loop.trips, k.val < 8 := by decide
  refine steps_all (N := k0_t5_loop.trips) (fun j => (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) rfl (fun k => (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip1_t5] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 3) (hk k) 3 (by norm_num) (k0_off43_inb k) (k0_off43_eq k) _ _ _ _ (fun r d => rope_load arg16.view X_arg16 arg19.view X_arg19 arg5.view X_arg5 arg17.view X_arg17 arg18.view X_arg18 (k0_off34_inb k) (k0_off35_inb k) inb_S1x7168_S1x128_0_1536 (hk k) 3 0 (k0_off34_eq k) (k0_off35_eq k) rfl r d) (fun r d => rope_load arg16.view X_arg16 arg19.view X_arg19 arg5.view X_arg5 arg17.view X_arg17 arg18.view X_arg18 (k0_off37_inb k) (k0_off35_inb k) inb_S1x7168_S1x128_0_1664 (hk k) 3 1 (k0_off37_eq k) (k0_off35_eq k) rfl r d) (fun r d => rope_load arg16.view X_arg16 arg19.view X_arg19 arg5.view X_arg5 arg17.view X_arg17 arg18.view X_arg18 (k0_off39_inb k) (k0_off35_inb k) inb_S1x7168_S1x128_0_1792 (hk k) 3 2 (k0_off39_eq k) (k0_off35_eq k) rfl r d) (fun r d => rope_load arg16.view X_arg16 arg19.view X_arg19 arg5.view X_arg5 arg17.view X_arg17 arg18.view X_arg18 (k0_off41_inb k) (k0_off35_inb k) inb_S1x7168_S1x128_0_1920 (hk k) 3 3 (k0_off41_eq k) (k0_off35_eq k) rfl r d) hG

/-- The codes loop 5 stores cover its four heads of every row. -/
theorem cover_codes_t5  (row : Fin 256) (j : Fin 4) (d : Fin 128) :
    ∃ p ∈ (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t5_loop.lb k0_t5_loop.ub k0_t5_loop.st)).1, ix4 (0 : Fin 1) row (⟨4 * 3 + j.val, by omega⟩ : Fin 40) d ∈ p.1.set := by
  let k : Fin k0_t5_loop.trips := ⟨row.val / 32, lt_of_lt_of_le (Nat.div_lt_of_lt_mul (by omega : row.val < 32 * 8)) (by decide)⟩
  refine ⟨_, steps_mem (N := k0_t5_loop.trips) (fun j => (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) (fun k => (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k _ (by rw [trip1_t5]; exact List.mem_singleton.mpr rfl), ?_⟩
  exact mem_codes 3 (by norm_num) (k0_off43_inb k) (k0_off43_eq k) row rfl j d

/-- What loop 5 stores of the scales. -/
theorem scales_t5
    (G : S256x128.Idx → EReal)
    (hG : ∀ (i : Fin 4) (row : Fin 256), G (ix2 row (⟨4 * 3 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 3 row i)) :
    ∀ p ∈ (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t5_loop.lb k0_t5_loop.ub k0_t5_loop.st)).2, ∀ x, p.2 x = G (p.1.emb x) := by
  have hk : ∀ k : Fin k0_t5_loop.trips, k.val < 8 := by decide
  refine steps_all (N := k0_t5_loop.trips) (fun j => (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) rfl (fun k => (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip2_t5] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 3 row 3 d) (hk k) 15 (by norm_num) (k0_off42_inb k) (k0_off42_eq k) (fun r d => rope_load arg16.view X_arg16 arg19.view X_arg19 arg5.view X_arg5 arg17.view X_arg17 arg18.view X_arg18 (k0_off41_inb k) (k0_off35_inb k) inb_S1x7168_S1x128_0_1920 (hk k) 3 3 (k0_off41_eq k) (k0_off35_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 3 row 2 d) (hk k) 14 (by norm_num) (k0_off40_inb k) (k0_off40_eq k) (fun r d => rope_load arg16.view X_arg16 arg19.view X_arg19 arg5.view X_arg5 arg17.view X_arg17 arg18.view X_arg18 (k0_off39_inb k) (k0_off35_inb k) inb_S1x7168_S1x128_0_1792 (hk k) 3 2 (k0_off39_eq k) (k0_off35_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 3 row 1 d) (hk k) 13 (by norm_num) (k0_off38_inb k) (k0_off38_eq k) (fun r d => rope_load arg16.view X_arg16 arg19.view X_arg19 arg5.view X_arg5 arg17.view X_arg17 arg18.view X_arg18 (k0_off37_inb k) (k0_off35_inb k) inb_S1x7168_S1x128_0_1664 (hk k) 3 1 (k0_off37_eq k) (k0_off35_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 3 row 0 d) (hk k) 12 (by norm_num) (k0_off36_inb k) (k0_off36_eq k) (fun r d => rope_load arg16.view X_arg16 arg19.view X_arg19 arg5.view X_arg5 arg17.view X_arg17 arg18.view X_arg18 (k0_off34_inb k) (k0_off35_inb k) inb_S1x7168_S1x128_0_1536 (hk k) 3 0 (k0_off34_eq k) (k0_off35_eq k) rfl r d) (hG 0)

/-- The scales loop 5 stores cover its four columns of every row. -/
theorem cover_scales_t5  (row : Fin 256) (j : Fin 4) :
    ∃ p ∈ (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t5_loop.lb k0_t5_loop.ub k0_t5_loop.st)).2, ix2 row (⟨4 * 3 + j.val, by omega⟩ : Fin 128) ∈ p.1.set := by
  let k : Fin k0_t5_loop.trips := ⟨row.val / 32, lt_of_lt_of_le (Nat.div_lt_of_lt_mul (by omega : row.val < 32 * 8)) (by decide)⟩
  have hm := steps_mem (N := k0_t5_loop.trips) (fun j => (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) (fun k => (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k
  rw [trip2_t5] at hm
  match j with
  | ⟨3, _⟩ => exact ⟨_, hm _ (List.mem_cons_self ..), mem_scale 15 (by norm_num) (k0_off42_inb k) (k0_off42_eq k) row rfl⟩
  | ⟨2, _⟩ => exact ⟨_, hm _ (List.mem_cons_of_mem _ (List.mem_cons_self ..)), mem_scale 14 (by norm_num) (k0_off40_inb k) (k0_off40_eq k) row rfl⟩
  | ⟨1, _⟩ => exact ⟨_, hm _ (List.mem_cons_of_mem _ (List.mem_cons_of_mem _ (List.mem_cons_self ..))), mem_scale 13 (by norm_num) (k0_off38_inb k) (k0_off38_eq k) row rfl⟩
  | ⟨0, _⟩ => exact ⟨_, hm _ (List.mem_cons_of_mem _ (List.mem_cons_of_mem _ (List.mem_cons_of_mem _ (List.mem_cons_self ..)))), mem_scale 12 (by norm_num) (k0_off36_inb k) (k0_off36_eq k) row rfl⟩
end

section
variable (c0_i32_39 : BitVec 32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t6  (k : Fin k0_t6_loop.trips) :
    (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1
      = [⟨Rect.unit (k0_off53 k) S1x32x4x128.size (k0_off53_inb k), stackOf
        (codesOf (headRope (View.readAt (Elt F) arg16.view (Rect.unit (s := S256x512) (k0_off44 k) S32x128.size (k0_off44_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2048] S1x128.size inb_S1x7168_S1x128_0_2048).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18)))
        (codesOf (headRope (View.readAt (Elt F) arg16.view (Rect.unit (s := S256x512) (k0_off47 k) S32x128.size (k0_off47_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2176] S1x128.size inb_S1x7168_S1x128_0_2176).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18)))
        (codesOf (headRope (View.readAt (Elt F) arg16.view (Rect.unit (s := S256x512) (k0_off49 k) S32x128.size (k0_off49_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2304] S1x128.size inb_S1x7168_S1x128_0_2304).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18)))
        (codesOf (headRope (View.readAt (Elt F) arg16.view (Rect.unit (s := S256x512) (k0_off51 k) S32x128.size (k0_off51_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2432] S1x128.size inb_S1x7168_S1x128_0_2432).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18)))⟩] := by
  dsimp only [tripL_k0_t6]; unfold trip_k0_t6; rfl

theorem trip2_t6  (k : Fin k0_t6_loop.trips) :
    (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2
      = [⟨Rect.unit (k0_off52 k) S32x1.size (k0_off52_inb k), scaleCol (headRope (View.readAt (Elt F) arg16.view (Rect.unit (s := S256x512) (k0_off51 k) S32x128.size (k0_off51_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2432] S1x128.size inb_S1x7168_S1x128_0_2432).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18))⟩,
         ⟨Rect.unit (k0_off50 k) S32x1.size (k0_off50_inb k), scaleCol (headRope (View.readAt (Elt F) arg16.view (Rect.unit (s := S256x512) (k0_off49 k) S32x128.size (k0_off49_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2304] S1x128.size inb_S1x7168_S1x128_0_2304).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18))⟩,
         ⟨Rect.unit (k0_off48 k) S32x1.size (k0_off48_inb k), scaleCol (headRope (View.readAt (Elt F) arg16.view (Rect.unit (s := S256x512) (k0_off47 k) S32x128.size (k0_off47_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2176] S1x128.size inb_S1x7168_S1x128_0_2176).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18))⟩,
         ⟨Rect.unit (k0_off46 k) S32x1.size (k0_off46_inb k), scaleCol (headRope (View.readAt (Elt F) arg16.view (Rect.unit (s := S256x512) (k0_off44 k) S32x128.size (k0_off44_inb k)).toLoadRect X_arg16) (View.readAt (Elt F) arg19.view (Rect.unit (s := S256x128) (k0_off45 k) S32x128.size (k0_off45_inb k)).toLoadRect X_arg19) (View.readAt (Elt F) arg5.view (Rect.unit (s := S1x7168) ![0, 2048] S1x128.size inb_S1x7168_S1x128_0_2048).toLoadRect X_arg5) (View.readAt (Elt F) arg17.view (Rect.unit (s := S256x128) (k0_off45 k) S32x128.size (k0_off45_inb k)).toLoadRect X_arg17) (View.readAt (Elt F) arg18.view (Rect.unit (s := S256x128) (k0_off45 k) S32x128.size (k0_off45_inb k)).toLoadRect X_arg18))⟩] := by
  dsimp only [tripL_k0_t6]; unfold trip_k0_t6; rfl
end

section
variable (c0_i32_39 : BitVec 32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 6 stores of the codes. -/
theorem codes_t6
    (G : S1x256x40x128.Idx → Elt Ideal .fp8e4m3)
    (hG : ∀ (row : Fin 256) (i : Fin 4) (d : Fin 128), G (ix4 (0 : Fin 1) row (⟨4 * 4 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 4 row i) d) :
    ∀ p ∈ (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t6_loop.lb k0_t6_loop.ub k0_t6_loop.st)).1, ∀ x, p.2 x = G (p.1.emb x) := by
  have hk : ∀ k : Fin k0_t6_loop.trips, k.val < 8 := by decide
  refine steps_all (N := k0_t6_loop.trips) (fun j => (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) rfl (fun k => (tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip1_t6] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 4) (hk k) 4 (by norm_num) (k0_off53_inb k) (k0_off53_eq k) _ _ _ _ (fun r d => rope_load arg16.view X_arg16 arg19.view X_arg19 arg5.view X_arg5 arg17.view X_arg17 arg18.view X_arg18 (k0_off44_inb k) (k0_off45_inb k) inb_S1x7168_S1x128_0_2048 (hk k) 4 0 (k0_off44_eq k) (k0_off45_eq k) rfl r d) (fun r d => rope_load arg16.view X_arg16 arg19.view X_arg19 arg5.view X_arg5 arg17.view X_arg17 arg18.view X_arg18 (k0_off47_inb k) (k0_off45_inb k) inb_S1x7168_S1x128_0_2176 (hk k) 4 1 (k0_off47_eq k) (k0_off45_eq k) rfl r d) (fun r d => rope_load arg16.view X_arg16 arg19.view X_arg19 arg5.view X_arg5 arg17.view X_arg17 arg18.view X_arg18 (k0_off49_inb k) (k0_off45_inb k) inb_S1x7168_S1x128_0_2304 (hk k) 4 2 (k0_off49_eq k) (k0_off45_eq k) rfl r d) (fun r d => rope_load arg16.view X_arg16 arg19.view X_arg19 arg5.view X_arg5 arg17.view X_arg17 arg18.view X_arg18 (k0_off51_inb k) (k0_off45_inb k) inb_S1x7168_S1x128_0_2432 (hk k) 4 3 (k0_off51_eq k) (k0_off45_eq k) rfl r d) hG

/-- The codes loop 6 stores cover its four heads of every row. -/
theorem cover_codes_t6  (row : Fin 256) (j : Fin 4) (d : Fin 128) :
    ∃ p ∈ (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t6_loop.lb k0_t6_loop.ub k0_t6_loop.st)).1, ix4 (0 : Fin 1) row (⟨4 * 4 + j.val, by omega⟩ : Fin 40) d ∈ p.1.set := by
  let k : Fin k0_t6_loop.trips := ⟨row.val / 32, lt_of_lt_of_le (Nat.div_lt_of_lt_mul (by omega : row.val < 32 * 8)) (by decide)⟩
  refine ⟨_, steps_mem (N := k0_t6_loop.trips) (fun j => (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).1) (fun k => (tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).1)
    (fun k => congrArg Prod.fst (pb_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k _ (by rw [trip1_t6]; exact List.mem_singleton.mpr rfl), ?_⟩
  exact mem_codes 4 (by norm_num) (k0_off53_inb k) (k0_off53_eq k) row rfl j d

/-- What loop 6 stores of the scales. -/
theorem scales_t6
    (G : S256x128.Idx → EReal)
    (hG : ∀ (i : Fin 4) (row : Fin 256), G (ix2 row (⟨4 * 4 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 4 row i)) :
    ∀ p ∈ (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t6_loop.lb k0_t6_loop.ub k0_t6_loop.st)).2, ∀ x, p.2 x = G (p.1.emb x) := by
  have hk : ∀ k : Fin k0_t6_loop.trips, k.val < 8 := by decide
  refine steps_all (N := k0_t6_loop.trips) (fun j => (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) rfl (fun k => (tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) _ ?_
  intro k p hp
  rw [trip2_t6] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 4 row 3 d) (hk k) 19 (by norm_num) (k0_off52_inb k) (k0_off52_eq k) (fun r d => rope_load arg16.view X_arg16 arg19.view X_arg19 arg5.view X_arg5 arg17.view X_arg17 arg18.view X_arg18 (k0_off51_inb k) (k0_off45_inb k) inb_S1x7168_S1x128_0_2432 (hk k) 4 3 (k0_off51_eq k) (k0_off45_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 4 row 2 d) (hk k) 18 (by norm_num) (k0_off50_inb k) (k0_off50_eq k) (fun r d => rope_load arg16.view X_arg16 arg19.view X_arg19 arg5.view X_arg5 arg17.view X_arg17 arg18.view X_arg18 (k0_off49_inb k) (k0_off45_inb k) inb_S1x7168_S1x128_0_2304 (hk k) 4 2 (k0_off49_eq k) (k0_off45_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 4 row 1 d) (hk k) 17 (by norm_num) (k0_off48_inb k) (k0_off48_eq k) (fun r d => rope_load arg16.view X_arg16 arg19.view X_arg19 arg5.view X_arg5 arg17.view X_arg17 arg18.view X_arg18 (k0_off47_inb k) (k0_off45_inb k) inb_S1x7168_S1x128_0_2176 (hk k) 4 1 (k0_off47_eq k) (k0_off45_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 4 row 0 d) (hk k) 16 (by norm_num) (k0_off46_inb k) (k0_off46_eq k) (fun r d => rope_load arg16.view X_arg16 arg19.view X_arg19 arg5.view X_arg5 arg17.view X_arg17 arg18.view X_arg18 (k0_off44_inb k) (k0_off45_inb k) inb_S1x7168_S1x128_0_2048 (hk k) 4 0 (k0_off44_eq k) (k0_off45_eq k) rfl r d) (hG 0)

/-- The scales loop 6 stores cover its four columns of every row. -/
theorem cover_scales_t6  (row : Fin 256) (j : Fin 4) :
    ∃ p ∈ (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 (Scf.trips k0_t6_loop.lb k0_t6_loop.ub k0_t6_loop.st)).2, ix2 row (⟨4 * 4 + j.val, by omega⟩ : Fin 128) ∈ p.1.set := by
  let k : Fin k0_t6_loop.trips := ⟨row.val / 32, lt_of_lt_of_le (Nat.div_lt_of_lt_mul (by omega : row.val < 32 * 8)) (by decide)⟩
  have hm := steps_mem (N := k0_t6_loop.trips) (fun j => (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 j).2) (fun k => (tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k).2)
    (fun k => congrArg Prod.snd (pb_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X_arg5 X_arg16 X_arg17 X_arg18 X_arg19 k)) k
  rw [trip2_t6] at hm
  match j with
  | ⟨3, _⟩ => exact ⟨_, hm _ (List.mem_cons_self ..), mem_scale 19 (by norm_num) (k0_off52_inb k) (k0_off52_eq k) row rfl⟩
  | ⟨2, _⟩ => exact ⟨_, hm _ (List.mem_cons_of_mem _ (List.mem_cons_self ..)), mem_scale 18 (by norm_num) (k0_off50_inb k) (k0_off50_eq k) row rfl⟩
  | ⟨1, _⟩ => exact ⟨_, hm _ (List.mem_cons_of_mem _ (List.mem_cons_of_mem _ (List.mem_cons_self ..))), mem_scale 17 (by norm_num) (k0_off48_inb k) (k0_off48_eq k) row rfl⟩
  | ⟨0, _⟩ => exact ⟨_, hm _ (List.mem_cons_of_mem _ (List.mem_cons_of_mem _ (List.mem_cons_of_mem _ (List.mem_cons_self ..)))), mem_scale 16 (by norm_num) (k0_off46_inb k) (k0_off46_eq k) row rfl⟩
end

end Cert.KernelIdeal.Gen
-- ==== Proof.TripsB.lean ====
/- The loops over the rows of a quarter chunk, for the last five chunks of the query heads: one trip, then all of them. -/
module

public import proofs.«01_k».proof.Proof.Steps

@[expose] public section

set_option maxRecDepth 16384

noncomputable section

namespace Cert.KernelIdeal.Gen

open Idealize.ShloMosaic Idealize.ShloMosaic.TcCoe Idealize.ShloMosaic.ValueIdx Cert.Qkv

variable {F : FTy → Type} [FloatOps F]
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)

section
variable (v78 : FVec F S256x512 .f32) (v79 : Vec F S256x512 .f32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t7  (k : Fin k0_t7_loop.trips) :
    (tripL_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1
      = [⟨Rect.unit (k0_off63 k) S1x32x4x128.size (k0_off63_inb k), stackOf
        (codesOf (headRope (View.readAt (Elt F) arg16.view (Rect.unit (s := S256x512) (k0_off54 k) S32x128.size (k0_off54_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2560] S1x128.size inb_S1x7168_S1x128_0_2560).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18)))
        (codesOf (headRope (View.readAt (Elt F) arg16.view (Rect.unit (s := S256x512) (k0_off57 k) S32x128.size (k0_off57_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2688] S1x128.size inb_S1x7168_S1x128_0_2688).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18)))
        (codesOf (headRope (View.readAt (Elt F) arg16.view (Rect.unit (s := S256x512) (k0_off59 k) S32x128.size (k0_off59_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2816] S1x128.size inb_S1x7168_S1x128_0_2816).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18)))
        (codesOf (headRope (View.readAt (Elt F) arg16.view (Rect.unit (s := S256x512) (k0_off61 k) S32x128.size (k0_off61_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2944] S1x128.size inb_S1x7168_S1x128_0_2944).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18)))⟩] := by
  dsimp only [tripL_k0_t7]; unfold trip_k0_t7; rfl

theorem trip2_t7  (k : Fin k0_t7_loop.trips) :
    (tripL_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2
      = [⟨Rect.unit (k0_off62 k) S32x1.size (k0_off62_inb k), scaleCol (headRope (View.readAt (Elt F) arg16.view (Rect.unit (s := S256x512) (k0_off61 k) S32x128.size (k0_off61_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2944] S1x128.size inb_S1x7168_S1x128_0_2944).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18))⟩,
         ⟨Rect.unit (k0_off60 k) S32x1.size (k0_off60_inb k), scaleCol (headRope (View.readAt (Elt F) arg16.view (Rect.unit (s := S256x512) (k0_off59 k) S32x128.size (k0_off59_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2816] S1x128.size inb_S1x7168_S1x128_0_2816).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18))⟩,
         ⟨Rect.unit (k0_off58 k) S32x1.size (k0_off58_inb k), scaleCol (headRope (View.readAt (Elt F) arg16.view (Rect.unit (s := S256x512) (k0_off57 k) S32x128.size (k0_off57_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2688] S1x128.size inb_S1x7168_S1x128_0_2688).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18))⟩,
         ⟨Rect.unit (k0_off56 k) S32x1.size (k0_off56_inb k), scaleCol (headRope (View.readAt (Elt F) arg16.view (Rect.unit (s := S256x512) (k0_off54 k) S32x128.size (k0_off54_inb k)).toLoadRect X_arg16) (View.readAt (Elt F) arg19.view (Rect.unit (s := S256x128) (k0_off55 k) S32x128.size (k0_off55_inb k)).toLoadRect X_arg19) (View.readAt (Elt F) arg5.view (Rect.unit (s := S1x7168) ![0, 2560] S1x128.size inb_S1x7168_S1x128_0_2560).toLoadRect X_arg5) (View.readAt (Elt F) arg17.view (Rect.unit (s := S256x128) (k0_off55 k) S32x128.size (k0_off55_inb k)).toLoadRect X_arg17) (View.readAt (Elt F) arg18.view (Rect.unit (s := S256x128) (k0_off55 k) S32x128.size (k0_off55_inb k)).toLoadRect X_arg18))⟩] := by
  dsimp only [tripL_k0_t7]; unfold trip_k0_t7; rfl
end

section
variable (v78 : FVec Ideal S256x512 .f32) (v79 : Vec Ideal S256x512 .f32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 7 stores of the codes. -/
theorem codes_t7
    (G : S1x256x40x128.Idx → Elt Ideal .fp8e4m3)
    (hG : ∀ (row : Fin 256) (i : Fin 4) (d : Fin 128), G (ix4 (0 : Fin 1) row (⟨4 * 5 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 5 row i) d) :
    ∀ p ∈ (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t7_loop.lb k0_t7_loop.ub k0_t7_loop.st)).1, ∀ x, p.2 x = G (p.1.emb x) := by
  have hk : ∀ k : Fin k0_t7_loop.trips, k.val < 8 := by decide
  refine steps_all (N := k0_t7_loop.trips) (fun j => (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) rfl (fun k => (tripL_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip1_t7] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 5) (hk k) 5 (by norm_num) (k0_off63_inb k) (k0_off63_eq k) _ _ _ _ (fun r d => rope_load arg16.view X_arg16 arg19.view X_arg19 arg5.view X_arg5 arg17.view X_arg17 arg18.view X_arg18 (k0_off54_inb k) (k0_off55_inb k) inb_S1x7168_S1x128_0_2560 (hk k) 5 0 (k0_off54_eq k) (k0_off55_eq k) rfl r d) (fun r d => rope_load arg16.view X_arg16 arg19.view X_arg19 arg5.view X_arg5 arg17.view X_arg17 arg18.view X_arg18 (k0_off57_inb k) (k0_off55_inb k) inb_S1x7168_S1x128_0_2688 (hk k) 5 1 (k0_off57_eq k) (k0_off55_eq k) rfl r d) (fun r d => rope_load arg16.view X_arg16 arg19.view X_arg19 arg5.view X_arg5 arg17.view X_arg17 arg18.view X_arg18 (k0_off59_inb k) (k0_off55_inb k) inb_S1x7168_S1x128_0_2816 (hk k) 5 2 (k0_off59_eq k) (k0_off55_eq k) rfl r d) (fun r d => rope_load arg16.view X_arg16 arg19.view X_arg19 arg5.view X_arg5 arg17.view X_arg17 arg18.view X_arg18 (k0_off61_inb k) (k0_off55_inb k) inb_S1x7168_S1x128_0_2944 (hk k) 5 3 (k0_off61_eq k) (k0_off55_eq k) rfl r d) hG

/-- The codes loop 7 stores cover its four heads of every row. -/
theorem cover_codes_t7  (row : Fin 256) (j : Fin 4) (d : Fin 128) :
    ∃ p ∈ (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t7_loop.lb k0_t7_loop.ub k0_t7_loop.st)).1, ix4 (0 : Fin 1) row (⟨4 * 5 + j.val, by omega⟩ : Fin 40) d ∈ p.1.set := by
  let k : Fin k0_t7_loop.trips := ⟨row.val / 32, lt_of_lt_of_le (Nat.div_lt_of_lt_mul (by omega : row.val < 32 * 8)) (by decide)⟩
  refine ⟨_, steps_mem (N := k0_t7_loop.trips) (fun j => (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) (fun k => (tripL_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k _ (by rw [trip1_t7]; exact List.mem_singleton.mpr rfl), ?_⟩
  exact mem_codes 5 (by norm_num) (k0_off63_inb k) (k0_off63_eq k) row rfl j d

/-- What loop 7 stores of the scales. -/
theorem scales_t7
    (G : S256x128.Idx → EReal)
    (hG : ∀ (i : Fin 4) (row : Fin 256), G (ix2 row (⟨4 * 5 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 5 row i)) :
    ∀ p ∈ (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t7_loop.lb k0_t7_loop.ub k0_t7_loop.st)).2, ∀ x, p.2 x = G (p.1.emb x) := by
  have hk : ∀ k : Fin k0_t7_loop.trips, k.val < 8 := by decide
  refine steps_all (N := k0_t7_loop.trips) (fun j => (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) rfl (fun k => (tripL_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip2_t7] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 5 row 3 d) (hk k) 23 (by norm_num) (k0_off62_inb k) (k0_off62_eq k) (fun r d => rope_load arg16.view X_arg16 arg19.view X_arg19 arg5.view X_arg5 arg17.view X_arg17 arg18.view X_arg18 (k0_off61_inb k) (k0_off55_inb k) inb_S1x7168_S1x128_0_2944 (hk k) 5 3 (k0_off61_eq k) (k0_off55_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 5 row 2 d) (hk k) 22 (by norm_num) (k0_off60_inb k) (k0_off60_eq k) (fun r d => rope_load arg16.view X_arg16 arg19.view X_arg19 arg5.view X_arg5 arg17.view X_arg17 arg18.view X_arg18 (k0_off59_inb k) (k0_off55_inb k) inb_S1x7168_S1x128_0_2816 (hk k) 5 2 (k0_off59_eq k) (k0_off55_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 5 row 1 d) (hk k) 21 (by norm_num) (k0_off58_inb k) (k0_off58_eq k) (fun r d => rope_load arg16.view X_arg16 arg19.view X_arg19 arg5.view X_arg5 arg17.view X_arg17 arg18.view X_arg18 (k0_off57_inb k) (k0_off55_inb k) inb_S1x7168_S1x128_0_2688 (hk k) 5 1 (k0_off57_eq k) (k0_off55_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 5 row 0 d) (hk k) 20 (by norm_num) (k0_off56_inb k) (k0_off56_eq k) (fun r d => rope_load arg16.view X_arg16 arg19.view X_arg19 arg5.view X_arg5 arg17.view X_arg17 arg18.view X_arg18 (k0_off54_inb k) (k0_off55_inb k) inb_S1x7168_S1x128_0_2560 (hk k) 5 0 (k0_off54_eq k) (k0_off55_eq k) rfl r d) (hG 0)

/-- The scales loop 7 stores cover its four columns of every row. -/
theorem cover_scales_t7  (row : Fin 256) (j : Fin 4) :
    ∃ p ∈ (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t7_loop.lb k0_t7_loop.ub k0_t7_loop.st)).2, ix2 row (⟨4 * 5 + j.val, by omega⟩ : Fin 128) ∈ p.1.set := by
  let k : Fin k0_t7_loop.trips := ⟨row.val / 32, lt_of_lt_of_le (Nat.div_lt_of_lt_mul (by omega : row.val < 32 * 8)) (by decide)⟩
  have hm := steps_mem (N := k0_t7_loop.trips) (fun j => (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) (fun k => (tripL_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k
  rw [trip2_t7] at hm
  match j with
  | ⟨3, _⟩ => exact ⟨_, hm _ (List.mem_cons_self ..), mem_scale 23 (by norm_num) (k0_off62_inb k) (k0_off62_eq k) row rfl⟩
  | ⟨2, _⟩ => exact ⟨_, hm _ (List.mem_cons_of_mem _ (List.mem_cons_self ..)), mem_scale 22 (by norm_num) (k0_off60_inb k) (k0_off60_eq k) row rfl⟩
  | ⟨1, _⟩ => exact ⟨_, hm _ (List.mem_cons_of_mem _ (List.mem_cons_of_mem _ (List.mem_cons_self ..))), mem_scale 21 (by norm_num) (k0_off58_inb k) (k0_off58_eq k) row rfl⟩
  | ⟨0, _⟩ => exact ⟨_, hm _ (List.mem_cons_of_mem _ (List.mem_cons_of_mem _ (List.mem_cons_of_mem _ (List.mem_cons_self ..)))), mem_scale 20 (by norm_num) (k0_off56_inb k) (k0_off56_eq k) row rfl⟩
end

section
variable (v78 : FVec F S256x512 .f32) (v79 : Vec F S256x512 .f32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t8  (k : Fin k0_t8_loop.trips) :
    (tripL_k0_t8 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1
      = [⟨Rect.unit (k0_off73 k) S1x32x4x128.size (k0_off73_inb k), stackOf
        (codesOf (headRope (View.readAt (Elt F) arg16.view (Rect.unit (s := S256x512) (k0_off64 k) S32x128.size (k0_off64_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3072] S1x128.size inb_S1x7168_S1x128_0_3072).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18)))
        (codesOf (headRope (View.readAt (Elt F) arg16.view (Rect.unit (s := S256x512) (k0_off67 k) S32x128.size (k0_off67_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3200] S1x128.size inb_S1x7168_S1x128_0_3200).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18)))
        (codesOf (headRope (View.readAt (Elt F) arg16.view (Rect.unit (s := S256x512) (k0_off69 k) S32x128.size (k0_off69_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3328] S1x128.size inb_S1x7168_S1x128_0_3328).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18)))
        (codesOf (headRope (View.readAt (Elt F) arg16.view (Rect.unit (s := S256x512) (k0_off71 k) S32x128.size (k0_off71_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3456] S1x128.size inb_S1x7168_S1x128_0_3456).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18)))⟩] := by
  dsimp only [tripL_k0_t8]; unfold trip_k0_t8; rfl

theorem trip2_t8  (k : Fin k0_t8_loop.trips) :
    (tripL_k0_t8 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2
      = [⟨Rect.unit (k0_off72 k) S32x1.size (k0_off72_inb k), scaleCol (headRope (View.readAt (Elt F) arg16.view (Rect.unit (s := S256x512) (k0_off71 k) S32x128.size (k0_off71_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3456] S1x128.size inb_S1x7168_S1x128_0_3456).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18))⟩,
         ⟨Rect.unit (k0_off70 k) S32x1.size (k0_off70_inb k), scaleCol (headRope (View.readAt (Elt F) arg16.view (Rect.unit (s := S256x512) (k0_off69 k) S32x128.size (k0_off69_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3328] S1x128.size inb_S1x7168_S1x128_0_3328).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18))⟩,
         ⟨Rect.unit (k0_off68 k) S32x1.size (k0_off68_inb k), scaleCol (headRope (View.readAt (Elt F) arg16.view (Rect.unit (s := S256x512) (k0_off67 k) S32x128.size (k0_off67_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3200] S1x128.size inb_S1x7168_S1x128_0_3200).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18))⟩,
         ⟨Rect.unit (k0_off66 k) S32x1.size (k0_off66_inb k), scaleCol (headRope (View.readAt (Elt F) arg16.view (Rect.unit (s := S256x512) (k0_off64 k) S32x128.size (k0_off64_inb k)).toLoadRect X_arg16) (View.readAt (Elt F) arg19.view (Rect.unit (s := S256x128) (k0_off65 k) S32x128.size (k0_off65_inb k)).toLoadRect X_arg19) (View.readAt (Elt F) arg5.view (Rect.unit (s := S1x7168) ![0, 3072] S1x128.size inb_S1x7168_S1x128_0_3072).toLoadRect X_arg5) (View.readAt (Elt F) arg17.view (Rect.unit (s := S256x128) (k0_off65 k) S32x128.size (k0_off65_inb k)).toLoadRect X_arg17) (View.readAt (Elt F) arg18.view (Rect.unit (s := S256x128) (k0_off65 k) S32x128.size (k0_off65_inb k)).toLoadRect X_arg18))⟩] := by
  dsimp only [tripL_k0_t8]; unfold trip_k0_t8; rfl
end

section
variable (v78 : FVec Ideal S256x512 .f32) (v79 : Vec Ideal S256x512 .f32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 8 stores of the codes. -/
theorem codes_t8
    (G : S1x256x40x128.Idx → Elt Ideal .fp8e4m3)
    (hG : ∀ (row : Fin 256) (i : Fin 4) (d : Fin 128), G (ix4 (0 : Fin 1) row (⟨4 * 6 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 6 row i) d) :
    ∀ p ∈ (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t8_loop.lb k0_t8_loop.ub k0_t8_loop.st)).1, ∀ x, p.2 x = G (p.1.emb x) := by
  have hk : ∀ k : Fin k0_t8_loop.trips, k.val < 8 := by decide
  refine steps_all (N := k0_t8_loop.trips) (fun j => (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) rfl (fun k => (tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip1_t8] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 6) (hk k) 6 (by norm_num) (k0_off73_inb k) (k0_off73_eq k) _ _ _ _ (fun r d => rope_load arg16.view X_arg16 arg19.view X_arg19 arg5.view X_arg5 arg17.view X_arg17 arg18.view X_arg18 (k0_off64_inb k) (k0_off65_inb k) inb_S1x7168_S1x128_0_3072 (hk k) 6 0 (k0_off64_eq k) (k0_off65_eq k) rfl r d) (fun r d => rope_load arg16.view X_arg16 arg19.view X_arg19 arg5.view X_arg5 arg17.view X_arg17 arg18.view X_arg18 (k0_off67_inb k) (k0_off65_inb k) inb_S1x7168_S1x128_0_3200 (hk k) 6 1 (k0_off67_eq k) (k0_off65_eq k) rfl r d) (fun r d => rope_load arg16.view X_arg16 arg19.view X_arg19 arg5.view X_arg5 arg17.view X_arg17 arg18.view X_arg18 (k0_off69_inb k) (k0_off65_inb k) inb_S1x7168_S1x128_0_3328 (hk k) 6 2 (k0_off69_eq k) (k0_off65_eq k) rfl r d) (fun r d => rope_load arg16.view X_arg16 arg19.view X_arg19 arg5.view X_arg5 arg17.view X_arg17 arg18.view X_arg18 (k0_off71_inb k) (k0_off65_inb k) inb_S1x7168_S1x128_0_3456 (hk k) 6 3 (k0_off71_eq k) (k0_off65_eq k) rfl r d) hG

/-- The codes loop 8 stores cover its four heads of every row. -/
theorem cover_codes_t8  (row : Fin 256) (j : Fin 4) (d : Fin 128) :
    ∃ p ∈ (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t8_loop.lb k0_t8_loop.ub k0_t8_loop.st)).1, ix4 (0 : Fin 1) row (⟨4 * 6 + j.val, by omega⟩ : Fin 40) d ∈ p.1.set := by
  let k : Fin k0_t8_loop.trips := ⟨row.val / 32, lt_of_lt_of_le (Nat.div_lt_of_lt_mul (by omega : row.val < 32 * 8)) (by decide)⟩
  refine ⟨_, steps_mem (N := k0_t8_loop.trips) (fun j => (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) (fun k => (tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k _ (by rw [trip1_t8]; exact List.mem_singleton.mpr rfl), ?_⟩
  exact mem_codes 6 (by norm_num) (k0_off73_inb k) (k0_off73_eq k) row rfl j d

/-- What loop 8 stores of the scales. -/
theorem scales_t8
    (G : S256x128.Idx → EReal)
    (hG : ∀ (i : Fin 4) (row : Fin 256), G (ix2 row (⟨4 * 6 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 6 row i)) :
    ∀ p ∈ (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t8_loop.lb k0_t8_loop.ub k0_t8_loop.st)).2, ∀ x, p.2 x = G (p.1.emb x) := by
  have hk : ∀ k : Fin k0_t8_loop.trips, k.val < 8 := by decide
  refine steps_all (N := k0_t8_loop.trips) (fun j => (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) rfl (fun k => (tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip2_t8] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 6 row 3 d) (hk k) 27 (by norm_num) (k0_off72_inb k) (k0_off72_eq k) (fun r d => rope_load arg16.view X_arg16 arg19.view X_arg19 arg5.view X_arg5 arg17.view X_arg17 arg18.view X_arg18 (k0_off71_inb k) (k0_off65_inb k) inb_S1x7168_S1x128_0_3456 (hk k) 6 3 (k0_off71_eq k) (k0_off65_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 6 row 2 d) (hk k) 26 (by norm_num) (k0_off70_inb k) (k0_off70_eq k) (fun r d => rope_load arg16.view X_arg16 arg19.view X_arg19 arg5.view X_arg5 arg17.view X_arg17 arg18.view X_arg18 (k0_off69_inb k) (k0_off65_inb k) inb_S1x7168_S1x128_0_3328 (hk k) 6 2 (k0_off69_eq k) (k0_off65_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 6 row 1 d) (hk k) 25 (by norm_num) (k0_off68_inb k) (k0_off68_eq k) (fun r d => rope_load arg16.view X_arg16 arg19.view X_arg19 arg5.view X_arg5 arg17.view X_arg17 arg18.view X_arg18 (k0_off67_inb k) (k0_off65_inb k) inb_S1x7168_S1x128_0_3200 (hk k) 6 1 (k0_off67_eq k) (k0_off65_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 6 row 0 d) (hk k) 24 (by norm_num) (k0_off66_inb k) (k0_off66_eq k) (fun r d => rope_load arg16.view X_arg16 arg19.view X_arg19 arg5.view X_arg5 arg17.view X_arg17 arg18.view X_arg18 (k0_off64_inb k) (k0_off65_inb k) inb_S1x7168_S1x128_0_3072 (hk k) 6 0 (k0_off64_eq k) (k0_off65_eq k) rfl r d) (hG 0)

/-- The scales loop 8 stores cover its four columns of every row. -/
theorem cover_scales_t8  (row : Fin 256) (j : Fin 4) :
    ∃ p ∈ (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t8_loop.lb k0_t8_loop.ub k0_t8_loop.st)).2, ix2 row (⟨4 * 6 + j.val, by omega⟩ : Fin 128) ∈ p.1.set := by
  let k : Fin k0_t8_loop.trips := ⟨row.val / 32, lt_of_lt_of_le (Nat.div_lt_of_lt_mul (by omega : row.val < 32 * 8)) (by decide)⟩
  have hm := steps_mem (N := k0_t8_loop.trips) (fun j => (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) (fun k => (tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k
  rw [trip2_t8] at hm
  match j with
  | ⟨3, _⟩ => exact ⟨_, hm _ (List.mem_cons_self ..), mem_scale 27 (by norm_num) (k0_off72_inb k) (k0_off72_eq k) row rfl⟩
  | ⟨2, _⟩ => exact ⟨_, hm _ (List.mem_cons_of_mem _ (List.mem_cons_self ..)), mem_scale 26 (by norm_num) (k0_off70_inb k) (k0_off70_eq k) row rfl⟩
  | ⟨1, _⟩ => exact ⟨_, hm _ (List.mem_cons_of_mem _ (List.mem_cons_of_mem _ (List.mem_cons_self ..))), mem_scale 25 (by norm_num) (k0_off68_inb k) (k0_off68_eq k) row rfl⟩
  | ⟨0, _⟩ => exact ⟨_, hm _ (List.mem_cons_of_mem _ (List.mem_cons_of_mem _ (List.mem_cons_of_mem _ (List.mem_cons_self ..)))), mem_scale 24 (by norm_num) (k0_off66_inb k) (k0_off66_eq k) row rfl⟩
end

section
variable (v78 : FVec F S256x512 .f32) (v79 : Vec F S256x512 .f32) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t9  (k : Fin k0_t9_loop.trips) :
    (tripL_k0_t9 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1
      = [⟨Rect.unit (k0_off83 k) S1x32x4x128.size (k0_off83_inb k), stackOf
        (codesOf (headRope (View.readAt (Elt F) arg16.view (Rect.unit (s := S256x512) (k0_off74 k) S32x128.size (k0_off74_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3584] S1x128.size inb_S1x7168_S1x128_0_3584).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18)))
        (codesOf (headRope (View.readAt (Elt F) arg16.view (Rect.unit (s := S256x512) (k0_off77 k) S32x128.size (k0_off77_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3712] S1x128.size inb_S1x7168_S1x128_0_3712).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18)))
        (codesOf (headRope (View.readAt (Elt F) arg16.view (Rect.unit (s := S256x512) (k0_off79 k) S32x128.size (k0_off79_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3840] S1x128.size inb_S1x7168_S1x128_0_3840).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18)))
        (codesOf (headRope (View.readAt (Elt F) arg16.view (Rect.unit (s := S256x512) (k0_off81 k) S32x128.size (k0_off81_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3968] S1x128.size inb_S1x7168_S1x128_0_3968).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18)))⟩] := by
  dsimp only [tripL_k0_t9]; unfold trip_k0_t9; rfl

theorem trip2_t9  (k : Fin k0_t9_loop.trips) :
    (tripL_k0_t9 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2
      = [⟨Rect.unit (k0_off82 k) S32x1.size (k0_off82_inb k), scaleCol (headRope (View.readAt (Elt F) arg16.view (Rect.unit (s := S256x512) (k0_off81 k) S32x128.size (k0_off81_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3968] S1x128.size inb_S1x7168_S1x128_0_3968).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18))⟩,
         ⟨Rect.unit (k0_off80 k) S32x1.size (k0_off80_inb k), scaleCol (headRope (View.readAt (Elt F) arg16.view (Rect.unit (s := S256x512) (k0_off79 k) S32x128.size (k0_off79_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3840] S1x128.size inb_S1x7168_S1x128_0_3840).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18))⟩,
         ⟨Rect.unit (k0_off78 k) S32x1.size (k0_off78_inb k), scaleCol (headRope (View.readAt (Elt F) arg16.view (Rect.unit (s := S256x512) (k0_off77 k) S32x128.size (k0_off77_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3712] S1x128.size inb_S1x7168_S1x128_0_3712).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18))⟩,
         ⟨Rect.unit (k0_off76 k) S32x1.size (k0_off76_inb k), scaleCol (headRope (View.readAt (Elt F) arg16.view (Rect.unit (s := S256x512) (k0_off74 k) S32x128.size (k0_off74_inb k)).toLoadRect X_arg16) (View.readAt (Elt F) arg19.view (Rect.unit (s := S256x128) (k0_off75 k) S32x128.size (k0_off75_inb k)).toLoadRect X_arg19) (View.readAt (Elt F) arg5.view (Rect.unit (s := S1x7168) ![0, 3584] S1x128.size inb_S1x7168_S1x128_0_3584).toLoadRect X_arg5) (View.readAt (Elt F) arg17.view (Rect.unit (s := S256x128) (k0_off75 k) S32x128.size (k0_off75_inb k)).toLoadRect X_arg17) (View.readAt (Elt F) arg18.view (Rect.unit (s := S256x128) (k0_off75 k) S32x128.size (k0_off75_inb k)).toLoadRect X_arg18))⟩] := by
  dsimp only [tripL_k0_t9]; unfold trip_k0_t9; rfl
end

section
variable (v78 : FVec Ideal S256x512 .f32) (v79 : Vec Ideal S256x512 .f32) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 9 stores of the codes. -/
theorem codes_t9
    (G : S1x256x40x128.Idx → Elt Ideal .fp8e4m3)
    (hG : ∀ (row : Fin 256) (i : Fin 4) (d : Fin 128), G (ix4 (0 : Fin 1) row (⟨4 * 7 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 7 row i) d) :
    ∀ p ∈ (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t9_loop.lb k0_t9_loop.ub k0_t9_loop.st)).1, ∀ x, p.2 x = G (p.1.emb x) := by
  have hk : ∀ k : Fin k0_t9_loop.trips, k.val < 8 := by decide
  refine steps_all (N := k0_t9_loop.trips) (fun j => (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) rfl (fun k => (tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip1_t9] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 7) (hk k) 7 (by norm_num) (k0_off83_inb k) (k0_off83_eq k) _ _ _ _ (fun r d => rope_load arg16.view X_arg16 arg19.view X_arg19 arg5.view X_arg5 arg17.view X_arg17 arg18.view X_arg18 (k0_off74_inb k) (k0_off75_inb k) inb_S1x7168_S1x128_0_3584 (hk k) 7 0 (k0_off74_eq k) (k0_off75_eq k) rfl r d) (fun r d => rope_load arg16.view X_arg16 arg19.view X_arg19 arg5.view X_arg5 arg17.view X_arg17 arg18.view X_arg18 (k0_off77_inb k) (k0_off75_inb k) inb_S1x7168_S1x128_0_3712 (hk k) 7 1 (k0_off77_eq k) (k0_off75_eq k) rfl r d) (fun r d => rope_load arg16.view X_arg16 arg19.view X_arg19 arg5.view X_arg5 arg17.view X_arg17 arg18.view X_arg18 (k0_off79_inb k) (k0_off75_inb k) inb_S1x7168_S1x128_0_3840 (hk k) 7 2 (k0_off79_eq k) (k0_off75_eq k) rfl r d) (fun r d => rope_load arg16.view X_arg16 arg19.view X_arg19 arg5.view X_arg5 arg17.view X_arg17 arg18.view X_arg18 (k0_off81_inb k) (k0_off75_inb k) inb_S1x7168_S1x128_0_3968 (hk k) 7 3 (k0_off81_eq k) (k0_off75_eq k) rfl r d) hG

/-- The codes loop 9 stores cover its four heads of every row. -/
theorem cover_codes_t9  (row : Fin 256) (j : Fin 4) (d : Fin 128) :
    ∃ p ∈ (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t9_loop.lb k0_t9_loop.ub k0_t9_loop.st)).1, ix4 (0 : Fin 1) row (⟨4 * 7 + j.val, by omega⟩ : Fin 40) d ∈ p.1.set := by
  let k : Fin k0_t9_loop.trips := ⟨row.val / 32, lt_of_lt_of_le (Nat.div_lt_of_lt_mul (by omega : row.val < 32 * 8)) (by decide)⟩
  refine ⟨_, steps_mem (N := k0_t9_loop.trips) (fun j => (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).1) (fun k => (tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).1)
    (fun k => congrArg Prod.fst (pb_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k _ (by rw [trip1_t9]; exact List.mem_singleton.mpr rfl), ?_⟩
  exact mem_codes 7 (by norm_num) (k0_off83_inb k) (k0_off83_eq k) row rfl j d

/-- What loop 9 stores of the scales. -/
theorem scales_t9
    (G : S256x128.Idx → EReal)
    (hG : ∀ (i : Fin 4) (row : Fin 256), G (ix2 row (⟨4 * 7 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 7 row i)) :
    ∀ p ∈ (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t9_loop.lb k0_t9_loop.ub k0_t9_loop.st)).2, ∀ x, p.2 x = G (p.1.emb x) := by
  have hk : ∀ k : Fin k0_t9_loop.trips, k.val < 8 := by decide
  refine steps_all (N := k0_t9_loop.trips) (fun j => (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) rfl (fun k => (tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) _ ?_
  intro k p hp
  rw [trip2_t9] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 7 row 3 d) (hk k) 31 (by norm_num) (k0_off82_inb k) (k0_off82_eq k) (fun r d => rope_load arg16.view X_arg16 arg19.view X_arg19 arg5.view X_arg5 arg17.view X_arg17 arg18.view X_arg18 (k0_off81_inb k) (k0_off75_inb k) inb_S1x7168_S1x128_0_3968 (hk k) 7 3 (k0_off81_eq k) (k0_off75_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 7 row 2 d) (hk k) 30 (by norm_num) (k0_off80_inb k) (k0_off80_eq k) (fun r d => rope_load arg16.view X_arg16 arg19.view X_arg19 arg5.view X_arg5 arg17.view X_arg17 arg18.view X_arg18 (k0_off79_inb k) (k0_off75_inb k) inb_S1x7168_S1x128_0_3840 (hk k) 7 2 (k0_off79_eq k) (k0_off75_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 7 row 1 d) (hk k) 29 (by norm_num) (k0_off78_inb k) (k0_off78_eq k) (fun r d => rope_load arg16.view X_arg16 arg19.view X_arg19 arg5.view X_arg5 arg17.view X_arg17 arg18.view X_arg18 (k0_off77_inb k) (k0_off75_inb k) inb_S1x7168_S1x128_0_3712 (hk k) 7 1 (k0_off77_eq k) (k0_off75_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 7 row 0 d) (hk k) 28 (by norm_num) (k0_off76_inb k) (k0_off76_eq k) (fun r d => rope_load arg16.view X_arg16 arg19.view X_arg19 arg5.view X_arg5 arg17.view X_arg17 arg18.view X_arg18 (k0_off74_inb k) (k0_off75_inb k) inb_S1x7168_S1x128_0_3584 (hk k) 7 0 (k0_off74_eq k) (k0_off75_eq k) rfl r d) (hG 0)

/-- The scales loop 9 stores cover its four columns of every row. -/
theorem cover_scales_t9  (row : Fin 256) (j : Fin 4) :
    ∃ p ∈ (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 (Scf.trips k0_t9_loop.lb k0_t9_loop.ub k0_t9_loop.st)).2, ix2 row (⟨4 * 7 + j.val, by omega⟩ : Fin 128) ∈ p.1.set := by
  let k : Fin k0_t9_loop.trips := ⟨row.val / 32, lt_of_lt_of_le (Nat.div_lt_of_lt_mul (by omega : row.val < 32 * 8)) (by decide)⟩
  have hm := steps_mem (N := k0_t9_loop.trips) (fun j => (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 j).2) (fun k => (tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k).2)
    (fun k => congrArg Prod.snd (pb_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X_arg5 X_arg16 X_arg17 X_arg18 X_arg19 k)) k
  rw [trip2_t9] at hm
  match j with
  | ⟨3, _⟩ => exact ⟨_, hm _ (List.mem_cons_self ..), mem_scale 31 (by norm_num) (k0_off82_inb k) (k0_off82_eq k) row rfl⟩
  | ⟨2, _⟩ => exact ⟨_, hm _ (List.mem_cons_of_mem _ (List.mem_cons_self ..)), mem_scale 30 (by norm_num) (k0_off80_inb k) (k0_off80_eq k) row rfl⟩
  | ⟨1, _⟩ => exact ⟨_, hm _ (List.mem_cons_of_mem _ (List.mem_cons_of_mem _ (List.mem_cons_self ..))), mem_scale 29 (by norm_num) (k0_off78_inb k) (k0_off78_eq k) row rfl⟩
  | ⟨0, _⟩ => exact ⟨_, hm _ (List.mem_cons_of_mem _ (List.mem_cons_of_mem _ (List.mem_cons_of_mem _ (List.mem_cons_self ..)))), mem_scale 28 (by norm_num) (k0_off76_inb k) (k0_off76_eq k) row rfl⟩
end

section
variable (v100 : FVec F S256x5120 .fp8e4m3) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t10  (k : Fin k0_t10_loop.trips) :
    (tripL_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1
      = [⟨Rect.unit (k0_off93 k) S1x32x4x128.size (k0_off93_inb k), stackOf
        (codesOf (headRope (View.readAt (Elt F) arg16.view (Rect.unit (s := S256x512) (k0_off84 k) S32x128.size (k0_off84_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4096] S1x128.size inb_S1x7168_S1x128_0_4096).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18)))
        (codesOf (headRope (View.readAt (Elt F) arg16.view (Rect.unit (s := S256x512) (k0_off87 k) S32x128.size (k0_off87_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4224] S1x128.size inb_S1x7168_S1x128_0_4224).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18)))
        (codesOf (headRope (View.readAt (Elt F) arg16.view (Rect.unit (s := S256x512) (k0_off89 k) S32x128.size (k0_off89_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4352] S1x128.size inb_S1x7168_S1x128_0_4352).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18)))
        (codesOf (headRope (View.readAt (Elt F) arg16.view (Rect.unit (s := S256x512) (k0_off91 k) S32x128.size (k0_off91_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4480] S1x128.size inb_S1x7168_S1x128_0_4480).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18)))⟩] := by
  dsimp only [tripL_k0_t10]; unfold trip_k0_t10; rfl

theorem trip2_t10  (k : Fin k0_t10_loop.trips) :
    (tripL_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2
      = [⟨Rect.unit (k0_off92 k) S32x1.size (k0_off92_inb k), scaleCol (headRope (View.readAt (Elt F) arg16.view (Rect.unit (s := S256x512) (k0_off91 k) S32x128.size (k0_off91_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4480] S1x128.size inb_S1x7168_S1x128_0_4480).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18))⟩,
         ⟨Rect.unit (k0_off90 k) S32x1.size (k0_off90_inb k), scaleCol (headRope (View.readAt (Elt F) arg16.view (Rect.unit (s := S256x512) (k0_off89 k) S32x128.size (k0_off89_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4352] S1x128.size inb_S1x7168_S1x128_0_4352).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18))⟩,
         ⟨Rect.unit (k0_off88 k) S32x1.size (k0_off88_inb k), scaleCol (headRope (View.readAt (Elt F) arg16.view (Rect.unit (s := S256x512) (k0_off87 k) S32x128.size (k0_off87_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4224] S1x128.size inb_S1x7168_S1x128_0_4224).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18))⟩,
         ⟨Rect.unit (k0_off86 k) S32x1.size (k0_off86_inb k), scaleCol (headRope (View.readAt (Elt F) arg16.view (Rect.unit (s := S256x512) (k0_off84 k) S32x128.size (k0_off84_inb k)).toLoadRect X_arg16) (View.readAt (Elt F) arg19.view (Rect.unit (s := S256x128) (k0_off85 k) S32x128.size (k0_off85_inb k)).toLoadRect X_arg19) (View.readAt (Elt F) arg5.view (Rect.unit (s := S1x7168) ![0, 4096] S1x128.size inb_S1x7168_S1x128_0_4096).toLoadRect X_arg5) (View.readAt (Elt F) arg17.view (Rect.unit (s := S256x128) (k0_off85 k) S32x128.size (k0_off85_inb k)).toLoadRect X_arg17) (View.readAt (Elt F) arg18.view (Rect.unit (s := S256x128) (k0_off85 k) S32x128.size (k0_off85_inb k)).toLoadRect X_arg18))⟩] := by
  dsimp only [tripL_k0_t10]; unfold trip_k0_t10; rfl
end

section
variable (v100 : FVec Ideal S256x5120 .fp8e4m3) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 10 stores of the codes. -/
theorem codes_t10
    (G : S1x256x40x128.Idx → Elt Ideal .fp8e4m3)
    (hG : ∀ (row : Fin 256) (i : Fin 4) (d : Fin 128), G (ix4 (0 : Fin 1) row (⟨4 * 8 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 8 row i) d) :
    ∀ p ∈ (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t10_loop.lb k0_t10_loop.ub k0_t10_loop.st)).1, ∀ x, p.2 x = G (p.1.emb x) := by
  have hk : ∀ k : Fin k0_t10_loop.trips, k.val < 8 := by decide
  refine steps_all (N := k0_t10_loop.trips) (fun j => (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) rfl (fun k => (tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip1_t10] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 8) (hk k) 8 (by norm_num) (k0_off93_inb k) (k0_off93_eq k) _ _ _ _ (fun r d => rope_load arg16.view X_arg16 arg19.view X_arg19 arg5.view X_arg5 arg17.view X_arg17 arg18.view X_arg18 (k0_off84_inb k) (k0_off85_inb k) inb_S1x7168_S1x128_0_4096 (hk k) 8 0 (k0_off84_eq k) (k0_off85_eq k) rfl r d) (fun r d => rope_load arg16.view X_arg16 arg19.view X_arg19 arg5.view X_arg5 arg17.view X_arg17 arg18.view X_arg18 (k0_off87_inb k) (k0_off85_inb k) inb_S1x7168_S1x128_0_4224 (hk k) 8 1 (k0_off87_eq k) (k0_off85_eq k) rfl r d) (fun r d => rope_load arg16.view X_arg16 arg19.view X_arg19 arg5.view X_arg5 arg17.view X_arg17 arg18.view X_arg18 (k0_off89_inb k) (k0_off85_inb k) inb_S1x7168_S1x128_0_4352 (hk k) 8 2 (k0_off89_eq k) (k0_off85_eq k) rfl r d) (fun r d => rope_load arg16.view X_arg16 arg19.view X_arg19 arg5.view X_arg5 arg17.view X_arg17 arg18.view X_arg18 (k0_off91_inb k) (k0_off85_inb k) inb_S1x7168_S1x128_0_4480 (hk k) 8 3 (k0_off91_eq k) (k0_off85_eq k) rfl r d) hG

/-- The codes loop 10 stores cover its four heads of every row. -/
theorem cover_codes_t10  (row : Fin 256) (j : Fin 4) (d : Fin 128) :
    ∃ p ∈ (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t10_loop.lb k0_t10_loop.ub k0_t10_loop.st)).1, ix4 (0 : Fin 1) row (⟨4 * 8 + j.val, by omega⟩ : Fin 40) d ∈ p.1.set := by
  let k : Fin k0_t10_loop.trips := ⟨row.val / 32, lt_of_lt_of_le (Nat.div_lt_of_lt_mul (by omega : row.val < 32 * 8)) (by decide)⟩
  refine ⟨_, steps_mem (N := k0_t10_loop.trips) (fun j => (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) (fun k => (tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k _ (by rw [trip1_t10]; exact List.mem_singleton.mpr rfl), ?_⟩
  exact mem_codes 8 (by norm_num) (k0_off93_inb k) (k0_off93_eq k) row rfl j d

/-- What loop 10 stores of the scales. -/
theorem scales_t10
    (G : S256x128.Idx → EReal)
    (hG : ∀ (i : Fin 4) (row : Fin 256), G (ix2 row (⟨4 * 8 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 8 row i)) :
    ∀ p ∈ (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t10_loop.lb k0_t10_loop.ub k0_t10_loop.st)).2, ∀ x, p.2 x = G (p.1.emb x) := by
  have hk : ∀ k : Fin k0_t10_loop.trips, k.val < 8 := by decide
  refine steps_all (N := k0_t10_loop.trips) (fun j => (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) rfl (fun k => (tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip2_t10] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 8 row 3 d) (hk k) 35 (by norm_num) (k0_off92_inb k) (k0_off92_eq k) (fun r d => rope_load arg16.view X_arg16 arg19.view X_arg19 arg5.view X_arg5 arg17.view X_arg17 arg18.view X_arg18 (k0_off91_inb k) (k0_off85_inb k) inb_S1x7168_S1x128_0_4480 (hk k) 8 3 (k0_off91_eq k) (k0_off85_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 8 row 2 d) (hk k) 34 (by norm_num) (k0_off90_inb k) (k0_off90_eq k) (fun r d => rope_load arg16.view X_arg16 arg19.view X_arg19 arg5.view X_arg5 arg17.view X_arg17 arg18.view X_arg18 (k0_off89_inb k) (k0_off85_inb k) inb_S1x7168_S1x128_0_4352 (hk k) 8 2 (k0_off89_eq k) (k0_off85_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 8 row 1 d) (hk k) 33 (by norm_num) (k0_off88_inb k) (k0_off88_eq k) (fun r d => rope_load arg16.view X_arg16 arg19.view X_arg19 arg5.view X_arg5 arg17.view X_arg17 arg18.view X_arg18 (k0_off87_inb k) (k0_off85_inb k) inb_S1x7168_S1x128_0_4224 (hk k) 8 1 (k0_off87_eq k) (k0_off85_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 8 row 0 d) (hk k) 32 (by norm_num) (k0_off86_inb k) (k0_off86_eq k) (fun r d => rope_load arg16.view X_arg16 arg19.view X_arg19 arg5.view X_arg5 arg17.view X_arg17 arg18.view X_arg18 (k0_off84_inb k) (k0_off85_inb k) inb_S1x7168_S1x128_0_4096 (hk k) 8 0 (k0_off84_eq k) (k0_off85_eq k) rfl r d) (hG 0)

/-- The scales loop 10 stores cover its four columns of every row. -/
theorem cover_scales_t10  (row : Fin 256) (j : Fin 4) :
    ∃ p ∈ (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t10_loop.lb k0_t10_loop.ub k0_t10_loop.st)).2, ix2 row (⟨4 * 8 + j.val, by omega⟩ : Fin 128) ∈ p.1.set := by
  let k : Fin k0_t10_loop.trips := ⟨row.val / 32, lt_of_lt_of_le (Nat.div_lt_of_lt_mul (by omega : row.val < 32 * 8)) (by decide)⟩
  have hm := steps_mem (N := k0_t10_loop.trips) (fun j => (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) (fun k => (tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k
  rw [trip2_t10] at hm
  match j with
  | ⟨3, _⟩ => exact ⟨_, hm _ (List.mem_cons_self ..), mem_scale 35 (by norm_num) (k0_off92_inb k) (k0_off92_eq k) row rfl⟩
  | ⟨2, _⟩ => exact ⟨_, hm _ (List.mem_cons_of_mem _ (List.mem_cons_self ..)), mem_scale 34 (by norm_num) (k0_off90_inb k) (k0_off90_eq k) row rfl⟩
  | ⟨1, _⟩ => exact ⟨_, hm _ (List.mem_cons_of_mem _ (List.mem_cons_of_mem _ (List.mem_cons_self ..))), mem_scale 33 (by norm_num) (k0_off88_inb k) (k0_off88_eq k) row rfl⟩
  | ⟨0, _⟩ => exact ⟨_, hm _ (List.mem_cons_of_mem _ (List.mem_cons_of_mem _ (List.mem_cons_of_mem _ (List.mem_cons_self ..)))), mem_scale 32 (by norm_num) (k0_off86_inb k) (k0_off86_eq k) row rfl⟩
end

section
variable (v100 : FVec F S256x5120 .fp8e4m3) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t11  (k : Fin k0_t11_loop.trips) :
    (tripL_k0_t11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1
      = [⟨Rect.unit (k0_off103 k) S1x32x4x128.size (k0_off103_inb k), stackOf
        (codesOf (headRope (View.readAt (Elt F) arg16.view (Rect.unit (s := S256x512) (k0_off94 k) S32x128.size (k0_off94_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4608] S1x128.size inb_S1x7168_S1x128_0_4608).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18)))
        (codesOf (headRope (View.readAt (Elt F) arg16.view (Rect.unit (s := S256x512) (k0_off97 k) S32x128.size (k0_off97_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4736] S1x128.size inb_S1x7168_S1x128_0_4736).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18)))
        (codesOf (headRope (View.readAt (Elt F) arg16.view (Rect.unit (s := S256x512) (k0_off99 k) S32x128.size (k0_off99_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4864] S1x128.size inb_S1x7168_S1x128_0_4864).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18)))
        (codesOf (headRope (View.readAt (Elt F) arg16.view (Rect.unit (s := S256x512) (k0_off101 k) S32x128.size (k0_off101_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4992] S1x128.size inb_S1x7168_S1x128_0_4992).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18)))⟩] := by
  dsimp only [tripL_k0_t11]; unfold trip_k0_t11; rfl

theorem trip2_t11  (k : Fin k0_t11_loop.trips) :
    (tripL_k0_t11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2
      = [⟨Rect.unit (k0_off102 k) S32x1.size (k0_off102_inb k), scaleCol (headRope (View.readAt (Elt F) arg16.view (Rect.unit (s := S256x512) (k0_off101 k) S32x128.size (k0_off101_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4992] S1x128.size inb_S1x7168_S1x128_0_4992).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18))⟩,
         ⟨Rect.unit (k0_off100 k) S32x1.size (k0_off100_inb k), scaleCol (headRope (View.readAt (Elt F) arg16.view (Rect.unit (s := S256x512) (k0_off99 k) S32x128.size (k0_off99_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4864] S1x128.size inb_S1x7168_S1x128_0_4864).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18))⟩,
         ⟨Rect.unit (k0_off98 k) S32x1.size (k0_off98_inb k), scaleCol (headRope (View.readAt (Elt F) arg16.view (Rect.unit (s := S256x512) (k0_off97 k) S32x128.size (k0_off97_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4736] S1x128.size inb_S1x7168_S1x128_0_4736).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18))⟩,
         ⟨Rect.unit (k0_off96 k) S32x1.size (k0_off96_inb k), scaleCol (headRope (View.readAt (Elt F) arg16.view (Rect.unit (s := S256x512) (k0_off94 k) S32x128.size (k0_off94_inb k)).toLoadRect X_arg16) (View.readAt (Elt F) arg19.view (Rect.unit (s := S256x128) (k0_off95 k) S32x128.size (k0_off95_inb k)).toLoadRect X_arg19) (View.readAt (Elt F) arg5.view (Rect.unit (s := S1x7168) ![0, 4608] S1x128.size inb_S1x7168_S1x128_0_4608).toLoadRect X_arg5) (View.readAt (Elt F) arg17.view (Rect.unit (s := S256x128) (k0_off95 k) S32x128.size (k0_off95_inb k)).toLoadRect X_arg17) (View.readAt (Elt F) arg18.view (Rect.unit (s := S256x128) (k0_off95 k) S32x128.size (k0_off95_inb k)).toLoadRect X_arg18))⟩] := by
  dsimp only [tripL_k0_t11]; unfold trip_k0_t11; rfl
end

section
variable (v100 : FVec Ideal S256x5120 .fp8e4m3) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 11 stores of the codes. -/
theorem codes_t11
    (G : S1x256x40x128.Idx → Elt Ideal .fp8e4m3)
    (hG : ∀ (row : Fin 256) (i : Fin 4) (d : Fin 128), G (ix4 (0 : Fin 1) row (⟨4 * 9 + i.val, by omega⟩ : Fin 40) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 9 row i) d) :
    ∀ p ∈ (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t11_loop.lb k0_t11_loop.ub k0_t11_loop.st)).1, ∀ x, p.2 x = G (p.1.emb x) := by
  have hk : ∀ k : Fin k0_t11_loop.trips, k.val < 8 := by decide
  refine steps_all (N := k0_t11_loop.trips) (fun j => (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) rfl (fun k => (tripL_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t11_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip1_t11] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 9) (hk k) 9 (by norm_num) (k0_off103_inb k) (k0_off103_eq k) _ _ _ _ (fun r d => rope_load arg16.view X_arg16 arg19.view X_arg19 arg5.view X_arg5 arg17.view X_arg17 arg18.view X_arg18 (k0_off94_inb k) (k0_off95_inb k) inb_S1x7168_S1x128_0_4608 (hk k) 9 0 (k0_off94_eq k) (k0_off95_eq k) rfl r d) (fun r d => rope_load arg16.view X_arg16 arg19.view X_arg19 arg5.view X_arg5 arg17.view X_arg17 arg18.view X_arg18 (k0_off97_inb k) (k0_off95_inb k) inb_S1x7168_S1x128_0_4736 (hk k) 9 1 (k0_off97_eq k) (k0_off95_eq k) rfl r d) (fun r d => rope_load arg16.view X_arg16 arg19.view X_arg19 arg5.view X_arg5 arg17.view X_arg17 arg18.view X_arg18 (k0_off99_inb k) (k0_off95_inb k) inb_S1x7168_S1x128_0_4864 (hk k) 9 2 (k0_off99_eq k) (k0_off95_eq k) rfl r d) (fun r d => rope_load arg16.view X_arg16 arg19.view X_arg19 arg5.view X_arg5 arg17.view X_arg17 arg18.view X_arg18 (k0_off101_inb k) (k0_off95_inb k) inb_S1x7168_S1x128_0_4992 (hk k) 9 3 (k0_off101_eq k) (k0_off95_eq k) rfl r d) hG

/-- The codes loop 11 stores cover its four heads of every row. -/
theorem cover_codes_t11  (row : Fin 256) (j : Fin 4) (d : Fin 128) :
    ∃ p ∈ (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t11_loop.lb k0_t11_loop.ub k0_t11_loop.st)).1, ix4 (0 : Fin 1) row (⟨4 * 9 + j.val, by omega⟩ : Fin 40) d ∈ p.1.set := by
  let k : Fin k0_t11_loop.trips := ⟨row.val / 32, lt_of_lt_of_le (Nat.div_lt_of_lt_mul (by omega : row.val < 32 * 8)) (by decide)⟩
  refine ⟨_, steps_mem (N := k0_t11_loop.trips) (fun j => (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) (fun k => (tripL_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t11_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k _ (by rw [trip1_t11]; exact List.mem_singleton.mpr rfl), ?_⟩
  exact mem_codes 9 (by norm_num) (k0_off103_inb k) (k0_off103_eq k) row rfl j d

/-- What loop 11 stores of the scales. -/
theorem scales_t11
    (G : S256x128.Idx → EReal)
    (hG : ∀ (i : Fin 4) (row : Fin 256), G (ix2 row (⟨4 * 9 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 9 row i)) :
    ∀ p ∈ (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t11_loop.lb k0_t11_loop.ub k0_t11_loop.st)).2, ∀ x, p.2 x = G (p.1.emb x) := by
  have hk : ∀ k : Fin k0_t11_loop.trips, k.val < 8 := by decide
  refine steps_all (N := k0_t11_loop.trips) (fun j => (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) rfl (fun k => (tripL_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t11_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip2_t11] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 9 row 3 d) (hk k) 39 (by norm_num) (k0_off102_inb k) (k0_off102_eq k) (fun r d => rope_load arg16.view X_arg16 arg19.view X_arg19 arg5.view X_arg5 arg17.view X_arg17 arg18.view X_arg18 (k0_off101_inb k) (k0_off95_inb k) inb_S1x7168_S1x128_0_4992 (hk k) 9 3 (k0_off101_eq k) (k0_off95_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 9 row 2 d) (hk k) 38 (by norm_num) (k0_off100_inb k) (k0_off100_eq k) (fun r d => rope_load arg16.view X_arg16 arg19.view X_arg19 arg5.view X_arg5 arg17.view X_arg17 arg18.view X_arg18 (k0_off99_inb k) (k0_off95_inb k) inb_S1x7168_S1x128_0_4864 (hk k) 9 2 (k0_off99_eq k) (k0_off95_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 9 row 1 d) (hk k) 37 (by norm_num) (k0_off98_inb k) (k0_off98_eq k) (fun r d => rope_load arg16.view X_arg16 arg19.view X_arg19 arg5.view X_arg5 arg17.view X_arg17 arg18.view X_arg18 (k0_off97_inb k) (k0_off95_inb k) inb_S1x7168_S1x128_0_4736 (hk k) 9 1 (k0_off97_eq k) (k0_off95_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 9 row 0 d) (hk k) 36 (by norm_num) (k0_off96_inb k) (k0_off96_eq k) (fun r d => rope_load arg16.view X_arg16 arg19.view X_arg19 arg5.view X_arg5 arg17.view X_arg17 arg18.view X_arg18 (k0_off94_inb k) (k0_off95_inb k) inb_S1x7168_S1x128_0_4608 (hk k) 9 0 (k0_off94_eq k) (k0_off95_eq k) rfl r d) (hG 0)

/-- The scales loop 11 stores cover its four columns of every row. -/
theorem cover_scales_t11  (row : Fin 256) (j : Fin 4) :
    ∃ p ∈ (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t11_loop.lb k0_t11_loop.ub k0_t11_loop.st)).2, ix2 row (⟨4 * 9 + j.val, by omega⟩ : Fin 128) ∈ p.1.set := by
  let k : Fin k0_t11_loop.trips := ⟨row.val / 32, lt_of_lt_of_le (Nat.div_lt_of_lt_mul (by omega : row.val < 32 * 8)) (by decide)⟩
  have hm := steps_mem (N := k0_t11_loop.trips) (fun j => (pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) (fun k => (tripL_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t11_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k
  rw [trip2_t11] at hm
  match j with
  | ⟨3, _⟩ => exact ⟨_, hm _ (List.mem_cons_self ..), mem_scale 39 (by norm_num) (k0_off102_inb k) (k0_off102_eq k) row rfl⟩
  | ⟨2, _⟩ => exact ⟨_, hm _ (List.mem_cons_of_mem _ (List.mem_cons_self ..)), mem_scale 38 (by norm_num) (k0_off100_inb k) (k0_off100_eq k) row rfl⟩
  | ⟨1, _⟩ => exact ⟨_, hm _ (List.mem_cons_of_mem _ (List.mem_cons_of_mem _ (List.mem_cons_self ..))), mem_scale 37 (by norm_num) (k0_off98_inb k) (k0_off98_eq k) row rfl⟩
  | ⟨0, _⟩ => exact ⟨_, hm _ (List.mem_cons_of_mem _ (List.mem_cons_of_mem _ (List.mem_cons_of_mem _ (List.mem_cons_self ..)))), mem_scale 36 (by norm_num) (k0_off96_inb k) (k0_off96_eq k) row rfl⟩
end

end Cert.KernelIdeal.Gen
-- ==== Proof.TripsC.lean ====
/- The loops over the rows of a quarter chunk, for the key and value heads: one trip, then all of them. -/
module

public import proofs.«01_k».proof.Proof.Steps

@[expose] public section

set_option maxRecDepth 16384

noncomputable section

namespace Cert.KernelIdeal.Gen

open Idealize.ShloMosaic Idealize.ShloMosaic.TcCoe Idealize.ShloMosaic.ValueIdx Cert.Qkv

variable {F : FTy → Type} [FloatOps F]
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)

section
variable (v100 : FVec F S256x5120 .fp8e4m3) (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t12  (k : Fin k0_t12_loop.trips) :
    (tripL_k0_t12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1
      = [⟨Rect.unit (k0_off113 k) S1x32x4x128.size (k0_off113_inb k), stackOf
        (codesOf (headRope (View.readAt (Elt F) arg16.view (Rect.unit (s := S256x512) (k0_off104 k) S32x128.size (k0_off104_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5120] S1x128.size inb_S1x7168_S1x128_0_5120).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18)))
        (codesOf (headRope (View.readAt (Elt F) arg16.view (Rect.unit (s := S256x512) (k0_off107 k) S32x128.size (k0_off107_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5248] S1x128.size inb_S1x7168_S1x128_0_5248).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18)))
        (codesOf (headRope (View.readAt (Elt F) arg16.view (Rect.unit (s := S256x512) (k0_off109 k) S32x128.size (k0_off109_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5376] S1x128.size inb_S1x7168_S1x128_0_5376).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18)))
        (codesOf (headRope (View.readAt (Elt F) arg16.view (Rect.unit (s := S256x512) (k0_off111 k) S32x128.size (k0_off111_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5504] S1x128.size inb_S1x7168_S1x128_0_5504).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18)))⟩] := by
  dsimp only [tripL_k0_t12]; unfold trip_k0_t12; rfl

theorem trip2_t12  (k : Fin k0_t12_loop.trips) :
    (tripL_k0_t12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2
      = [⟨Rect.unit (k0_off112 k) S32x1.size (k0_off112_inb k), scaleCol (headRope (View.readAt (Elt F) arg16.view (Rect.unit (s := S256x512) (k0_off111 k) S32x128.size (k0_off111_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5504] S1x128.size inb_S1x7168_S1x128_0_5504).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18))⟩,
         ⟨Rect.unit (k0_off110 k) S32x1.size (k0_off110_inb k), scaleCol (headRope (View.readAt (Elt F) arg16.view (Rect.unit (s := S256x512) (k0_off109 k) S32x128.size (k0_off109_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5376] S1x128.size inb_S1x7168_S1x128_0_5376).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18))⟩,
         ⟨Rect.unit (k0_off108 k) S32x1.size (k0_off108_inb k), scaleCol (headRope (View.readAt (Elt F) arg16.view (Rect.unit (s := S256x512) (k0_off107 k) S32x128.size (k0_off107_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5248] S1x128.size inb_S1x7168_S1x128_0_5248).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18))⟩,
         ⟨Rect.unit (k0_off106 k) S32x1.size (k0_off106_inb k), scaleCol (headRope (View.readAt (Elt F) arg16.view (Rect.unit (s := S256x512) (k0_off104 k) S32x128.size (k0_off104_inb k)).toLoadRect X_arg16) (View.readAt (Elt F) arg19.view (Rect.unit (s := S256x128) (k0_off105 k) S32x128.size (k0_off105_inb k)).toLoadRect X_arg19) (View.readAt (Elt F) arg5.view (Rect.unit (s := S1x7168) ![0, 5120] S1x128.size inb_S1x7168_S1x128_0_5120).toLoadRect X_arg5) (View.readAt (Elt F) arg17.view (Rect.unit (s := S256x128) (k0_off105 k) S32x128.size (k0_off105_inb k)).toLoadRect X_arg17) (View.readAt (Elt F) arg18.view (Rect.unit (s := S256x128) (k0_off105 k) S32x128.size (k0_off105_inb k)).toLoadRect X_arg18))⟩] := by
  dsimp only [tripL_k0_t12]; unfold trip_k0_t12; rfl
end

section
variable (v100 : FVec Ideal S256x5120 .fp8e4m3) (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 12 stores of the codes. -/
theorem codes_t12
    (G : S1x256x8x128.Idx → Elt Ideal .fp8e4m3)
    (hG : ∀ (row : Fin 256) (i : Fin 4) (d : Fin 128), G (ix4 (0 : Fin 1) row (⟨4 * 0 + i.val, by omega⟩ : Fin 8) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 10 row i) d) :
    ∀ p ∈ (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t12_loop.lb k0_t12_loop.ub k0_t12_loop.st)).1, ∀ x, p.2 x = G (p.1.emb x) := by
  have hk : ∀ k : Fin k0_t12_loop.trips, k.val < 8 := by decide
  refine steps_all (N := k0_t12_loop.trips) (fun j => (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) rfl (fun k => (tripL_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t12_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip1_t12] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 10) (hk k) 0 (by norm_num) (k0_off113_inb k) (k0_off113_eq k) _ _ _ _ (fun r d => rope_load arg16.view X_arg16 arg19.view X_arg19 arg5.view X_arg5 arg17.view X_arg17 arg18.view X_arg18 (k0_off104_inb k) (k0_off105_inb k) inb_S1x7168_S1x128_0_5120 (hk k) 10 0 (k0_off104_eq k) (k0_off105_eq k) rfl r d) (fun r d => rope_load arg16.view X_arg16 arg19.view X_arg19 arg5.view X_arg5 arg17.view X_arg17 arg18.view X_arg18 (k0_off107_inb k) (k0_off105_inb k) inb_S1x7168_S1x128_0_5248 (hk k) 10 1 (k0_off107_eq k) (k0_off105_eq k) rfl r d) (fun r d => rope_load arg16.view X_arg16 arg19.view X_arg19 arg5.view X_arg5 arg17.view X_arg17 arg18.view X_arg18 (k0_off109_inb k) (k0_off105_inb k) inb_S1x7168_S1x128_0_5376 (hk k) 10 2 (k0_off109_eq k) (k0_off105_eq k) rfl r d) (fun r d => rope_load arg16.view X_arg16 arg19.view X_arg19 arg5.view X_arg5 arg17.view X_arg17 arg18.view X_arg18 (k0_off111_inb k) (k0_off105_inb k) inb_S1x7168_S1x128_0_5504 (hk k) 10 3 (k0_off111_eq k) (k0_off105_eq k) rfl r d) hG

/-- The codes loop 12 stores cover its four heads of every row. -/
theorem cover_codes_t12  (row : Fin 256) (j : Fin 4) (d : Fin 128) :
    ∃ p ∈ (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t12_loop.lb k0_t12_loop.ub k0_t12_loop.st)).1, ix4 (0 : Fin 1) row (⟨4 * 0 + j.val, by omega⟩ : Fin 8) d ∈ p.1.set := by
  let k : Fin k0_t12_loop.trips := ⟨row.val / 32, lt_of_lt_of_le (Nat.div_lt_of_lt_mul (by omega : row.val < 32 * 8)) (by decide)⟩
  refine ⟨_, steps_mem (N := k0_t12_loop.trips) (fun j => (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).1) (fun k => (tripL_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).1)
    (fun k => congrArg Prod.fst (pb_k0_t12_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k _ (by rw [trip1_t12]; exact List.mem_singleton.mpr rfl), ?_⟩
  exact mem_codes 0 (by norm_num) (k0_off113_inb k) (k0_off113_eq k) row rfl j d

/-- What loop 12 stores of the scales. -/
theorem scales_t12
    (G : S256x128.Idx → EReal)
    (hG : ∀ (i : Fin 4) (row : Fin 256), G (ix2 row (⟨4 * 10 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 10 row i)) :
    ∀ p ∈ (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t12_loop.lb k0_t12_loop.ub k0_t12_loop.st)).2, ∀ x, p.2 x = G (p.1.emb x) := by
  have hk : ∀ k : Fin k0_t12_loop.trips, k.val < 8 := by decide
  refine steps_all (N := k0_t12_loop.trips) (fun j => (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) rfl (fun k => (tripL_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t12_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) _ ?_
  intro k p hp
  rw [trip2_t12] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 10 row 3 d) (hk k) 43 (by norm_num) (k0_off112_inb k) (k0_off112_eq k) (fun r d => rope_load arg16.view X_arg16 arg19.view X_arg19 arg5.view X_arg5 arg17.view X_arg17 arg18.view X_arg18 (k0_off111_inb k) (k0_off105_inb k) inb_S1x7168_S1x128_0_5504 (hk k) 10 3 (k0_off111_eq k) (k0_off105_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 10 row 2 d) (hk k) 42 (by norm_num) (k0_off110_inb k) (k0_off110_eq k) (fun r d => rope_load arg16.view X_arg16 arg19.view X_arg19 arg5.view X_arg5 arg17.view X_arg17 arg18.view X_arg18 (k0_off109_inb k) (k0_off105_inb k) inb_S1x7168_S1x128_0_5376 (hk k) 10 2 (k0_off109_eq k) (k0_off105_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 10 row 1 d) (hk k) 41 (by norm_num) (k0_off108_inb k) (k0_off108_eq k) (fun r d => rope_load arg16.view X_arg16 arg19.view X_arg19 arg5.view X_arg5 arg17.view X_arg17 arg18.view X_arg18 (k0_off107_inb k) (k0_off105_inb k) inb_S1x7168_S1x128_0_5248 (hk k) 10 1 (k0_off107_eq k) (k0_off105_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 10 row 0 d) (hk k) 40 (by norm_num) (k0_off106_inb k) (k0_off106_eq k) (fun r d => rope_load arg16.view X_arg16 arg19.view X_arg19 arg5.view X_arg5 arg17.view X_arg17 arg18.view X_arg18 (k0_off104_inb k) (k0_off105_inb k) inb_S1x7168_S1x128_0_5120 (hk k) 10 0 (k0_off104_eq k) (k0_off105_eq k) rfl r d) (hG 0)

/-- The scales loop 12 stores cover its four columns of every row. -/
theorem cover_scales_t12  (row : Fin 256) (j : Fin 4) :
    ∃ p ∈ (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 (Scf.trips k0_t12_loop.lb k0_t12_loop.ub k0_t12_loop.st)).2, ix2 row (⟨4 * 10 + j.val, by omega⟩ : Fin 128) ∈ p.1.set := by
  let k : Fin k0_t12_loop.trips := ⟨row.val / 32, lt_of_lt_of_le (Nat.div_lt_of_lt_mul (by omega : row.val < 32 * 8)) (by decide)⟩
  have hm := steps_mem (N := k0_t12_loop.trips) (fun j => (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 j).2) (fun k => (tripL_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k).2)
    (fun k => congrArg Prod.snd (pb_k0_t12_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X_arg5 X_arg16 X_arg17 X_arg18 X_arg19 k)) k
  rw [trip2_t12] at hm
  match j with
  | ⟨3, _⟩ => exact ⟨_, hm _ (List.mem_cons_self ..), mem_scale 43 (by norm_num) (k0_off112_inb k) (k0_off112_eq k) row rfl⟩
  | ⟨2, _⟩ => exact ⟨_, hm _ (List.mem_cons_of_mem _ (List.mem_cons_self ..)), mem_scale 42 (by norm_num) (k0_off110_inb k) (k0_off110_eq k) row rfl⟩
  | ⟨1, _⟩ => exact ⟨_, hm _ (List.mem_cons_of_mem _ (List.mem_cons_of_mem _ (List.mem_cons_self ..))), mem_scale 41 (by norm_num) (k0_off108_inb k) (k0_off108_eq k) row rfl⟩
  | ⟨0, _⟩ => exact ⟨_, hm _ (List.mem_cons_of_mem _ (List.mem_cons_of_mem _ (List.mem_cons_of_mem _ (List.mem_cons_self ..)))), mem_scale 40 (by norm_num) (k0_off106_inb k) (k0_off106_eq k) row rfl⟩
end

section
variable (X_arg5 : BufTy.Contents (Elt F) arg5.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)
theorem trip1_t13  (k : Fin k0_t13_loop.trips) :
    (tripL_k0_t13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1
      = [⟨Rect.unit (k0_off123 k) S1x32x4x128.size (k0_off123_inb k), stackOf
        (codesOf (headRope (View.readAt (Elt F) arg16.view (Rect.unit (s := S256x512) (k0_off114 k) S32x128.size (k0_off114_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5632] S1x128.size inb_S1x7168_S1x128_0_5632).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18)))
        (codesOf (headRope (View.readAt (Elt F) arg16.view (Rect.unit (s := S256x512) (k0_off117 k) S32x128.size (k0_off117_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5760] S1x128.size inb_S1x7168_S1x128_0_5760).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18)))
        (codesOf (headRope (View.readAt (Elt F) arg16.view (Rect.unit (s := S256x512) (k0_off119 k) S32x128.size (k0_off119_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5888] S1x128.size inb_S1x7168_S1x128_0_5888).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18)))
        (codesOf (headRope (View.readAt (Elt F) arg16.view (Rect.unit (s := S256x512) (k0_off121 k) S32x128.size (k0_off121_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 6016] S1x128.size inb_S1x7168_S1x128_0_6016).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18)))⟩] := by
  dsimp only [tripL_k0_t13]; unfold trip_k0_t13; rfl

theorem trip2_t13  (k : Fin k0_t13_loop.trips) :
    (tripL_k0_t13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2
      = [⟨Rect.unit (k0_off122 k) S32x1.size (k0_off122_inb k), scaleCol (headRope (View.readAt (Elt F) arg16.view (Rect.unit (s := S256x512) (k0_off121 k) S32x128.size (k0_off121_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 6016] S1x128.size inb_S1x7168_S1x128_0_6016).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18))⟩,
         ⟨Rect.unit (k0_off120 k) S32x1.size (k0_off120_inb k), scaleCol (headRope (View.readAt (Elt F) arg16.view (Rect.unit (s := S256x512) (k0_off119 k) S32x128.size (k0_off119_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5888] S1x128.size inb_S1x7168_S1x128_0_5888).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18))⟩,
         ⟨Rect.unit (k0_off118 k) S32x1.size (k0_off118_inb k), scaleCol (headRope (View.readAt (Elt F) arg16.view (Rect.unit (s := S256x512) (k0_off117 k) S32x128.size (k0_off117_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5760] S1x128.size inb_S1x7168_S1x128_0_5760).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18))⟩,
         ⟨Rect.unit (k0_off116 k) S32x1.size (k0_off116_inb k), scaleCol (headRope (View.readAt (Elt F) arg16.view (Rect.unit (s := S256x512) (k0_off114 k) S32x128.size (k0_off114_inb k)).toLoadRect X_arg16) (View.readAt (Elt F) arg19.view (Rect.unit (s := S256x128) (k0_off115 k) S32x128.size (k0_off115_inb k)).toLoadRect X_arg19) (View.readAt (Elt F) arg5.view (Rect.unit (s := S1x7168) ![0, 5632] S1x128.size inb_S1x7168_S1x128_0_5632).toLoadRect X_arg5) (View.readAt (Elt F) arg17.view (Rect.unit (s := S256x128) (k0_off115 k) S32x128.size (k0_off115_inb k)).toLoadRect X_arg17) (View.readAt (Elt F) arg18.view (Rect.unit (s := S256x128) (k0_off115 k) S32x128.size (k0_off115_inb k)).toLoadRect X_arg18))⟩] := by
  dsimp only [tripL_k0_t13]; unfold trip_k0_t13; rfl
end

section
variable (X_arg5 : BufTy.Contents (Elt Ideal) arg5.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)
/-- What loop 13 stores of the codes. -/
theorem codes_t13
    (G : S1x256x8x128.Idx → Elt Ideal .fp8e4m3)
    (hG : ∀ (row : Fin 256) (i : Fin 4) (d : Fin 128), G (ix4 (0 : Fin 1) row (⟨4 * 1 + i.val, by omega⟩ : Fin 8) d) = code (ropeRow (arg16.view.read (Elt Ideal) X_arg16) (arg19.view.read (Elt Ideal) X_arg19) (arg17.view.read (Elt Ideal) X_arg17) (arg18.view.read (Elt Ideal) X_arg18) (arg5.view.read (Elt Ideal) X_arg5) 11 row i) d) :
    ∀ p ∈ (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t13_loop.lb k0_t13_loop.ub k0_t13_loop.st)).1, ∀ x, p.2 x = G (p.1.emb x) := by
  have hk : ∀ k : Fin k0_t13_loop.trips, k.val < 8 := by decide
  refine steps_all (N := k0_t13_loop.trips) (fun j => (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) rfl (fun k => (tripL_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t13_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip1_t13] at hp
  obtain rfl := List.mem_singleton.mp hp
  exact piece_codes G (ropeRow (arg16.view.read (Elt Ideal) X_arg16) (arg19.view.read (Elt Ideal) X_arg19) (arg17.view.read (Elt Ideal) X_arg17) (arg18.view.read (Elt Ideal) X_arg18) (arg5.view.read (Elt Ideal) X_arg5) 11) (hk k) 1 (by norm_num) (k0_off123_inb k) (k0_off123_eq k) _ _ _ _ (fun r d => rope_load arg16.view X_arg16 arg19.view X_arg19 arg5.view X_arg5 arg17.view X_arg17 arg18.view X_arg18 (k0_off114_inb k) (k0_off115_inb k) inb_S1x7168_S1x128_0_5632 (hk k) 11 0 (k0_off114_eq k) (k0_off115_eq k) rfl r d) (fun r d => rope_load arg16.view X_arg16 arg19.view X_arg19 arg5.view X_arg5 arg17.view X_arg17 arg18.view X_arg18 (k0_off117_inb k) (k0_off115_inb k) inb_S1x7168_S1x128_0_5760 (hk k) 11 1 (k0_off117_eq k) (k0_off115_eq k) rfl r d) (fun r d => rope_load arg16.view X_arg16 arg19.view X_arg19 arg5.view X_arg5 arg17.view X_arg17 arg18.view X_arg18 (k0_off119_inb k) (k0_off115_inb k) inb_S1x7168_S1x128_0_5888 (hk k) 11 2 (k0_off119_eq k) (k0_off115_eq k) rfl r d) (fun r d => rope_load arg16.view X_arg16 arg19.view X_arg19 arg5.view X_arg5 arg17.view X_arg17 arg18.view X_arg18 (k0_off121_inb k) (k0_off115_inb k) inb_S1x7168_S1x128_0_6016 (hk k) 11 3 (k0_off121_eq k) (k0_off115_eq k) rfl r d) hG

/-- The codes loop 13 stores cover its four heads of every row. -/
theorem cover_codes_t13  (row : Fin 256) (j : Fin 4) (d : Fin 128) :
    ∃ p ∈ (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t13_loop.lb k0_t13_loop.ub k0_t13_loop.st)).1, ix4 (0 : Fin 1) row (⟨4 * 1 + j.val, by omega⟩ : Fin 8) d ∈ p.1.set := by
  let k : Fin k0_t13_loop.trips := ⟨row.val / 32, lt_of_lt_of_le (Nat.div_lt_of_lt_mul (by omega : row.val < 32 * 8)) (by decide)⟩
  refine ⟨_, steps_mem (N := k0_t13_loop.trips) (fun j => (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).1) (fun k => (tripL_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).1)
    (fun k => congrArg Prod.fst (pb_k0_t13_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k _ (by rw [trip1_t13]; exact List.mem_singleton.mpr rfl), ?_⟩
  exact mem_codes 1 (by norm_num) (k0_off123_inb k) (k0_off123_eq k) row rfl j d

/-- What loop 13 stores of the scales. -/
theorem scales_t13
    (G : S256x128.Idx → EReal)
    (hG : ∀ (i : Fin 4) (row : Fin 256), G (ix2 row (⟨4 * 11 + i.val, by omega⟩ : Fin 128)) = rowScale (ropeRow (arg16.view.read (Elt Ideal) X_arg16) (arg19.view.read (Elt Ideal) X_arg19) (arg17.view.read (Elt Ideal) X_arg17) (arg18.view.read (Elt Ideal) X_arg18) (arg5.view.read (Elt Ideal) X_arg5) 11 row i)) :
    ∀ p ∈ (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t13_loop.lb k0_t13_loop.ub k0_t13_loop.st)).2, ∀ x, p.2 x = G (p.1.emb x) := by
  have hk : ∀ k : Fin k0_t13_loop.trips, k.val < 8 := by decide
  refine steps_all (N := k0_t13_loop.trips) (fun j => (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) rfl (fun k => (tripL_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t13_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) _ ?_
  intro k p hp
  rw [trip2_t13] at hp
  simp only [List.mem_cons, List.not_mem_nil, or_false] at hp
  rcases hp with rfl | rfl | rfl | rfl
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 11 row 3 d) (hk k) 47 (by norm_num) (k0_off122_inb k) (k0_off122_eq k) (fun r d => rope_load arg16.view X_arg16 arg19.view X_arg19 arg5.view X_arg5 arg17.view X_arg17 arg18.view X_arg18 (k0_off121_inb k) (k0_off115_inb k) inb_S1x7168_S1x128_0_6016 (hk k) 11 3 (k0_off121_eq k) (k0_off115_eq k) rfl r d) (hG 3)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 11 row 2 d) (hk k) 46 (by norm_num) (k0_off120_inb k) (k0_off120_eq k) (fun r d => rope_load arg16.view X_arg16 arg19.view X_arg19 arg5.view X_arg5 arg17.view X_arg17 arg18.view X_arg18 (k0_off119_inb k) (k0_off115_inb k) inb_S1x7168_S1x128_0_5888 (hk k) 11 2 (k0_off119_eq k) (k0_off115_eq k) rfl r d) (hG 2)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 11 row 1 d) (hk k) 45 (by norm_num) (k0_off118_inb k) (k0_off118_eq k) (fun r d => rope_load arg16.view X_arg16 arg19.view X_arg19 arg5.view X_arg5 arg17.view X_arg17 arg18.view X_arg18 (k0_off117_inb k) (k0_off115_inb k) inb_S1x7168_S1x128_0_5760 (hk k) 11 1 (k0_off117_eq k) (k0_off115_eq k) rfl r d) (hG 1)
  · exact piece_scale G _ (fun row d => ropeRow (arg16.view.read (Elt Ideal) X_arg16) (arg19.view.read (Elt Ideal) X_arg19) (arg17.view.read (Elt Ideal) X_arg17) (arg18.view.read (Elt Ideal) X_arg18) (arg5.view.read (Elt Ideal) X_arg5) 11 row 0 d) (hk k) 44 (by norm_num) (k0_off116_inb k) (k0_off116_eq k) (fun r d => rope_load arg16.view X_arg16 arg19.view X_arg19 arg5.view X_arg5 arg17.view X_arg17 arg18.view X_arg18 (k0_off114_inb k) (k0_off115_inb k) inb_S1x7168_S1x128_0_5632 (hk k) 11 0 (k0_off114_eq k) (k0_off115_eq k) rfl r d) (hG 0)

/-- The scales loop 13 stores cover its four columns of every row. -/
theorem cover_scales_t13  (row : Fin 256) (j : Fin 4) :
    ∃ p ∈ (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 (Scf.trips k0_t13_loop.lb k0_t13_loop.ub k0_t13_loop.st)).2, ix2 row (⟨4 * 11 + j.val, by omega⟩ : Fin 128) ∈ p.1.set := by
  let k : Fin k0_t13_loop.trips := ⟨row.val / 32, lt_of_lt_of_le (Nat.div_lt_of_lt_mul (by omega : row.val < 32 * 8)) (by decide)⟩
  have hm := steps_mem (N := k0_t13_loop.trips) (fun j => (pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 j).2) (fun k => (tripL_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k).2)
    (fun k => congrArg Prod.snd (pb_k0_t13_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg17 X_arg18 X_arg19 k)) k
  rw [trip2_t13] at hm
  match j with
  | ⟨3, _⟩ => exact ⟨_, hm _ (List.mem_cons_self ..), mem_scale 47 (by norm_num) (k0_off122_inb k) (k0_off122_eq k) row rfl⟩
  | ⟨2, _⟩ => exact ⟨_, hm _ (List.mem_cons_of_mem _ (List.mem_cons_self ..)), mem_scale 46 (by norm_num) (k0_off120_inb k) (k0_off120_eq k) row rfl⟩
  | ⟨1, _⟩ => exact ⟨_, hm _ (List.mem_cons_of_mem _ (List.mem_cons_of_mem _ (List.mem_cons_self ..))), mem_scale 45 (by norm_num) (k0_off118_inb k) (k0_off118_eq k) row rfl⟩
  | ⟨0, _⟩ => exact ⟨_, hm _ (List.mem_cons_of_mem _ (List.mem_cons_of_mem _ (List.mem_cons_of_mem _ (List.mem_cons_self ..)))), mem_scale 44 (by norm_num) (k0_off116_inb k) (k0_off116_eq k) row rfl⟩
end

section
variable (X_arg5 : BufTy.Contents (Elt F) arg5.view.ty) (X_arg16 : BufTy.Contents (Elt F) arg16.view.ty) (X_arg19 : BufTy.Contents (Elt F) arg19.view.ty)
theorem trip1_t14  (k : Fin k0_t14_loop.trips) :
    (tripL_k0_t14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).1
      = [⟨Rect.unit (k0_off133 k) S1x32x4x128.size (k0_off133_inb k), stackOf
        (codesOf (headPlain (View.readAt (Elt F) arg16.view (Rect.unit (s := S256x512) (k0_off124 k) S32x128.size (k0_off124_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6144] S1x128.size inb_S1x7168_S1x128_0_6144).toLoadRect X_arg5)))
        (codesOf (headPlain (View.readAt (Elt F) arg16.view (Rect.unit (s := S256x512) (k0_off127 k) S32x128.size (k0_off127_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6272] S1x128.size inb_S1x7168_S1x128_0_6272).toLoadRect X_arg5)))
        (codesOf (headPlain (View.readAt (Elt F) arg16.view (Rect.unit (s := S256x512) (k0_off129 k) S32x128.size (k0_off129_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6400] S1x128.size inb_S1x7168_S1x128_0_6400).toLoadRect X_arg5)))
        (codesOf (headPlain (View.readAt (Elt F) arg16.view (Rect.unit (s := S256x512) (k0_off131 k) S32x128.size (k0_off131_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6528] S1x128.size inb_S1x7168_S1x128_0_6528).toLoadRect X_arg5)))⟩] := by
  dsimp only [tripL_k0_t14]; unfold trip_k0_t14; rfl

theorem trip2_t14  (k : Fin k0_t14_loop.trips) :
    (tripL_k0_t14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).2
      = [⟨Rect.unit (k0_off132 k) S32x1.size (k0_off132_inb k), scaleCol (headPlain (View.readAt (Elt F) arg16.view (Rect.unit (s := S256x512) (k0_off131 k) S32x128.size (k0_off131_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6528] S1x128.size inb_S1x7168_S1x128_0_6528).toLoadRect X_arg5))⟩,
         ⟨Rect.unit (k0_off130 k) S32x1.size (k0_off130_inb k), scaleCol (headPlain (View.readAt (Elt F) arg16.view (Rect.unit (s := S256x512) (k0_off129 k) S32x128.size (k0_off129_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6400] S1x128.size inb_S1x7168_S1x128_0_6400).toLoadRect X_arg5))⟩,
         ⟨Rect.unit (k0_off128 k) S32x1.size (k0_off128_inb k), scaleCol (headPlain (View.readAt (Elt F) arg16.view (Rect.unit (s := S256x512) (k0_off127 k) S32x128.size (k0_off127_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6272] S1x128.size inb_S1x7168_S1x128_0_6272).toLoadRect X_arg5))⟩,
         ⟨Rect.unit (k0_off126 k) S32x1.size (k0_off126_inb k), scaleCol (headPlain (View.readAt (Elt F) arg16.view (Rect.unit (s := S256x512) (k0_off124 k) S32x128.size (k0_off124_inb k)).toLoadRect X_arg16) (View.readAt (Elt F) arg19.view (Rect.unit (s := S256x128) (k0_off125 k) S32x128.size (k0_off125_inb k)).toLoadRect X_arg19) (View.readAt (Elt F) arg5.view (Rect.unit (s := S1x7168) ![0, 6144] S1x128.size inb_S1x7168_S1x128_0_6144).toLoadRect X_arg5))⟩] := by
  dsimp only [tripL_k0_t14]; unfold trip_k0_t14; rfl
end

section
variable (X_arg5 : BufTy.Contents (Elt Ideal) arg5.view.ty) (X_arg16 : BufTy.Contents (Elt Ideal) arg16.view.ty) (X_arg19 : BufTy.Contents (Elt Ideal) arg19.view.ty)
/-- What loop 14 stores of the codes. -/
theorem codes_t14
    (G : S1x256x8x128.Idx → Elt Ideal .fp8e4m3)
    (hG : ∀ (row : Fin 256) (i : Fin 4) (d : Fin 128), G (ix4 (0 : Fin 1) row (⟨4 * 0 + i.val, by omega⟩ : Fin 8) d) = code (plainRow (arg16.view.read (Elt Ideal) X_arg16) (arg19.view.read (Elt Ideal) X_arg19) (arg5.view.read (Elt Ideal) X_arg5) 12 row i) d) :
    ∀ p ∈ (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 (Scf.trips k0_t14_loop.lb k0_t14_loop.ub k0_t14_loop.st)).1, ∀ x, p.2 x = G (p.1.emb x) := by
  have hk : ∀ k : Fin k0_t14_loop.trips, k.val < 8 := by decide
  refine steps_all (N := k0_t14_loop.trips) (fun j => (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 j).1) rfl (fun k => (tripL_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).1)
    (fun k => congrArg Prod.fst (pb_k0_t14_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k)) _ ?_
  intro k p hp
  rw [trip1_t14] at hp
  obtain rfl := List.mem_singleton.mp hp
  exact piece_codes G (plainRow (arg16.view.read (Elt Ideal) X_arg16) (arg19.view.read (Elt Ideal) X_arg19) (arg5.view.read (Elt Ideal) X_arg5) 12) (hk k) 0 (by norm_num) (k0_off133_inb k) (k0_off133_eq k) _ _ _ _ (fun r d => plain_load arg16.view X_arg16 arg19.view X_arg19 arg5.view X_arg5 (k0_off124_inb k) (k0_off125_inb k) inb_S1x7168_S1x128_0_6144 (hk k) 12 0 (k0_off124_eq k) (k0_off125_eq k) rfl r d) (fun r d => plain_load arg16.view X_arg16 arg19.view X_arg19 arg5.view X_arg5 (k0_off127_inb k) (k0_off125_inb k) inb_S1x7168_S1x128_0_6272 (hk k) 12 1 (k0_off127_eq k) (k0_off125_eq k) rfl r d) (fun r d => plain_load arg16.view X_arg16 arg19.view X_arg19 arg5.view X_arg5 (k0_off129_inb k) (k0_off125_inb k) inb_S1x7168_S1x128_0_6400 (hk k) 12 2 (k0_off129_eq k) (k0_off125_eq k) rfl r d) (fun r d => plain_load arg16.view X_arg16 arg19.view X_arg19 arg5.view X_arg5 (k0_off131_inb k) (k0_off125_inb k) inb_S1x7168_S1x128_0_6528 (hk k) 12 3 (k0_off131_eq k) (k0_off125_eq k) rfl r d) hG

/-- The codes loop 14 stores cover its four heads of every row. -/
theorem cover_codes_t14  (row : Fin 256) (j : Fin 4) (d : Fin 128) :
    ∃ p ∈ (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 (Scf.trips k0_t14_loop.lb k0_t14_loop.ub k0_t14_loop.st)).1, ix4 (0 : Fin 1) row (⟨4 * 0 + j.val, by omega⟩ : Fin 8) d ∈ p.1.set := by
  let k : Fin k0_t14_loop.trips := ⟨row.val / 32, lt_of_lt_of_le (Nat.div_lt_of_lt_mul (by omega : row.val < 32 * 8)) (by decide)⟩
  refine ⟨_, steps_mem (N := k0_t14_loop.trips) (fun j => (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 j).1) (fun k => (tripL_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).1)
    (fun k => congrArg Prod.fst (pb_k0_t14_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k)) k _ (by rw [trip1_t14]; exact List.mem_singleton.mpr rfl), ?_⟩
  exact mem_codes 0 (by norm_num) (k0_off133_inb k) (k0_off133_eq k) row rfl j d

/-- What loop 14 stores of the scales. -/
theorem scales_t14
    (G : S256x128.Idx → EReal)
    (hG : ∀ (i : Fin 4) (row : Fin 256), G (ix2 row (⟨4 * 12 + i.val, by omega⟩ : Fin 128)) = rowScale (plainRow (arg16.view.read (Elt Ideal) X_arg16) (arg19.view.read (Elt Ideal) X_arg19) (arg5.view.read (Elt Ideal) X_arg5) 12 row i)) :
    ∀ p ∈ (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 (Scf.trips k0_t14_loop.lb k0_t14_loop.ub k0_t14_loop.st)).2, ∀ x, p.2 x = G (p.1.emb x) := by
  have hk : ∀ k : Fin k0_t14_loop.trips, k.val < 8 := by decide
  refine steps_all (N := k0_t14_loop.trips) (fun j => (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 j).2) rfl (fun k => (tripL_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).2)
    (fun k => congrArg Prod.snd (pb_k0_t14_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k)) _ ?_
  intro k p hp
  rw [trip2_t14] at hp
  simp only [List.mem_cons, List.not_mem_nil, or_false] at hp
  rcases hp with rfl | rfl | rfl | rfl
  · exact piece_scale G _ (fun row d => plainRow (arg16.view.read (Elt Ideal) X_arg16) (arg19.view.read (Elt Ideal) X_arg19) (arg5.view.read (Elt Ideal) X_arg5) 12 row 3 d) (hk k) 51 (by norm_num) (k0_off132_inb k) (k0_off132_eq k) (fun r d => plain_load arg16.view X_arg16 arg19.view X_arg19 arg5.view X_arg5 (k0_off131_inb k) (k0_off125_inb k) inb_S1x7168_S1x128_0_6528 (hk k) 12 3 (k0_off131_eq k) (k0_off125_eq k) rfl r d) (hG 3)
  · exact piece_scale G _ (fun row d => plainRow (arg16.view.read (Elt Ideal) X_arg16) (arg19.view.read (Elt Ideal) X_arg19) (arg5.view.read (Elt Ideal) X_arg5) 12 row 2 d) (hk k) 50 (by norm_num) (k0_off130_inb k) (k0_off130_eq k) (fun r d => plain_load arg16.view X_arg16 arg19.view X_arg19 arg5.view X_arg5 (k0_off129_inb k) (k0_off125_inb k) inb_S1x7168_S1x128_0_6400 (hk k) 12 2 (k0_off129_eq k) (k0_off125_eq k) rfl r d) (hG 2)
  · exact piece_scale G _ (fun row d => plainRow (arg16.view.read (Elt Ideal) X_arg16) (arg19.view.read (Elt Ideal) X_arg19) (arg5.view.read (Elt Ideal) X_arg5) 12 row 1 d) (hk k) 49 (by norm_num) (k0_off128_inb k) (k0_off128_eq k) (fun r d => plain_load arg16.view X_arg16 arg19.view X_arg19 arg5.view X_arg5 (k0_off127_inb k) (k0_off125_inb k) inb_S1x7168_S1x128_0_6272 (hk k) 12 1 (k0_off127_eq k) (k0_off125_eq k) rfl r d) (hG 1)
  · exact piece_scale G _ (fun row d => plainRow (arg16.view.read (Elt Ideal) X_arg16) (arg19.view.read (Elt Ideal) X_arg19) (arg5.view.read (Elt Ideal) X_arg5) 12 row 0 d) (hk k) 48 (by norm_num) (k0_off126_inb k) (k0_off126_eq k) (fun r d => plain_load arg16.view X_arg16 arg19.view X_arg19 arg5.view X_arg5 (k0_off124_inb k) (k0_off125_inb k) inb_S1x7168_S1x128_0_6144 (hk k) 12 0 (k0_off124_eq k) (k0_off125_eq k) rfl r d) (hG 0)

/-- The scales loop 14 stores cover its four columns of every row. -/
theorem cover_scales_t14  (row : Fin 256) (j : Fin 4) :
    ∃ p ∈ (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 (Scf.trips k0_t14_loop.lb k0_t14_loop.ub k0_t14_loop.st)).2, ix2 row (⟨4 * 12 + j.val, by omega⟩ : Fin 128) ∈ p.1.set := by
  let k : Fin k0_t14_loop.trips := ⟨row.val / 32, lt_of_lt_of_le (Nat.div_lt_of_lt_mul (by omega : row.val < 32 * 8)) (by decide)⟩
  have hm := steps_mem (N := k0_t14_loop.trips) (fun j => (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 j).2) (fun k => (tripL_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k).2)
    (fun k => congrArg Prod.snd (pb_k0_t14_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X_arg5 X_arg16 X_arg19 k)) k
  rw [trip2_t14] at hm
  match j with
  | ⟨3, _⟩ => exact ⟨_, hm _ (List.mem_cons_self ..), mem_scale 51 (by norm_num) (k0_off132_inb k) (k0_off132_eq k) row rfl⟩
  | ⟨2, _⟩ => exact ⟨_, hm _ (List.mem_cons_of_mem _ (List.mem_cons_self ..)), mem_scale 50 (by norm_num) (k0_off130_inb k) (k0_off130_eq k) row rfl⟩
  | ⟨1, _⟩ => exact ⟨_, hm _ (List.mem_cons_of_mem _ (List.mem_cons_of_mem _ (List.mem_cons_self ..))), mem_scale 49 (by norm_num) (k0_off128_inb k) (k0_off128_eq k) row rfl⟩
  | ⟨0, _⟩ => exact ⟨_, hm _ (List.mem_cons_of_mem _ (List.mem_cons_of_mem _ (List.mem_cons_of_mem _ (List.mem_cons_self ..)))), mem_scale 48 (by norm_num) (k0_off126_inb k) (k0_off126_eq k) row rfl⟩
end

section
variable (c0_i32_160 : BitVec 32) (X_arg5 : BufTy.Contents (Elt F) arg5.view.ty) (X_arg16 : BufTy.Contents (Elt F) arg16.view.ty) (X_arg19 : BufTy.Contents (Elt F) arg19.view.ty)
theorem trip1_t15  (k : Fin k0_t15_loop.trips) :
    (tripL_k0_t15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).1
      = [⟨Rect.unit (k0_off143 k) S1x32x4x128.size (k0_off143_inb k), stackOf
        (codesOf (headPlain (View.readAt (Elt F) arg16.view (Rect.unit (s := S256x512) (k0_off134 k) S32x128.size (k0_off134_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6656] S1x128.size inb_S1x7168_S1x128_0_6656).toLoadRect X_arg5)))
        (codesOf (headPlain (View.readAt (Elt F) arg16.view (Rect.unit (s := S256x512) (k0_off137 k) S32x128.size (k0_off137_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6784] S1x128.size inb_S1x7168_S1x128_0_6784).toLoadRect X_arg5)))
        (codesOf (headPlain (View.readAt (Elt F) arg16.view (Rect.unit (s := S256x512) (k0_off139 k) S32x128.size (k0_off139_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6912] S1x128.size inb_S1x7168_S1x128_0_6912).toLoadRect X_arg5)))
        (codesOf (headPlain (View.readAt (Elt F) arg16.view (Rect.unit (s := S256x512) (k0_off141 k) S32x128.size (k0_off141_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 7040] S1x128.size inb_S1x7168_S1x128_0_7040).toLoadRect X_arg5)))⟩] := by
  dsimp only [tripL_k0_t15]; unfold trip_k0_t15; rfl

theorem trip2_t15  (k : Fin k0_t15_loop.trips) :
    (tripL_k0_t15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).2
      = [⟨Rect.unit (k0_off142 k) S32x1.size (k0_off142_inb k), scaleCol (headPlain (View.readAt (Elt F) arg16.view (Rect.unit (s := S256x512) (k0_off141 k) S32x128.size (k0_off141_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 7040] S1x128.size inb_S1x7168_S1x128_0_7040).toLoadRect X_arg5))⟩,
         ⟨Rect.unit (k0_off140 k) S32x1.size (k0_off140_inb k), scaleCol (headPlain (View.readAt (Elt F) arg16.view (Rect.unit (s := S256x512) (k0_off139 k) S32x128.size (k0_off139_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6912] S1x128.size inb_S1x7168_S1x128_0_6912).toLoadRect X_arg5))⟩,
         ⟨Rect.unit (k0_off138 k) S32x1.size (k0_off138_inb k), scaleCol (headPlain (View.readAt (Elt F) arg16.view (Rect.unit (s := S256x512) (k0_off137 k) S32x128.size (k0_off137_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6784] S1x128.size inb_S1x7168_S1x128_0_6784).toLoadRect X_arg5))⟩,
         ⟨Rect.unit (k0_off136 k) S32x1.size (k0_off136_inb k), scaleCol (headPlain (View.readAt (Elt F) arg16.view (Rect.unit (s := S256x512) (k0_off134 k) S32x128.size (k0_off134_inb k)).toLoadRect X_arg16) (View.readAt (Elt F) arg19.view (Rect.unit (s := S256x128) (k0_off135 k) S32x128.size (k0_off135_inb k)).toLoadRect X_arg19) (View.readAt (Elt F) arg5.view (Rect.unit (s := S1x7168) ![0, 6656] S1x128.size inb_S1x7168_S1x128_0_6656).toLoadRect X_arg5))⟩] := by
  dsimp only [tripL_k0_t15]; unfold trip_k0_t15; rfl
end

section
variable (c0_i32_160 : BitVec 32) (X_arg5 : BufTy.Contents (Elt Ideal) arg5.view.ty) (X_arg16 : BufTy.Contents (Elt Ideal) arg16.view.ty) (X_arg19 : BufTy.Contents (Elt Ideal) arg19.view.ty)
/-- What loop 15 stores of the codes. -/
theorem codes_t15
    (G : S1x256x8x128.Idx → Elt Ideal .fp8e4m3)
    (hG : ∀ (row : Fin 256) (i : Fin 4) (d : Fin 128), G (ix4 (0 : Fin 1) row (⟨4 * 1 + i.val, by omega⟩ : Fin 8) d) = code (plainRow (arg16.view.read (Elt Ideal) X_arg16) (arg19.view.read (Elt Ideal) X_arg19) (arg5.view.read (Elt Ideal) X_arg5) 13 row i) d) :
    ∀ p ∈ (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 (Scf.trips k0_t15_loop.lb k0_t15_loop.ub k0_t15_loop.st)).1, ∀ x, p.2 x = G (p.1.emb x) := by
  have hk : ∀ k : Fin k0_t15_loop.trips, k.val < 8 := by decide
  refine steps_all (N := k0_t15_loop.trips) (fun j => (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 j).1) rfl (fun k => (tripL_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).1)
    (fun k => congrArg Prod.fst (pb_k0_t15_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k)) _ ?_
  intro k p hp
  rw [trip1_t15] at hp
  obtain rfl := List.mem_singleton.mp hp
  exact piece_codes G (plainRow (arg16.view.read (Elt Ideal) X_arg16) (arg19.view.read (Elt Ideal) X_arg19) (arg5.view.read (Elt Ideal) X_arg5) 13) (hk k) 1 (by norm_num) (k0_off143_inb k) (k0_off143_eq k) _ _ _ _ (fun r d => plain_load arg16.view X_arg16 arg19.view X_arg19 arg5.view X_arg5 (k0_off134_inb k) (k0_off135_inb k) inb_S1x7168_S1x128_0_6656 (hk k) 13 0 (k0_off134_eq k) (k0_off135_eq k) rfl r d) (fun r d => plain_load arg16.view X_arg16 arg19.view X_arg19 arg5.view X_arg5 (k0_off137_inb k) (k0_off135_inb k) inb_S1x7168_S1x128_0_6784 (hk k) 13 1 (k0_off137_eq k) (k0_off135_eq k) rfl r d) (fun r d => plain_load arg16.view X_arg16 arg19.view X_arg19 arg5.view X_arg5 (k0_off139_inb k) (k0_off135_inb k) inb_S1x7168_S1x128_0_6912 (hk k) 13 2 (k0_off139_eq k) (k0_off135_eq k) rfl r d) (fun r d => plain_load arg16.view X_arg16 arg19.view X_arg19 arg5.view X_arg5 (k0_off141_inb k) (k0_off135_inb k) inb_S1x7168_S1x128_0_7040 (hk k) 13 3 (k0_off141_eq k) (k0_off135_eq k) rfl r d) hG

/-- The codes loop 15 stores cover its four heads of every row. -/
theorem cover_codes_t15  (row : Fin 256) (j : Fin 4) (d : Fin 128) :
    ∃ p ∈ (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 (Scf.trips k0_t15_loop.lb k0_t15_loop.ub k0_t15_loop.st)).1, ix4 (0 : Fin 1) row (⟨4 * 1 + j.val, by omega⟩ : Fin 8) d ∈ p.1.set := by
  let k : Fin k0_t15_loop.trips := ⟨row.val / 32, lt_of_lt_of_le (Nat.div_lt_of_lt_mul (by omega : row.val < 32 * 8)) (by decide)⟩
  refine ⟨_, steps_mem (N := k0_t15_loop.trips) (fun j => (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 j).1) (fun k => (tripL_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).1)
    (fun k => congrArg Prod.fst (pb_k0_t15_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k)) k _ (by rw [trip1_t15]; exact List.mem_singleton.mpr rfl), ?_⟩
  exact mem_codes 1 (by norm_num) (k0_off143_inb k) (k0_off143_eq k) row rfl j d

/-- What loop 15 stores of the scales. -/
theorem scales_t15
    (G : S256x128.Idx → EReal)
    (hG : ∀ (i : Fin 4) (row : Fin 256), G (ix2 row (⟨4 * 13 + i.val, by omega⟩ : Fin 128)) = rowScale (plainRow (arg16.view.read (Elt Ideal) X_arg16) (arg19.view.read (Elt Ideal) X_arg19) (arg5.view.read (Elt Ideal) X_arg5) 13 row i)) :
    ∀ p ∈ (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 (Scf.trips k0_t15_loop.lb k0_t15_loop.ub k0_t15_loop.st)).2, ∀ x, p.2 x = G (p.1.emb x) := by
  have hk : ∀ k : Fin k0_t15_loop.trips, k.val < 8 := by decide
  refine steps_all (N := k0_t15_loop.trips) (fun j => (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 j).2) rfl (fun k => (tripL_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).2)
    (fun k => congrArg Prod.snd (pb_k0_t15_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k)) _ ?_
  intro k p hp
  rw [trip2_t15] at hp
  simp only [List.mem_cons, List.not_mem_nil, or_false] at hp
  rcases hp with rfl | rfl | rfl | rfl
  · exact piece_scale G _ (fun row d => plainRow (arg16.view.read (Elt Ideal) X_arg16) (arg19.view.read (Elt Ideal) X_arg19) (arg5.view.read (Elt Ideal) X_arg5) 13 row 3 d) (hk k) 55 (by norm_num) (k0_off142_inb k) (k0_off142_eq k) (fun r d => plain_load arg16.view X_arg16 arg19.view X_arg19 arg5.view X_arg5 (k0_off141_inb k) (k0_off135_inb k) inb_S1x7168_S1x128_0_7040 (hk k) 13 3 (k0_off141_eq k) (k0_off135_eq k) rfl r d) (hG 3)
  · exact piece_scale G _ (fun row d => plainRow (arg16.view.read (Elt Ideal) X_arg16) (arg19.view.read (Elt Ideal) X_arg19) (arg5.view.read (Elt Ideal) X_arg5) 13 row 2 d) (hk k) 54 (by norm_num) (k0_off140_inb k) (k0_off140_eq k) (fun r d => plain_load arg16.view X_arg16 arg19.view X_arg19 arg5.view X_arg5 (k0_off139_inb k) (k0_off135_inb k) inb_S1x7168_S1x128_0_6912 (hk k) 13 2 (k0_off139_eq k) (k0_off135_eq k) rfl r d) (hG 2)
  · exact piece_scale G _ (fun row d => plainRow (arg16.view.read (Elt Ideal) X_arg16) (arg19.view.read (Elt Ideal) X_arg19) (arg5.view.read (Elt Ideal) X_arg5) 13 row 1 d) (hk k) 53 (by norm_num) (k0_off138_inb k) (k0_off138_eq k) (fun r d => plain_load arg16.view X_arg16 arg19.view X_arg19 arg5.view X_arg5 (k0_off137_inb k) (k0_off135_inb k) inb_S1x7168_S1x128_0_6784 (hk k) 13 1 (k0_off137_eq k) (k0_off135_eq k) rfl r d) (hG 1)
  · exact piece_scale G _ (fun row d => plainRow (arg16.view.read (Elt Ideal) X_arg16) (arg19.view.read (Elt Ideal) X_arg19) (arg5.view.read (Elt Ideal) X_arg5) 13 row 0 d) (hk k) 52 (by norm_num) (k0_off136_inb k) (k0_off136_eq k) (fun r d => plain_load arg16.view X_arg16 arg19.view X_arg19 arg5.view X_arg5 (k0_off134_inb k) (k0_off135_inb k) inb_S1x7168_S1x128_0_6656 (hk k) 13 0 (k0_off134_eq k) (k0_off135_eq k) rfl r d) (hG 0)

/-- The scales loop 15 stores cover its four columns of every row. -/
theorem cover_scales_t15  (row : Fin 256) (j : Fin 4) :
    ∃ p ∈ (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 (Scf.trips k0_t15_loop.lb k0_t15_loop.ub k0_t15_loop.st)).2, ix2 row (⟨4 * 13 + j.val, by omega⟩ : Fin 128) ∈ p.1.set := by
  let k : Fin k0_t15_loop.trips := ⟨row.val / 32, lt_of_lt_of_le (Nat.div_lt_of_lt_mul (by omega : row.val < 32 * 8)) (by decide)⟩
  have hm := steps_mem (N := k0_t15_loop.trips) (fun j => (pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 j).2) (fun k => (tripL_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k).2)
    (fun k => congrArg Prod.snd (pb_k0_t15_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X_arg5 X_arg16 X_arg19 k)) k
  rw [trip2_t15] at hm
  match j with
  | ⟨3, _⟩ => exact ⟨_, hm _ (List.mem_cons_self ..), mem_scale 55 (by norm_num) (k0_off142_inb k) (k0_off142_eq k) row rfl⟩
  | ⟨2, _⟩ => exact ⟨_, hm _ (List.mem_cons_of_mem _ (List.mem_cons_self ..)), mem_scale 54 (by norm_num) (k0_off140_inb k) (k0_off140_eq k) row rfl⟩
  | ⟨1, _⟩ => exact ⟨_, hm _ (List.mem_cons_of_mem _ (List.mem_cons_of_mem _ (List.mem_cons_self ..))), mem_scale 53 (by norm_num) (k0_off138_inb k) (k0_off138_eq k) row rfl⟩
  | ⟨0, _⟩ => exact ⟨_, hm _ (List.mem_cons_of_mem _ (List.mem_cons_of_mem _ (List.mem_cons_of_mem _ (List.mem_cons_self ..)))), mem_scale 52 (by norm_num) (k0_off136_inb k) (k0_off136_eq k) row rfl⟩
end

end Cert.KernelIdeal.Gen
-- ==== Proof.Reads.lean ====
/- What the loops over the rows leave in the blocks of codes and in the scratch of scales. -/
module

public import proofs.«01_k».proof.Proof.TripsA
public import proofs.«01_k».proof.Proof.TripsB
public import proofs.«01_k».proof.Proof.TripsC
public import Idealize.ShloMosaic.Lib.Writes

@[expose] public section

set_option maxRecDepth 16384

noncomputable section

namespace Cert.KernelIdeal.Gen

open Idealize.ShloMosaic Idealize.ShloMosaic.TcCoe Idealize.ShloMosaic.ValueIdx Cert.Qkv

/-- One of the 56 heads' rows, unrotated, from the quarter chunks' products. -/
def plainHead (A : Fin 14 → S256x512.Idx → EReal) (XS : S256x128.Idx → EReal) (W : S1x7168.Idx → EReal) (h : Fin 56) (row : Fin 256) : Fin 128 → EReal :=
  plainRow (A (⟨h.val / 4, by omega⟩ : Fin 14)) XS W (⟨h.val / 4, by omega⟩ : Fin 14) row (⟨h.val % 4, Nat.mod_lt _ (by norm_num)⟩ : Fin 4)

/-- The same, rotated. -/
def ropeHead (A : Fin 14 → S256x512.Idx → EReal) (XS C S : S256x128.Idx → EReal) (W : S1x7168.Idx → EReal) (h : Fin 56) (row : Fin 256) : Fin 128 → EReal :=
  ropeRow (A (⟨h.val / 4, by omega⟩ : Fin 14)) XS C S W (⟨h.val / 4, by omega⟩ : Fin 14) row (⟨h.val % 4, Nat.mod_lt _ (by norm_num)⟩ : Fin 4)

/-- The query and key heads (the first 48) are rotated, the value heads are not. -/
def headVal (A : Fin 14 → S256x512.Idx → EReal) (XS C S : S256x128.Idx → EReal) (W : S1x7168.Idx → EReal) (h : Fin 56) (row : Fin 256) : Fin 128 → EReal :=
  if h.val < 48 then ropeHead A XS C S W h row else plainHead A XS W h row

theorem plainHead_at (A : Fin 14 → S256x512.Idx → EReal) (XS : S256x128.Idx → EReal) (W : S1x7168.Idx → EReal) (h : Fin 56) (n : Fin 14) (j : Fin 4)
    (e : h.val = 4 * n.val + j.val) (row : Fin 256) : plainHead A XS W h row = plainRow (A n) XS W n row j := by
  have h1 : (⟨h.val / 4, by omega⟩ : Fin 14) = n := Fin.ext (show h.val / 4 = n.val by omega)
  have h2 : (⟨h.val % 4, Nat.mod_lt _ (by norm_num)⟩ : Fin 4) = j := Fin.ext (show h.val % 4 = j.val by omega)
  unfold plainHead
  rw [h1, h2]

theorem ropeHead_at (A : Fin 14 → S256x512.Idx → EReal) (XS C S : S256x128.Idx → EReal) (W : S1x7168.Idx → EReal) (h : Fin 56) (n : Fin 14) (j : Fin 4)
    (e : h.val = 4 * n.val + j.val) (row : Fin 256) : ropeHead A XS C S W h row = ropeRow (A n) XS C S W n row j := by
  have h1 : (⟨h.val / 4, by omega⟩ : Fin 14) = n := Fin.ext (show h.val / 4 = n.val by omega)
  have h2 : (⟨h.val % 4, Nat.mod_lt _ (by norm_num)⟩ : Fin 4) = j := Fin.ext (show h.val % 4 = j.val by omega)
  unfold ropeHead
  rw [h1, h2]

theorem headVal_rope (A : Fin 14 → S256x512.Idx → EReal) (XS C S : S256x128.Idx → EReal) (W : S1x7168.Idx → EReal) (h : Fin 56) (n : Fin 14) (hn : n.val < 12) (j : Fin 4)
    (e : h.val = 4 * n.val + j.val) (row : Fin 256) : headVal A XS C S W h row = ropeRow (A n) XS C S W n row j := by
  unfold headVal
  rw [if_pos (by omega)]
  exact ropeHead_at A XS C S W h n j e row

theorem headVal_plain (A : Fin 14 → S256x512.Idx → EReal) (XS C S : S256x128.Idx → EReal) (W : S1x7168.Idx → EReal) (h : Fin 56) (n : Fin 14) (hn : 12 ≤ n.val) (j : Fin 4)
    (e : h.val = 4 * n.val + j.val) (row : Fin 256) : headVal A XS C S W h row = plainRow (A n) XS W n row j := by
  unfold headVal
  rw [if_neg (by omega)]
  exact plainHead_at A XS W h n j e row

/-- The scales of every head, a column per head. -/
def headScales (A : Fin 14 → S256x512.Idx → EReal) (XS C S : S256x128.Idx → EReal) (W : S1x7168.Idx → EReal) : S256x128.Idx → EReal :=
  fun y => if h : (y 1).val < 56 then rowScale (headVal A XS C S W ⟨(y 1).val, h⟩ (y 0)) else 0

theorem headScales_at (A : Fin 14 → S256x512.Idx → EReal) (XS C S : S256x128.Idx → EReal) (W : S1x7168.Idx → EReal) (row : Fin 256) (h : Fin 56) :
    headScales A XS C S W (ix2 row (⟨h.val, by omega⟩ : Fin 128)) = rowScale (headVal A XS C S W h row) := by
  unfold headScales
  exact dif_pos h.isLt

/-- A block of query codes. -/
def qBlk (A : Fin 14 → S256x512.Idx → EReal) (XS C S : S256x128.Idx → EReal) (W : S1x7168.Idx → EReal) : S1x256x40x128.Idx → EReal :=
  fun y => code (ropeHead A XS C S W (⟨0 + (y 2).val, by have := (y 2).isLt; change (y 2).val < 40 at this; omega⟩ : Fin 56) (y 1)) (y 3)

/-- A block of key codes. -/
def kBlk (A : Fin 14 → S256x512.Idx → EReal) (XS C S : S256x128.Idx → EReal) (W : S1x7168.Idx → EReal) : S1x256x8x128.Idx → EReal :=
  fun y => code (ropeHead A XS C S W (⟨40 + (y 2).val, by have := (y 2).isLt; change (y 2).val < 8 at this; omega⟩ : Fin 56) (y 1)) (y 3)

/-- A block of value codes. -/
def vBlk (A : Fin 14 → S256x512.Idx → EReal) (XS : S256x128.Idx → EReal) (W : S1x7168.Idx → EReal) : S1x256x8x128.Idx → EReal :=
  fun y => code (plainHead A XS W (⟨48 + (y 2).val, by have := (y 2).isLt; change (y 2).val < 8 at this; omega⟩ : Fin 56) (y 1)) (y 3)

section
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)
  (c0_i32_39 : BitVec 32) (v78 : FVec Ideal S256x512 .f32) (v79 : Vec Ideal S256x512 .f32) (v100 : FVec Ideal S256x5120 .fp8e4m3) (c0_i32_160 : BitVec 32)
  (X5 : BufTy.Contents (Elt Ideal) arg5.view.ty) (X17 : BufTy.Contents (Elt Ideal) arg17.view.ty) (X18 : BufTy.Contents (Elt Ideal) arg18.view.ty) (X19 : BufTy.Contents (Elt Ideal) arg19.view.ty)
  (A : Fin 14 → S256x512.Idx → EReal) (XS C S : S256x128.Idx → EReal) (W : S1x7168.Idx → EReal)

/-- The query codes, as the body leaves them. -/
theorem q_read (f : arg8.view.ty.Contents (Elt Ideal)) (h5 : arg5.view.read (Elt Ideal) X5 = W) (h17 : arg17.view.read (Elt Ideal) X17 = C) (h18 : arg18.view.read (Elt Ideal) X18 = S) (h19 : arg19.view.read (Elt Ideal) X19 = XS)
    (A2 : BufTy.Contents (Elt Ideal) arg16.view.ty) (hA2 : arg16.view.read (Elt Ideal) A2 = A 0)
    (A3 : BufTy.Contents (Elt Ideal) arg16.view.ty) (hA3 : arg16.view.read (Elt Ideal) A3 = A 1)
    (A4 : BufTy.Contents (Elt Ideal) arg16.view.ty) (hA4 : arg16.view.read (Elt Ideal) A4 = A 2)
    (A5 : BufTy.Contents (Elt Ideal) arg16.view.ty) (hA5 : arg16.view.read (Elt Ideal) A5 = A 3)
    (A6 : BufTy.Contents (Elt Ideal) arg16.view.ty) (hA6 : arg16.view.read (Elt Ideal) A6 = A 4)
    (A7 : BufTy.Contents (Elt Ideal) arg16.view.ty) (hA7 : arg16.view.read (Elt Ideal) A7 = A 5)
    (A8 : BufTy.Contents (Elt Ideal) arg16.view.ty) (hA8 : arg16.view.read (Elt Ideal) A8 = A 6)
    (A9 : BufTy.Contents (Elt Ideal) arg16.view.ty) (hA9 : arg16.view.read (Elt Ideal) A9 = A 7)
    (A10 : BufTy.Contents (Elt Ideal) arg16.view.ty) (hA10 : arg16.view.read (Elt Ideal) A10 = A 8)
    (A11 : BufTy.Contents (Elt Ideal) arg16.view.ty) (hA11 : arg16.view.read (Elt Ideal) A11 = A 9) :
    arg8.view.read (Elt Ideal) (arg8.view.writes (Elt Ideal) f ((pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 (Scf.trips k0_t11_loop.lb k0_t11_loop.ub k0_t11_loop.st)).1 ++ ((pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 (Scf.trips k0_t10_loop.lb k0_t10_loop.ub k0_t10_loop.st)).1 ++ ((pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 (Scf.trips k0_t9_loop.lb k0_t9_loop.ub k0_t9_loop.st)).1 ++ ((pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 (Scf.trips k0_t8_loop.lb k0_t8_loop.ub k0_t8_loop.st)).1 ++ ((pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 (Scf.trips k0_t7_loop.lb k0_t7_loop.ub k0_t7_loop.st)).1 ++ ((pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 (Scf.trips k0_t6_loop.lb k0_t6_loop.ub k0_t6_loop.st)).1 ++ ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 (Scf.trips k0_t5_loop.lb k0_t5_loop.ub k0_t5_loop.st)).1 ++ ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 (Scf.trips k0_t4_loop.lb k0_t4_loop.ub k0_t4_loop.st)).1 ++ ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 (Scf.trips k0_t3_loop.lb k0_t3_loop.ub k0_t3_loop.st)).1 ++ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 (Scf.trips k0_t2_loop.lb k0_t2_loop.ub k0_t2_loop.st)).1)))))))))) = qBlk A XS C S W := by
  subst h5 h17 h18 h19
  funext y
  refine View.read_writes_apply_of_pieces arg8.view f (qBlk A _ _ _ _) _ ?_ y ?_
  · intro p hp
    simp only [List.mem_append] at hp
    rcases hp with hp | hp | hp | hp | hp | hp | hp | hp | hp | hp
    · exact codes_t11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 _ (fun row j d => (congrArg (fun f => code f d) (ropeHead_at A _ _ _ _ (⟨0 + (4 * 9 + j.val), by omega⟩ : Fin 56) 9 j (show 0 + (4 * 9 + j.val) = 4 * 9 + j.val by omega) row)).trans
        (congrArg (fun a => code (ropeRow a _ _ _ _ 9 row j) d) hA11.symm)) p hp
    · exact codes_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 _ (fun row j d => (congrArg (fun f => code f d) (ropeHead_at A _ _ _ _ (⟨0 + (4 * 8 + j.val), by omega⟩ : Fin 56) 8 j (show 0 + (4 * 8 + j.val) = 4 * 8 + j.val by omega) row)).trans
        (congrArg (fun a => code (ropeRow a _ _ _ _ 8 row j) d) hA10.symm)) p hp
    · exact codes_t9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 _ (fun row j d => (congrArg (fun f => code f d) (ropeHead_at A _ _ _ _ (⟨0 + (4 * 7 + j.val), by omega⟩ : Fin 56) 7 j (show 0 + (4 * 7 + j.val) = 4 * 7 + j.val by omega) row)).trans
        (congrArg (fun a => code (ropeRow a _ _ _ _ 7 row j) d) hA9.symm)) p hp
    · exact codes_t8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 _ (fun row j d => (congrArg (fun f => code f d) (ropeHead_at A _ _ _ _ (⟨0 + (4 * 6 + j.val), by omega⟩ : Fin 56) 6 j (show 0 + (4 * 6 + j.val) = 4 * 6 + j.val by omega) row)).trans
        (congrArg (fun a => code (ropeRow a _ _ _ _ 6 row j) d) hA8.symm)) p hp
    · exact codes_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 _ (fun row j d => (congrArg (fun f => code f d) (ropeHead_at A _ _ _ _ (⟨0 + (4 * 5 + j.val), by omega⟩ : Fin 56) 5 j (show 0 + (4 * 5 + j.val) = 4 * 5 + j.val by omega) row)).trans
        (congrArg (fun a => code (ropeRow a _ _ _ _ 5 row j) d) hA7.symm)) p hp
    · exact codes_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 _ (fun row j d => (congrArg (fun f => code f d) (ropeHead_at A _ _ _ _ (⟨0 + (4 * 4 + j.val), by omega⟩ : Fin 56) 4 j (show 0 + (4 * 4 + j.val) = 4 * 4 + j.val by omega) row)).trans
        (congrArg (fun a => code (ropeRow a _ _ _ _ 4 row j) d) hA6.symm)) p hp
    · exact codes_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 _ (fun row j d => (congrArg (fun f => code f d) (ropeHead_at A _ _ _ _ (⟨0 + (4 * 3 + j.val), by omega⟩ : Fin 56) 3 j (show 0 + (4 * 3 + j.val) = 4 * 3 + j.val by omega) row)).trans
        (congrArg (fun a => code (ropeRow a _ _ _ _ 3 row j) d) hA5.symm)) p hp
    · exact codes_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 _ (fun row j d => (congrArg (fun f => code f d) (ropeHead_at A _ _ _ _ (⟨0 + (4 * 2 + j.val), by omega⟩ : Fin 56) 2 j (show 0 + (4 * 2 + j.val) = 4 * 2 + j.val by omega) row)).trans
        (congrArg (fun a => code (ropeRow a _ _ _ _ 2 row j) d) hA4.symm)) p hp
    · exact codes_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 _ (fun row j d => (congrArg (fun f => code f d) (ropeHead_at A _ _ _ _ (⟨0 + (4 * 1 + j.val), by omega⟩ : Fin 56) 1 j (show 0 + (4 * 1 + j.val) = 4 * 1 + j.val by omega) row)).trans
        (congrArg (fun a => code (ropeRow a _ _ _ _ 1 row j) d) hA3.symm)) p hp
    · exact codes_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 _ (fun row j d => (congrArg (fun f => code f d) (ropeHead_at A _ _ _ _ (⟨0 + (4 * 0 + j.val), by omega⟩ : Fin 56) 0 j (show 0 + (4 * 0 + j.val) = 4 * 0 + j.val by omega) row)).trans
        (congrArg (fun a => code (ropeRow a _ _ _ _ 0 row j) d) hA2.symm)) p hp
  · obtain ⟨row, h, d, rfl⟩ : ∃ (row : Fin 256) (h : Fin 40) (d : Fin 128), y = ix4 (0 : Fin 1) row h d :=
      ⟨y 1, y 2, y 3, by funext a; match a with | ⟨0, _⟩ => exact Subsingleton.elim (α := Fin 1) _ _ | ⟨1, _⟩ => rfl | ⟨2, _⟩ => rfl | ⟨3, _⟩ => rfl⟩
    rcases (by omega : h.val / 4 = 9 ∨ h.val / 4 = 8 ∨ h.val / 4 = 7 ∨ h.val / 4 = 6 ∨ h.val / 4 = 5 ∨ h.val / 4 = 4 ∨ h.val / 4 = 3 ∨ h.val / 4 = 2 ∨ h.val / 4 = 1 ∨ h.val / 4 = 0) with e | e | e | e | e | e | e | e | e | e
    · obtain ⟨p, hp, hy⟩ := cover_codes_t11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 row (⟨h.val % 4, Nat.mod_lt _ (by norm_num)⟩ : Fin 4) d
      refine ⟨p, (List.mem_append_left _ hp), ?_⟩
      have he : h = (⟨4 * 9 + h.val % 4, by omega⟩ : Fin 40) := Fin.ext (show h.val = 4 * 9 + h.val % 4 by omega)
      rw [he]; exact hy
    · obtain ⟨p, hp, hy⟩ := cover_codes_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 row (⟨h.val % 4, Nat.mod_lt _ (by norm_num)⟩ : Fin 4) d
      refine ⟨p, (List.mem_append_right _ (List.mem_append_left _ hp)), ?_⟩
      have he : h = (⟨4 * 8 + h.val % 4, by omega⟩ : Fin 40) := Fin.ext (show h.val = 4 * 8 + h.val % 4 by omega)
      rw [he]; exact hy
    · obtain ⟨p, hp, hy⟩ := cover_codes_t9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 row (⟨h.val % 4, Nat.mod_lt _ (by norm_num)⟩ : Fin 4) d
      refine ⟨p, (List.mem_append_right _ (List.mem_append_right _ (List.mem_append_left _ hp))), ?_⟩
      have he : h = (⟨4 * 7 + h.val % 4, by omega⟩ : Fin 40) := Fin.ext (show h.val = 4 * 7 + h.val % 4 by omega)
      rw [he]; exact hy
    · obtain ⟨p, hp, hy⟩ := cover_codes_t8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 row (⟨h.val % 4, Nat.mod_lt _ (by norm_num)⟩ : Fin 4) d
      refine ⟨p, (List.mem_append_right _ (List.mem_append_right _ (List.mem_append_right _ (List.mem_append_left _ hp)))), ?_⟩
      have he : h = (⟨4 * 6 + h.val % 4, by omega⟩ : Fin 40) := Fin.ext (show h.val = 4 * 6 + h.val % 4 by omega)
      rw [he]; exact hy
    · obtain ⟨p, hp, hy⟩ := cover_codes_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 row (⟨h.val % 4, Nat.mod_lt _ (by norm_num)⟩ : Fin 4) d
      refine ⟨p, (List.mem_append_right _ (List.mem_append_right _ (List.mem_append_right _ (List.mem_append_right _ (List.mem_append_left _ hp))))), ?_⟩
      have he : h = (⟨4 * 5 + h.val % 4, by omega⟩ : Fin 40) := Fin.ext (show h.val = 4 * 5 + h.val % 4 by omega)
      rw [he]; exact hy
    · obtain ⟨p, hp, hy⟩ := cover_codes_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 row (⟨h.val % 4, Nat.mod_lt _ (by norm_num)⟩ : Fin 4) d
      refine ⟨p, (List.mem_append_right _ (List.mem_append_right _ (List.mem_append_right _ (List.mem_append_right _ (List.mem_append_right _ (List.mem_append_left _ hp)))))), ?_⟩
      have he : h = (⟨4 * 4 + h.val % 4, by omega⟩ : Fin 40) := Fin.ext (show h.val = 4 * 4 + h.val % 4 by omega)
      rw [he]; exact hy
    · obtain ⟨p, hp, hy⟩ := cover_codes_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 row (⟨h.val % 4, Nat.mod_lt _ (by norm_num)⟩ : Fin 4) d
      refine ⟨p, (List.mem_append_right _ (List.mem_append_right _ (List.mem_append_right _ (List.mem_append_right _ (List.mem_append_right _ (List.mem_append_right _ (List.mem_append_left _ hp))))))), ?_⟩
      have he : h = (⟨4 * 3 + h.val % 4, by omega⟩ : Fin 40) := Fin.ext (show h.val = 4 * 3 + h.val % 4 by omega)
      rw [he]; exact hy
    · obtain ⟨p, hp, hy⟩ := cover_codes_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 row (⟨h.val % 4, Nat.mod_lt _ (by norm_num)⟩ : Fin 4) d
      refine ⟨p, (List.mem_append_right _ (List.mem_append_right _ (List.mem_append_right _ (List.mem_append_right _ (List.mem_append_right _ (List.mem_append_right _ (List.mem_append_right _ (List.mem_append_left _ hp)))))))), ?_⟩
      have he : h = (⟨4 * 2 + h.val % 4, by omega⟩ : Fin 40) := Fin.ext (show h.val = 4 * 2 + h.val % 4 by omega)
      rw [he]; exact hy
    · obtain ⟨p, hp, hy⟩ := cover_codes_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 row (⟨h.val % 4, Nat.mod_lt _ (by norm_num)⟩ : Fin 4) d
      refine ⟨p, (List.mem_append_right _ (List.mem_append_right _ (List.mem_append_right _ (List.mem_append_right _ (List.mem_append_right _ (List.mem_append_right _ (List.mem_append_right _ (List.mem_append_right _ (List.mem_append_left _ hp))))))))), ?_⟩
      have he : h = (⟨4 * 1 + h.val % 4, by omega⟩ : Fin 40) := Fin.ext (show h.val = 4 * 1 + h.val % 4 by omega)
      rw [he]; exact hy
    · obtain ⟨p, hp, hy⟩ := cover_codes_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 row (⟨h.val % 4, Nat.mod_lt _ (by norm_num)⟩ : Fin 4) d
      refine ⟨p, (List.mem_append_right _ (List.mem_append_right _ (List.mem_append_right _ (List.mem_append_right _ (List.mem_append_right _ (List.mem_append_right _ (List.mem_append_right _ (List.mem_append_right _ (List.mem_append_right _ hp))))))))), ?_⟩
      have he : h = (⟨4 * 0 + h.val % 4, by omega⟩ : Fin 40) := Fin.ext (show h.val = 4 * 0 + h.val % 4 by omega)
      rw [he]; exact hy

/-- The key codes, as the body leaves them. -/
theorem k_read (f : arg10.view.ty.Contents (Elt Ideal)) (h5 : arg5.view.read (Elt Ideal) X5 = W) (h17 : arg17.view.read (Elt Ideal) X17 = C) (h18 : arg18.view.read (Elt Ideal) X18 = S) (h19 : arg19.view.read (Elt Ideal) X19 = XS)
    (A12 : BufTy.Contents (Elt Ideal) arg16.view.ty) (hA12 : arg16.view.read (Elt Ideal) A12 = A 10)
    (A13 : BufTy.Contents (Elt Ideal) arg16.view.ty) (hA13 : arg16.view.read (Elt Ideal) A13 = A 11) :
    arg10.view.read (Elt Ideal) (arg10.view.writes (Elt Ideal) f ((pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 (Scf.trips k0_t13_loop.lb k0_t13_loop.ub k0_t13_loop.st)).1 ++ (pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 (Scf.trips k0_t12_loop.lb k0_t12_loop.ub k0_t12_loop.st)).1)) = kBlk A XS C S W := by
  subst h5 h17 h18 h19
  funext y
  refine View.read_writes_apply_of_pieces arg10.view f (kBlk A _ _ _ _) _ ?_ y ?_
  · intro p hp
    simp only [List.mem_append] at hp
    rcases hp with hp | hp
    · exact codes_t13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 _ (fun row j d => (congrArg (fun f => code f d) (ropeHead_at A _ _ _ _ (⟨40 + (4 * 1 + j.val), by omega⟩ : Fin 56) 11 j (show 40 + (4 * 1 + j.val) = 4 * 11 + j.val by omega) row)).trans
        (congrArg (fun a => code (ropeRow a _ _ _ _ 11 row j) d) hA13.symm)) p hp
    · exact codes_t12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 _ (fun row j d => (congrArg (fun f => code f d) (ropeHead_at A _ _ _ _ (⟨40 + (4 * 0 + j.val), by omega⟩ : Fin 56) 10 j (show 40 + (4 * 0 + j.val) = 4 * 10 + j.val by omega) row)).trans
        (congrArg (fun a => code (ropeRow a _ _ _ _ 10 row j) d) hA12.symm)) p hp
  · obtain ⟨row, h, d, rfl⟩ : ∃ (row : Fin 256) (h : Fin 8) (d : Fin 128), y = ix4 (0 : Fin 1) row h d :=
      ⟨y 1, y 2, y 3, by funext a; match a with | ⟨0, _⟩ => exact Subsingleton.elim (α := Fin 1) _ _ | ⟨1, _⟩ => rfl | ⟨2, _⟩ => rfl | ⟨3, _⟩ => rfl⟩
    rcases (by omega : h.val / 4 = 1 ∨ h.val / 4 = 0) with e | e
    · obtain ⟨p, hp, hy⟩ := cover_codes_t13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 row (⟨h.val % 4, Nat.mod_lt _ (by norm_num)⟩ : Fin 4) d
      refine ⟨p, (List.mem_append_left _ hp), ?_⟩
      have he : h = (⟨4 * 1 + h.val % 4, by omega⟩ : Fin 8) := Fin.ext (show h.val = 4 * 1 + h.val % 4 by omega)
      rw [he]; exact hy
    · obtain ⟨p, hp, hy⟩ := cover_codes_t12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 row (⟨h.val % 4, Nat.mod_lt _ (by norm_num)⟩ : Fin 4) d
      refine ⟨p, (List.mem_append_right _ hp), ?_⟩
      have he : h = (⟨4 * 0 + h.val % 4, by omega⟩ : Fin 8) := Fin.ext (show h.val = 4 * 0 + h.val % 4 by omega)
      rw [he]; exact hy

/-- The value codes, as the body leaves them. -/
theorem v_read (f : arg12.view.ty.Contents (Elt Ideal)) (h5 : arg5.view.read (Elt Ideal) X5 = W) (h19 : arg19.view.read (Elt Ideal) X19 = XS)
    (A14 : BufTy.Contents (Elt Ideal) arg16.view.ty) (hA14 : arg16.view.read (Elt Ideal) A14 = A 12)
    (A15 : BufTy.Contents (Elt Ideal) arg16.view.ty) (hA15 : arg16.view.read (Elt Ideal) A15 = A 13) :
    arg12.view.read (Elt Ideal) (arg12.view.writes (Elt Ideal) f ((pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 (Scf.trips k0_t15_loop.lb k0_t15_loop.ub k0_t15_loop.st)).1 ++ (pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 (Scf.trips k0_t14_loop.lb k0_t14_loop.ub k0_t14_loop.st)).1)) = vBlk A XS W := by
  subst h5 h19
  funext y
  refine View.read_writes_apply_of_pieces arg12.view f (vBlk A _ _) _ ?_ y ?_
  · intro p hp
    simp only [List.mem_append] at hp
    rcases hp with hp | hp
    · exact codes_t15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 _ (fun row j d => (congrArg (fun f => code f d) (plainHead_at A _ _ (⟨48 + (4 * 1 + j.val), by omega⟩ : Fin 56) 13 j (show 48 + (4 * 1 + j.val) = 4 * 13 + j.val by omega) row)).trans
        (congrArg (fun a => code (plainRow a _ _ 13 row j) d) hA15.symm)) p hp
    · exact codes_t14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 _ (fun row j d => (congrArg (fun f => code f d) (plainHead_at A _ _ (⟨48 + (4 * 0 + j.val), by omega⟩ : Fin 56) 12 j (show 48 + (4 * 0 + j.val) = 4 * 12 + j.val by omega) row)).trans
        (congrArg (fun a => code (plainRow a _ _ 12 row j) d) hA14.symm)) p hp
  · obtain ⟨row, h, d, rfl⟩ : ∃ (row : Fin 256) (h : Fin 8) (d : Fin 128), y = ix4 (0 : Fin 1) row h d :=
      ⟨y 1, y 2, y 3, by funext a; match a with | ⟨0, _⟩ => exact Subsingleton.elim (α := Fin 1) _ _ | ⟨1, _⟩ => rfl | ⟨2, _⟩ => rfl | ⟨3, _⟩ => rfl⟩
    rcases (by omega : h.val / 4 = 1 ∨ h.val / 4 = 0) with e | e
    · obtain ⟨p, hp, hy⟩ := cover_codes_t15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 row (⟨h.val % 4, Nat.mod_lt _ (by norm_num)⟩ : Fin 4) d
      refine ⟨p, (List.mem_append_left _ hp), ?_⟩
      have he : h = (⟨4 * 1 + h.val % 4, by omega⟩ : Fin 8) := Fin.ext (show h.val = 4 * 1 + h.val % 4 by omega)
      rw [he]; exact hy
    · obtain ⟨p, hp, hy⟩ := cover_codes_t14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 row (⟨h.val % 4, Nat.mod_lt _ (by norm_num)⟩ : Fin 4) d
      refine ⟨p, (List.mem_append_right _ hp), ?_⟩
      have he : h = (⟨4 * 0 + h.val % 4, by omega⟩ : Fin 8) := Fin.ext (show h.val = 4 * 0 + h.val % 4 by omega)
      rw [he]; exact hy

/-- The heads' scales, as the body leaves them in its scratch. -/
theorem heads_read (f : arg20.view.ty.Contents (Elt Ideal)) (h5 : arg5.view.read (Elt Ideal) X5 = W) (h17 : arg17.view.read (Elt Ideal) X17 = C) (h18 : arg18.view.read (Elt Ideal) X18 = S) (h19 : arg19.view.read (Elt Ideal) X19 = XS)
    (A2 : BufTy.Contents (Elt Ideal) arg16.view.ty) (hA2 : arg16.view.read (Elt Ideal) A2 = A 0)
    (A3 : BufTy.Contents (Elt Ideal) arg16.view.ty) (hA3 : arg16.view.read (Elt Ideal) A3 = A 1)
    (A4 : BufTy.Contents (Elt Ideal) arg16.view.ty) (hA4 : arg16.view.read (Elt Ideal) A4 = A 2)
    (A5 : BufTy.Contents (Elt Ideal) arg16.view.ty) (hA5 : arg16.view.read (Elt Ideal) A5 = A 3)
    (A6 : BufTy.Contents (Elt Ideal) arg16.view.ty) (hA6 : arg16.view.read (Elt Ideal) A6 = A 4)
    (A7 : BufTy.Contents (Elt Ideal) arg16.view.ty) (hA7 : arg16.view.read (Elt Ideal) A7 = A 5)
    (A8 : BufTy.Contents (Elt Ideal) arg16.view.ty) (hA8 : arg16.view.read (Elt Ideal) A8 = A 6)
    (A9 : BufTy.Contents (Elt Ideal) arg16.view.ty) (hA9 : arg16.view.read (Elt Ideal) A9 = A 7)
    (A10 : BufTy.Contents (Elt Ideal) arg16.view.ty) (hA10 : arg16.view.read (Elt Ideal) A10 = A 8)
    (A11 : BufTy.Contents (Elt Ideal) arg16.view.ty) (hA11 : arg16.view.read (Elt Ideal) A11 = A 9)
    (A12 : BufTy.Contents (Elt Ideal) arg16.view.ty) (hA12 : arg16.view.read (Elt Ideal) A12 = A 10)
    (A13 : BufTy.Contents (Elt Ideal) arg16.view.ty) (hA13 : arg16.view.read (Elt Ideal) A13 = A 11)
    (A14 : BufTy.Contents (Elt Ideal) arg16.view.ty) (hA14 : arg16.view.read (Elt Ideal) A14 = A 12)
    (A15 : BufTy.Contents (Elt Ideal) arg16.view.ty) (hA15 : arg16.view.read (Elt Ideal) A15 = A 13) (row : Fin 256) (h : Fin 56) :
    arg20.view.read (Elt Ideal) (arg20.view.writes (Elt Ideal) f ((pb_k0_t15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 (Scf.trips k0_t15_loop.lb k0_t15_loop.ub k0_t15_loop.st)).2 ++ ((pb_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 (Scf.trips k0_t14_loop.lb k0_t14_loop.ub k0_t14_loop.st)).2 ++ ((pb_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 (Scf.trips k0_t13_loop.lb k0_t13_loop.ub k0_t13_loop.st)).2 ++ ((pb_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 (Scf.trips k0_t12_loop.lb k0_t12_loop.ub k0_t12_loop.st)).2 ++ ((pb_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 (Scf.trips k0_t11_loop.lb k0_t11_loop.ub k0_t11_loop.st)).2 ++ ((pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 (Scf.trips k0_t10_loop.lb k0_t10_loop.ub k0_t10_loop.st)).2 ++ ((pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 (Scf.trips k0_t9_loop.lb k0_t9_loop.ub k0_t9_loop.st)).2 ++ ((pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 (Scf.trips k0_t8_loop.lb k0_t8_loop.ub k0_t8_loop.st)).2 ++ ((pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 (Scf.trips k0_t7_loop.lb k0_t7_loop.ub k0_t7_loop.st)).2 ++ ((pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 (Scf.trips k0_t6_loop.lb k0_t6_loop.ub k0_t6_loop.st)).2 ++ ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 (Scf.trips k0_t5_loop.lb k0_t5_loop.ub k0_t5_loop.st)).2 ++ ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 (Scf.trips k0_t4_loop.lb k0_t4_loop.ub k0_t4_loop.st)).2 ++ ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 (Scf.trips k0_t3_loop.lb k0_t3_loop.ub k0_t3_loop.st)).2 ++ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 (Scf.trips k0_t2_loop.lb k0_t2_loop.ub k0_t2_loop.st)).2)))))))))))))) (ix2 row (⟨h.val, by omega⟩ : Fin 128))
      = rowScale (headVal A XS C S W h row) := by
  subst h5 h17 h18 h19
  refine (View.read_writes_apply_of_pieces _ _ (headScales A _ _ _ _) _ ?_ _ ?_).trans (headScales_at A _ _ _ _ row h)
  · intro p hp
    simp only [List.mem_append] at hp
    rcases hp with hp | hp | hp | hp | hp | hp | hp | hp | hp | hp | hp | hp | hp | hp
    · exact scales_t15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 _ (fun j row => ((headScales_at A _ _ _ _ row (⟨4 * 13 + j.val, by omega⟩ : Fin 56)).trans (congrArg rowScale (headVal_plain A _ _ _ _ (⟨4 * 13 + j.val, by omega⟩ : Fin 56) 13 (by norm_num) j rfl row))).trans
        (congrArg (fun a => rowScale (plainRow a _ _ 13 row j)) hA15.symm)) p hp
    · exact scales_t14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 _ (fun j row => ((headScales_at A _ _ _ _ row (⟨4 * 12 + j.val, by omega⟩ : Fin 56)).trans (congrArg rowScale (headVal_plain A _ _ _ _ (⟨4 * 12 + j.val, by omega⟩ : Fin 56) 12 (by norm_num) j rfl row))).trans
        (congrArg (fun a => rowScale (plainRow a _ _ 12 row j)) hA14.symm)) p hp
    · exact scales_t13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 _ (fun j row => ((headScales_at A _ _ _ _ row (⟨4 * 11 + j.val, by omega⟩ : Fin 56)).trans (congrArg rowScale (headVal_rope A _ _ _ _ (⟨4 * 11 + j.val, by omega⟩ : Fin 56) 11 (by norm_num) j rfl row))).trans
        (congrArg (fun a => rowScale (ropeRow a _ _ _ _ 11 row j)) hA13.symm)) p hp
    · exact scales_t12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 _ (fun j row => ((headScales_at A _ _ _ _ row (⟨4 * 10 + j.val, by omega⟩ : Fin 56)).trans (congrArg rowScale (headVal_rope A _ _ _ _ (⟨4 * 10 + j.val, by omega⟩ : Fin 56) 10 (by norm_num) j rfl row))).trans
        (congrArg (fun a => rowScale (ropeRow a _ _ _ _ 10 row j)) hA12.symm)) p hp
    · exact scales_t11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 _ (fun j row => ((headScales_at A _ _ _ _ row (⟨4 * 9 + j.val, by omega⟩ : Fin 56)).trans (congrArg rowScale (headVal_rope A _ _ _ _ (⟨4 * 9 + j.val, by omega⟩ : Fin 56) 9 (by norm_num) j rfl row))).trans
        (congrArg (fun a => rowScale (ropeRow a _ _ _ _ 9 row j)) hA11.symm)) p hp
    · exact scales_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 _ (fun j row => ((headScales_at A _ _ _ _ row (⟨4 * 8 + j.val, by omega⟩ : Fin 56)).trans (congrArg rowScale (headVal_rope A _ _ _ _ (⟨4 * 8 + j.val, by omega⟩ : Fin 56) 8 (by norm_num) j rfl row))).trans
        (congrArg (fun a => rowScale (ropeRow a _ _ _ _ 8 row j)) hA10.symm)) p hp
    · exact scales_t9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 _ (fun j row => ((headScales_at A _ _ _ _ row (⟨4 * 7 + j.val, by omega⟩ : Fin 56)).trans (congrArg rowScale (headVal_rope A _ _ _ _ (⟨4 * 7 + j.val, by omega⟩ : Fin 56) 7 (by norm_num) j rfl row))).trans
        (congrArg (fun a => rowScale (ropeRow a _ _ _ _ 7 row j)) hA9.symm)) p hp
    · exact scales_t8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 _ (fun j row => ((headScales_at A _ _ _ _ row (⟨4 * 6 + j.val, by omega⟩ : Fin 56)).trans (congrArg rowScale (headVal_rope A _ _ _ _ (⟨4 * 6 + j.val, by omega⟩ : Fin 56) 6 (by norm_num) j rfl row))).trans
        (congrArg (fun a => rowScale (ropeRow a _ _ _ _ 6 row j)) hA8.symm)) p hp
    · exact scales_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 _ (fun j row => ((headScales_at A _ _ _ _ row (⟨4 * 5 + j.val, by omega⟩ : Fin 56)).trans (congrArg rowScale (headVal_rope A _ _ _ _ (⟨4 * 5 + j.val, by omega⟩ : Fin 56) 5 (by norm_num) j rfl row))).trans
        (congrArg (fun a => rowScale (ropeRow a _ _ _ _ 5 row j)) hA7.symm)) p hp
    · exact scales_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 _ (fun j row => ((headScales_at A _ _ _ _ row (⟨4 * 4 + j.val, by omega⟩ : Fin 56)).trans (congrArg rowScale (headVal_rope A _ _ _ _ (⟨4 * 4 + j.val, by omega⟩ : Fin 56) 4 (by norm_num) j rfl row))).trans
        (congrArg (fun a => rowScale (ropeRow a _ _ _ _ 4 row j)) hA6.symm)) p hp
    · exact scales_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 _ (fun j row => ((headScales_at A _ _ _ _ row (⟨4 * 3 + j.val, by omega⟩ : Fin 56)).trans (congrArg rowScale (headVal_rope A _ _ _ _ (⟨4 * 3 + j.val, by omega⟩ : Fin 56) 3 (by norm_num) j rfl row))).trans
        (congrArg (fun a => rowScale (ropeRow a _ _ _ _ 3 row j)) hA5.symm)) p hp
    · exact scales_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 _ (fun j row => ((headScales_at A _ _ _ _ row (⟨4 * 2 + j.val, by omega⟩ : Fin 56)).trans (congrArg rowScale (headVal_rope A _ _ _ _ (⟨4 * 2 + j.val, by omega⟩ : Fin 56) 2 (by norm_num) j rfl row))).trans
        (congrArg (fun a => rowScale (ropeRow a _ _ _ _ 2 row j)) hA4.symm)) p hp
    · exact scales_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 _ (fun j row => ((headScales_at A _ _ _ _ row (⟨4 * 1 + j.val, by omega⟩ : Fin 56)).trans (congrArg rowScale (headVal_rope A _ _ _ _ (⟨4 * 1 + j.val, by omega⟩ : Fin 56) 1 (by norm_num) j rfl row))).trans
        (congrArg (fun a => rowScale (ropeRow a _ _ _ _ 1 row j)) hA3.symm)) p hp
    · exact scales_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 _ (fun j row => ((headScales_at A _ _ _ _ row (⟨4 * 0 + j.val, by omega⟩ : Fin 56)).trans (congrArg rowScale (headVal_rope A _ _ _ _ (⟨4 * 0 + j.val, by omega⟩ : Fin 56) 0 (by norm_num) j rfl row))).trans
        (congrArg (fun a => rowScale (ropeRow a _ _ _ _ 0 row j)) hA2.symm)) p hp
  · rcases (by omega : h.val / 4 = 13 ∨ h.val / 4 = 12 ∨ h.val / 4 = 11 ∨ h.val / 4 = 10 ∨ h.val / 4 = 9 ∨ h.val / 4 = 8 ∨ h.val / 4 = 7 ∨ h.val / 4 = 6 ∨ h.val / 4 = 5 ∨ h.val / 4 = 4 ∨ h.val / 4 = 3 ∨ h.val / 4 = 2 ∨ h.val / 4 = 1 ∨ h.val / 4 = 0) with e | e | e | e | e | e | e | e | e | e | e | e | e | e
    · obtain ⟨p, hp, hy⟩ := cover_scales_t15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_160 X5 A15 X19 row (⟨h.val % 4, Nat.mod_lt _ (by norm_num)⟩ : Fin 4)
      refine ⟨p, (List.mem_append_left _ hp), ?_⟩
      have he : (⟨h.val, by omega⟩ : Fin 128) = (⟨4 * 13 + h.val % 4, by omega⟩ : Fin 128) := Fin.ext (show h.val = 4 * 13 + h.val % 4 by omega)
      rw [he]; exact hy
    · obtain ⟨p, hp, hy⟩ := cover_scales_t14 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A14 X19 row (⟨h.val % 4, Nat.mod_lt _ (by norm_num)⟩ : Fin 4)
      refine ⟨p, (List.mem_append_right _ (List.mem_append_left _ hp)), ?_⟩
      have he : (⟨h.val, by omega⟩ : Fin 128) = (⟨4 * 12 + h.val % 4, by omega⟩ : Fin 128) := Fin.ext (show h.val = 4 * 12 + h.val % 4 by omega)
      rw [he]; exact hy
    · obtain ⟨p, hp, hy⟩ := cover_scales_t13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A13 X17 X18 X19 row (⟨h.val % 4, Nat.mod_lt _ (by norm_num)⟩ : Fin 4)
      refine ⟨p, (List.mem_append_right _ (List.mem_append_right _ (List.mem_append_left _ hp))), ?_⟩
      have he : (⟨h.val, by omega⟩ : Fin 128) = (⟨4 * 11 + h.val % 4, by omega⟩ : Fin 128) := Fin.ext (show h.val = 4 * 11 + h.val % 4 by omega)
      rw [he]; exact hy
    · obtain ⟨p, hp, hy⟩ := cover_scales_t12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A12 X17 X18 X19 row (⟨h.val % 4, Nat.mod_lt _ (by norm_num)⟩ : Fin 4)
      refine ⟨p, (List.mem_append_right _ (List.mem_append_right _ (List.mem_append_right _ (List.mem_append_left _ hp)))), ?_⟩
      have he : (⟨h.val, by omega⟩ : Fin 128) = (⟨4 * 10 + h.val % 4, by omega⟩ : Fin 128) := Fin.ext (show h.val = 4 * 10 + h.val % 4 by omega)
      rw [he]; exact hy
    · obtain ⟨p, hp, hy⟩ := cover_scales_t11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A11 X17 X18 X19 row (⟨h.val % 4, Nat.mod_lt _ (by norm_num)⟩ : Fin 4)
      refine ⟨p, (List.mem_append_right _ (List.mem_append_right _ (List.mem_append_right _ (List.mem_append_right _ (List.mem_append_left _ hp))))), ?_⟩
      have he : (⟨h.val, by omega⟩ : Fin 128) = (⟨4 * 9 + h.val % 4, by omega⟩ : Fin 128) := Fin.ext (show h.val = 4 * 9 + h.val % 4 by omega)
      rw [he]; exact hy
    · obtain ⟨p, hp, hy⟩ := cover_scales_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v100 X5 A10 X17 X18 X19 row (⟨h.val % 4, Nat.mod_lt _ (by norm_num)⟩ : Fin 4)
      refine ⟨p, (List.mem_append_right _ (List.mem_append_right _ (List.mem_append_right _ (List.mem_append_right _ (List.mem_append_right _ (List.mem_append_left _ hp)))))), ?_⟩
      have he : (⟨h.val, by omega⟩ : Fin 128) = (⟨4 * 8 + h.val % 4, by omega⟩ : Fin 128) := Fin.ext (show h.val = 4 * 8 + h.val % 4 by omega)
      rw [he]; exact hy
    · obtain ⟨p, hp, hy⟩ := cover_scales_t9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A9 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_left _ hp))))))), ?_⟩
      have he : (⟨h.val, by omega⟩ : Fin 128) = (⟨4 * 7 + h.val % 4, by omega⟩ : Fin 128) := Fin.ext (show h.val = 4 * 7 + h.val % 4 by omega)
      rw [he]; exact hy
    · obtain ⟨p, hp, hy⟩ := cover_scales_t8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A8 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_left _ hp)))))))), ?_⟩
      have he : (⟨h.val, by omega⟩ : Fin 128) = (⟨4 * 6 + h.val % 4, by omega⟩ : Fin 128) := Fin.ext (show h.val = 4 * 6 + h.val % 4 by omega)
      rw [he]; exact hy
    · obtain ⟨p, hp, hy⟩ := cover_scales_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v78 v79 X5 A7 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_left _ hp))))))))), ?_⟩
      have he : (⟨h.val, by omega⟩ : Fin 128) = (⟨4 * 5 + h.val % 4, by omega⟩ : Fin 128) := Fin.ext (show h.val = 4 * 5 + h.val % 4 by omega)
      rw [he]; exact hy
    · obtain ⟨p, hp, hy⟩ := cover_scales_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A6 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_right _ (List.mem_append_left _ hp)))))))))), ?_⟩
      have he : (⟨h.val, by omega⟩ : Fin 128) = (⟨4 * 4 + h.val % 4, by omega⟩ : Fin 128) := Fin.ext (show h.val = 4 * 4 + h.val % 4 by omega)
      rw [he]; exact hy
    · obtain ⟨p, hp, hy⟩ := cover_scales_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A5 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_right _ (List.mem_append_right _ (List.mem_append_left _ hp))))))))))), ?_⟩
      have he : (⟨h.val, by omega⟩ : Fin 128) = (⟨4 * 3 + h.val % 4, by omega⟩ : Fin 128) := Fin.ext (show h.val = 4 * 3 + h.val % 4 by omega)
      rw [he]; exact hy
    · obtain ⟨p, hp, hy⟩ := cover_scales_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_39 X5 A4 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp)))))))))))), ?_⟩
      have he : (⟨h.val, by omega⟩ : Fin 128) = (⟨4 * 2 + h.val % 4, by omega⟩ : Fin 128) := Fin.ext (show h.val = 4 * 2 + h.val % 4 by omega)
      rw [he]; exact hy
    · obtain ⟨p, hp, hy⟩ := cover_scales_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A3 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp))))))))))))), ?_⟩
      have he : (⟨h.val, by omega⟩ : Fin 128) = (⟨4 * 1 + h.val % 4, by omega⟩ : Fin 128) := Fin.ext (show h.val = 4 * 1 + h.val % 4 by omega)
      rw [he]; exact hy
    · obtain ⟨p, hp, hy⟩ := cover_scales_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  X5 A2 X17 X18 X19 row (⟨h.val % 4, Nat.mod_lt _ (by norm_num)⟩ : Fin 4)
      refine ⟨p, (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ hp))))))))))))), ?_⟩
      have he : (⟨h.val, by omega⟩ : Fin 128) = (⟨4 * 0 + h.val % 4, by omega⟩ : Fin 128) := Fin.ext (show h.val = 4 * 0 + h.val % 4 by omega)
      rw [he]; exact hy

end

end Cert.KernelIdeal.Gen
-- ==== Proof.Norm.lean ====
/- The first loop (normalised rows, their codes and scales), the matrix product of one quarter chunk, the rotation's tables, and the
   transposed scales, read at an index over the extended reals. -/
module

public import proofs.«01_k».proof.Proof.Steps
public import Idealize.ShloMosaic.Lib.MatmulPlain

@[expose] public section

set_option maxRecDepth 16384

noncomputable section

namespace Cert.KernelIdeal.Gen

open Idealize.ShloMosaic Idealize.ShloMosaic.TcCoe Idealize.ShloMosaic.ValueIdx Cert.Qkv
open scoped BigOperators

/-- One row of a block, normalised. -/
def normRow (x : S1x256x5120.Idx → EReal) (g : S1x5120.Idx → EReal) (row : Fin 256) : Fin 5120 → EReal :=
  normed (fun e => x (ix3 (0 : Fin 1) row e)) (fun e => g (ix2 (0 : Fin 1) e))

section
variable {F : FTy → Type} [FloatOps F]
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (X_arg2 : BufTy.Contents (Elt F) arg2.view.ty) (X_arg3 : BufTy.Contents (Elt F) arg3.view.ty)

theorem trip1_t1 (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).1
      = [⟨Rect.unit (s := S1x256x5120) (k0_off1 k) S1x32x5120.size (k0_off1_inb k), shapeCast S1x32x5120 (codesWide (k0_pay8
          (View.readAt (Elt F) arg2.view (Rect.unit (s := S1x256x5120) (k0_off1 k) S1x32x5120.size (k0_off1_inb k)).toLoadRect X_arg2)
          (View.readAt (Elt F) arg3.view (Rect.unit (s := S1x5120) ![0, 0] S1x5120.size inb_S1x5120_S1x5120_0_0).toLoadRect X_arg3))) shapeCasts_S32x5120_S1x32x5120⟩] := by
  dsimp only [tripL_k0_t1]; unfold trip_k0_t1; rfl

theorem trip2_t1 (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).2
      = [⟨Rect.unit (s := S256x128) (k0_off2 k) S32x128.size (k0_off2_inb k), shapeCast S32x128 (broadcastTo S32x128 (shapeCast S32x1 (scaleOf (F := F) (bitsOf (amaxWide (k0_pay8
          (View.readAt (Elt F) arg2.view (Rect.unit (s := S1x256x5120) (k0_off1 k) S1x32x5120.size (k0_off1_inb k)).toLoadRect X_arg2)
          (View.readAt (Elt F) arg3.view (Rect.unit (s := S1x5120) ![0, 0] S1x5120.size inb_S1x5120_S1x5120_0_0).toLoadRect X_arg3))))) shapeCasts_S32x1_S32x1)
            broadcasts_S32x1_S32x128) shapeCasts_S32x128_S32x128⟩] := by
  dsimp only [tripL_k0_t1]; unfold trip_k0_t1; rfl
end

section
variable {sig : RefSig} {κ : Kind} {sp : Space}

theorem load_x (v : View sig κ sp S1x256x5120 .bf16) (f : v.ty.Contents (Elt Ideal)) {off : Fin 3 → ℕ} (inb : ∀ a, off a + S1x32x5120.size a ≤ S1x256x5120.size a)
    {k : ℕ} (hk : k < 8) (h : off = ![0, 32 * k, 0]) (r : Fin 32) (d : Fin 5120) :
    View.readAt (Elt Ideal) v (Rect.unit (s := S1x256x5120) off S1x32x5120.size inb).toLoadRect f (ix3 (0 : Fin 1) r d)
      = v.read (Elt Ideal) f (ix3 (0 : Fin 1) (⟨32 * k + r.val, by omega⟩ : Fin 256) d) := by
  subst h
  refine congrArg (v.read (Elt Ideal) f) ?_
  funext a
  refine Fin.ext ((ValueKit.rect_emb_unit_val _ _ _ _ a).trans ?_)
  match a with
  | ⟨0, _⟩ => rfl
  | ⟨1, _⟩ => rfl
  | ⟨2, _⟩ => exact Nat.zero_add _

theorem load_g (v : View sig κ sp S1x5120 .f32) (f : v.ty.Contents (Elt Ideal)) (inb : ∀ a, (![0, 0] : Fin 2 → ℕ) a + S1x5120.size a ≤ S1x5120.size a) (d : Fin 5120) :
    View.readAt (Elt Ideal) v (Rect.unit (s := S1x5120) ![0, 0] S1x5120.size inb).toLoadRect f (ix2 (0 : Fin 1) d)
      = v.read (Elt Ideal) f (ix2 (0 : Fin 1) d) := by
  refine congrArg (v.read (Elt Ideal) f) ?_
  funext a
  refine Fin.ext ((ValueKit.rect_emb_unit_val _ _ _ _ a).trans ?_)
  match a with
  | ⟨0, _⟩ => rfl
  | ⟨1, _⟩ => exact Nat.zero_add _

theorem norm_load (v2 : View sig κ sp S1x256x5120 .bf16) (f2 : v2.ty.Contents (Elt Ideal)) (v3 : View sig κ sp S1x5120 .f32) (f3 : v3.ty.Contents (Elt Ideal))
    {off : Fin 3 → ℕ} (inb) (inb') {k : ℕ} (hk : k < 8) (h : off = ![0, 32 * k, 0]) (r : Fin 32) (d : Fin 5120) :
    k0_pay8 (F := Ideal) (View.readAt (Elt Ideal) v2 (Rect.unit (s := S1x256x5120) off S1x32x5120.size inb).toLoadRect f2)
        (View.readAt (Elt Ideal) v3 (Rect.unit (s := S1x5120) ![0, 0] S1x5120.size inb').toLoadRect f3) (ix2 r d)
      = normRow (v2.read (Elt Ideal) f2) (v3.read (Elt Ideal) f3) (⟨32 * k + r.val, by omega⟩ : Fin 256) d := by
  refine (norm_apply _ _ r d).trans ?_
  unfold normRow
  exact congrArg₂ (fun a b => normed a b d) (funext fun e => load_x v2 f2 inb hk h r e) (funext fun e => load_g v3 f3 inb' e)

theorem load_w (v : View sig κ sp S5120x7168 .fp8e4m3) (f : v.ty.Contents (Elt Ideal)) {off : Fin 2 → ℕ} (inb : ∀ a, off a + S5120x512.size a ≤ S5120x7168.size a)
    (n : Fin 14) (h : off = ![0, 512 * n.val]) (e : Fin 5120) (d : Fin 512) :
    View.readAt (Elt Ideal) v (Rect.unit (s := S5120x7168) off S5120x512.size inb).toLoadRect f (ix2 e d)
      = v.read (Elt Ideal) f (ix2 e (⟨512 * n.val + d.val, by omega⟩ : Fin 7168)) := by
  subst h
  refine congrArg (v.read (Elt Ideal) f) ?_
  funext a
  refine Fin.ext ((ValueKit.rect_emb_unit_val _ _ _ _ a).trans ?_)
  match a with
  | ⟨0, _⟩ => exact Nat.zero_add _
  | ⟨1, _⟩ => rfl

/-- A trip's block of codes is the block of the whole array it is stored at. -/
theorem piece_wide (G : S1x256x5120.Idx → Elt Ideal .fp8e4m3) (T : Fin 256 → Fin 5120 → EReal) {k : ℕ} (hk : k < 8)
    {off : Fin 3 → ℕ} (inb : ∀ a, off a + S1x32x5120.size a ≤ S1x256x5120.size a) (hoff : off = ![0, 32 * k, 0]) (t : FVec Ideal S32x5120 .f32)
    (h : ∀ r d, t (ix2 r d) = T (⟨32 * k + r.val, by omega⟩ : Fin 256) d) (hG : ∀ row d, G (ix3 (0 : Fin 1) row d) = code (T row) d) :
    ∀ x, shapeCast S1x32x5120 (codesWide (F := Ideal) t) shapeCasts_S32x5120_S1x32x5120 x
      = G ((Rect.unit (s := S1x256x5120) off S1x32x5120.size inb).emb x) := by
  subst hoff
  intro x
  obtain ⟨r, d, rfl⟩ : ∃ (r : Fin 32) (d : Fin 5120), x = ix3 (0 : Fin 1) r d :=
    ⟨x 1, x 2, by funext a; match a with | ⟨0, _⟩ => exact Subsingleton.elim (α := Fin 1) _ _ | ⟨1, _⟩ => rfl | ⟨2, _⟩ => rfl⟩
  have he : (Rect.unit (s := S1x256x5120) ![0, 32 * k, 0] S1x32x5120.size inb).emb (ix3 (0 : Fin 1) r d)
      = ix3 (0 : Fin 1) (⟨32 * k + r.val, by omega⟩ : Fin 256) d := by
    funext a
    refine Fin.ext ((ValueKit.rect_emb_unit_val _ _ _ _ a).trans ?_)
    match a with
    | ⟨0, _⟩ => rfl
    | ⟨1, _⟩ => rfl
    | ⟨2, _⟩ => exact Nat.zero_add _
  refine (shapeCast_ab_1ab_apply _ _ _ r d).trans ?_
  refine (codesWide_apply t r d).trans ?_
  refine Eq.trans ?_ ((hG _ d).symm.trans (congrArg G he.symm))
  exact congrArg (fun f => code f d) (funext fun e => h r e)

theorem mem_wide {k : ℕ} {off : Fin 3 → ℕ} (inb : ∀ a, off a + S1x32x5120.size a ≤ S1x256x5120.size a) (hoff : off = ![0, 32 * k, 0])
    (row : Fin 256) (hr : row.val / 32 = k) (d : Fin 5120) :
    ix3 (0 : Fin 1) row d ∈ (Rect.unit (s := S1x256x5120) off S1x32x5120.size inb).set := by
  subst hoff
  refine Rect.mem_set_unit.mpr ?_
  intro a
  match a with
  | ⟨0, _⟩ => exact ⟨Nat.le_refl 0, Nat.zero_lt_one⟩
  | ⟨1, _⟩ => exact ⟨(show 32 * k ≤ row.val by omega), (show row.val < 32 * k + 32 by omega)⟩
  | ⟨2, _⟩ => exact ⟨Nat.zero_le _, (show d.val < 0 + 5120 by omega)⟩

/-- A trip's rows of scales are the rows of the whole array they are stored at. -/
theorem piece_xs (G : S256x128.Idx → EReal) (T : Fin 256 → Fin 5120 → EReal) {k : ℕ} (hk : k < 8)
    {off : Fin 2 → ℕ} (inb : ∀ a, off a + S32x128.size a ≤ S256x128.size a) (hoff : off = ![32 * k, 0]) (t : FVec Ideal S32x5120 .f32)
    (h : ∀ r d, t (ix2 r d) = T (⟨32 * k + r.val, by omega⟩ : Fin 256) d) (hG : ∀ row d, G (ix2 row d) = rowScale (T row)) :
    ∀ x, shapeCast S32x128 (broadcastTo S32x128 (shapeCast S32x1 (scaleOf (F := Ideal) (bitsOf (amaxWide t))) shapeCasts_S32x1_S32x1)
            broadcasts_S32x1_S32x128) shapeCasts_S32x128_S32x128 x
      = G ((Rect.unit (s := S256x128) off S32x128.size inb).emb x) := by
  subst hoff
  intro x
  obtain ⟨r, d, rfl⟩ : ∃ (r : Fin 32) (d : Fin 128), x = ix2 r d :=
    ⟨x 0, x 1, by funext a; match a with | ⟨0, _⟩ => rfl | ⟨1, _⟩ => rfl⟩
  have he : (Rect.unit (s := S256x128) ![32 * k, 0] S32x128.size inb).emb (ix2 r d)
      = ix2 (⟨32 * k + r.val, by omega⟩ : Fin 256) d := by
    funext a
    refine Fin.ext ((ValueKit.rect_emb_unit_val _ _ _ _ a).trans ?_)
    match a with
    | ⟨0, _⟩ => rfl
    | ⟨1, _⟩ => exact Nat.zero_add _
  refine (shapeCast_apply _ _ (ix2 r d) (ix2 r d) rfl).trans ?_
  refine (broadcastTo_apply _ broadcasts_S32x1_S32x128 (ix2 r d) (ix2 r (0 : Fin 1)) (fun a => match a with | ⟨0, _⟩ => rfl | ⟨1, _⟩ => rfl)).trans ?_
  refine (shapeCast_apply _ _ (ix2 r (0 : Fin 1)) (ix2 r (0 : Fin 1)) rfl).trans ?_
  refine (scaleWide_apply t r).trans ?_
  refine Eq.trans ?_ ((hG _ d).symm.trans (congrArg G he.symm))
  exact congrArg rowScale (funext fun e => h r e)

theorem mem_xs {k : ℕ} {off : Fin 2 → ℕ} (inb : ∀ a, off a + S32x128.size a ≤ S256x128.size a) (hoff : off = ![32 * k, 0])
    (row : Fin 256) (hr : row.val / 32 = k) (d : Fin 128) :
    ix2 row d ∈ (Rect.unit (s := S256x128) off S32x128.size inb).set := by
  subst hoff
  refine Rect.mem_set_unit.mpr ?_
  intro a
  match a with
  | ⟨0, _⟩ => exact ⟨(show 32 * k ≤ row.val by omega), (show row.val < 32 * k + 32 by omega)⟩
  | ⟨1, _⟩ => exact ⟨Nat.zero_le _, (show d.val < 0 + 128 by omega)⟩
end

section
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (X_arg2 : BufTy.Contents (Elt Ideal) arg2.view.ty) (X_arg3 : BufTy.Contents (Elt Ideal) arg3.view.ty)

/-- What the first loop stores of the codes. -/
theorem codes_t1 (G : S1x256x5120.Idx → Elt Ideal .fp8e4m3)
    (hG : ∀ row d, G (ix3 (0 : Fin 1) row d) = code (normRow (arg2.view.read (Elt Ideal) X_arg2) (arg3.view.read (Elt Ideal) X_arg3) row) d) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 (Scf.trips k0_t1_loop.lb k0_t1_loop.ub k0_t1_loop.st)).1, ∀ x, p.2 x = G (p.1.emb x) := by
  have hk : ∀ k : Fin k0_t1_loop.trips, k.val < 8 := by decide
  refine steps_all (N := k0_t1_loop.trips) (fun j => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 j).1) rfl (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).1)
    (fun k => congrArg Prod.fst (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k)) _ ?_
  intro k p hp
  rw [trip1_t1] at hp
  obtain rfl := List.mem_singleton.mp hp
  exact piece_wide G (normRow (arg2.view.read (Elt Ideal) X_arg2) (arg3.view.read (Elt Ideal) X_arg3)) (hk k) (k0_off1_inb k) (k0_off1_eq k) _
    (fun r d => norm_load arg2.view X_arg2 arg3.view X_arg3 (k0_off1_inb k) inb_S1x5120_S1x5120_0_0 (hk k) (k0_off1_eq k) r d) hG

theorem cover_codes_t1 (row : Fin 256) (d : Fin 5120) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 (Scf.trips k0_t1_loop.lb k0_t1_loop.ub k0_t1_loop.st)).1, ix3 (0 : Fin 1) row d ∈ p.1.set := by
  let k : Fin k0_t1_loop.trips := ⟨row.val / 32, lt_of_lt_of_le (Nat.div_lt_of_lt_mul (by omega : row.val < 32 * 8)) (by decide)⟩
  refine ⟨_, steps_mem (N := k0_t1_loop.trips) (fun j => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 j).1) (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).1)
    (fun k => congrArg Prod.fst (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k)) k _ (by rw [trip1_t1]; exact List.mem_singleton.mpr rfl), ?_⟩
  exact mem_wide (k0_off1_inb k) (k0_off1_eq k) row rfl d

/-- What the first loop stores of the rows' scales. -/
theorem scales_t1 (G : S256x128.Idx → EReal)
    (hG : ∀ row d, G (ix2 row d) = rowScale (normRow (arg2.view.read (Elt Ideal) X_arg2) (arg3.view.read (Elt Ideal) X_arg3) row)) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 (Scf.trips k0_t1_loop.lb k0_t1_loop.ub k0_t1_loop.st)).2, ∀ x, p.2 x = G (p.1.emb x) := by
  have hk : ∀ k : Fin k0_t1_loop.trips, k.val < 8 := by decide
  refine steps_all (N := k0_t1_loop.trips) (fun j => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 j).2) rfl (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).2)
    (fun k => congrArg Prod.snd (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k)) _ ?_
  intro k p hp
  rw [trip2_t1] at hp
  obtain rfl := List.mem_singleton.mp hp
  exact piece_xs G (normRow (arg2.view.read (Elt Ideal) X_arg2) (arg3.view.read (Elt Ideal) X_arg3)) (hk k) (k0_off2_inb k) (k0_off2_eq k) _
    (fun r d => norm_load arg2.view X_arg2 arg3.view X_arg3 (k0_off1_inb k) inb_S1x5120_S1x5120_0_0 (hk k) (k0_off1_eq k) r d) hG

theorem cover_scales_t1 (row : Fin 256) (d : Fin 128) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 (Scf.trips k0_t1_loop.lb k0_t1_loop.ub k0_t1_loop.st)).2, ix2 row d ∈ p.1.set := by
  let k : Fin k0_t1_loop.trips := ⟨row.val / 32, lt_of_lt_of_le (Nat.div_lt_of_lt_mul (by omega : row.val < 32 * 8)) (by decide)⟩
  refine ⟨_, steps_mem (N := k0_t1_loop.trips) (fun j => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 j).2) (fun k => (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k).2)
    (fun k => congrArg Prod.snd (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 k)) k _ (by rw [trip2_t1]; exact List.mem_singleton.mpr rfl), ?_⟩
  exact mem_xs (k0_off2_inb k) (k0_off2_eq k) row rfl d
end

/-- The product of one quarter chunk, at an index. -/
theorem acc_apply (v : Vec Ideal S1x256x5120 .fp8e4m3) (w : Vec Ideal S5120x512 .fp8e4m3) (row : Fin 256) (d : Fin 512) :
    k0_pay301 (F := Ideal) v w (ix2 row d) = ∑ e : Fin 5120, v (ix3 (0 : Fin 1) row e) * w (ix2 e d) := by
  have h1 : ∀ (x : FVec Ideal S256x5120 .fp8e4m3) (w : FVec Ideal S5120x512 .fp8e4m3),
      matmul dot_S256x5120_S5120x512_S256x512_1_0_0_1_n_n none x w (constant S256x512 .f32 0x00000000#32) (ix2 row d)
        = ∑ e : Fin 5120, x (ix2 row e) * w (ix2 e d) := by
    intro x w
    refine (Ideal.matmul_plain_apply (M := 256) (K := 5120) (N := 512) none x w (constant S256x512 .f32 0x00000000#32) row d).trans ?_
    refine (congrArg (fun a : EReal => a + ∑ e : Fin 5120, x (ix2 row e) * w (ix2 e d)) (Ideal.ofBits_zero_f32 : Ideal.ofBits .f32 0x00000000#32 = 0)).trans ?_
    exact zero_add _
  unfold k0_pay301
  refine (shapeCast_apply _ _ (ix2 row d) (ix2 row d) rfl).trans ?_
  refine (h1 _ w).trans ?_
  exact Finset.sum_congr rfl fun e _ => congrArg (fun a : EReal => a * w (ix2 e d)) (shapeCast_1ab_ab_apply v _ row e)

/-- A rotation angle. -/
def angle (p : BitVec 32) (f : EReal) : EReal := ((p.toInt : ℝ) : EReal) * f

/-- The table of cosines (columns below 64) and sines. -/
theorem table_low (p : Vec Ideal S1x256 .i32) (f : Vec Ideal S64x256 .f32) (row : Fin 256) (j : Fin 64) :
    k0_pay295 (F := Ideal) p f (ix2 row (⟨j.val, by omega⟩ : Fin 128)) = Ideal.cos (angle (p (ix2 (0 : Fin 1) row)) (f (ix2 j row))) := by
  unfold k0_pay295
  refine (transpose_ix2_apply _ _ row _).trans ?_
  refine (concatenate_pair_apply_left (t := S128x256) (s₁ := S64x256) (s₂ := S64x256) 0 _ _ _ _ rfl (ix2 j row) (fun b => match b with | ⟨0, _⟩ => rfl | ⟨1, _⟩ => rfl)).trans ?_
  refine congrArg Ideal.cos ?_
  unfold angle
  refine congrArg₂ (fun a b : EReal => a * b) ?_ (shapeCast_apply _ _ (ix2 j row) (ix2 j row) rfl)
  exact broadcastTo_1b_ab_apply _ _ j row

theorem table_high (p : Vec Ideal S1x256 .i32) (f : Vec Ideal S64x256 .f32) (row : Fin 256) (j : Fin 64) :
    k0_pay295 (F := Ideal) p f (ix2 row (⟨j.val + 64, by omega⟩ : Fin 128)) = Ideal.sin (angle (p (ix2 (0 : Fin 1) row)) (f (ix2 j row))) := by
  unfold k0_pay295
  refine (transpose_ix2_apply _ _ row _).trans ?_
  refine (concatenate_pair_apply_right (t := S128x256) (s₁ := S64x256) (s₂ := S64x256) 0 _ _ _ _ rfl rfl (ix2 j row) (fun b hb => match b with | ⟨0, _⟩ => absurd rfl hb | ⟨1, _⟩ => rfl) rfl).trans ?_
  refine congrArg Ideal.sin ?_
  unfold angle
  refine congrArg₂ (fun a b : EReal => a * b) ?_ (shapeCast_apply _ _ (ix2 j row) (ix2 j row) rfl)
  exact broadcastTo_1b_ab_apply _ _ j row

theorem turned (p : Vec Ideal S1x256 .i32) (f : Vec Ideal S64x256 .f32) (row : Fin 256) (j j' : Fin 128) (h : j'.val = (j.val + 64) % 128) :
    k0_pay296 (F := Ideal) p f (ix2 row j) = k0_pay295 (F := Ideal) p f (ix2 row j') := by
  unfold k0_pay296
  rw [dynamicRotate_apply (s := S256x128) (1 : Fin 2) 64#32 (k0_pay295 (F := Ideal) p f) rotates_S256x128_d1 (ix2 row j) (ix2 row j')
    (fun b => match b with | ⟨0, _⟩ => rfl | ⟨1, _⟩ => (show j'.val = (j.val + 128 - 64 % 128) % 128 by omega))]

theorem below (row : Fin 256) (j : Fin 128) : k0_pay297 (ix2 row j) = if j.val < 64 then 1#1 else 0#1 := by
  have h : k0_pay297 (ix2 row j) = Scalar.cmpi .slt (BitVec.ofNat 32 j.val) 64#32 :=
    congrArg (fun b => Scalar.cmpi .slt b 64#32) (iota_single_apply .tc S256x128 32 (1 : Fin 2) iota_S256x128_d1_w32 (ix2 row j))
  rw [h]
  clear h
  revert j
  decide

theorem cos_low (p : Vec Ideal S1x256 .i32) (f : Vec Ideal S64x256 .f32) (row : Fin 256) (j : Fin 64) :
    k0_pay298 (F := Ideal) p f (ix2 row (⟨j.val, by omega⟩ : Fin 128)) = Ideal.cos (angle (p (ix2 (0 : Fin 1) row)) (f (ix2 j row))) := by
  unfold k0_pay298
  refine (shapeCast_apply _ _ (ix2 row (⟨j.val, by omega⟩ : Fin 128)) (ix2 row (⟨j.val, by omega⟩ : Fin 128)) rfl).trans ?_
  refine (select_apply _ _ _ _).trans ?_
  rw [below, if_pos j.isLt]
  exact table_low p f row j

theorem cos_high (p : Vec Ideal S1x256 .i32) (f : Vec Ideal S64x256 .f32) (row : Fin 256) (j : Fin 64) :
    k0_pay298 (F := Ideal) p f (ix2 row (⟨j.val + 64, by omega⟩ : Fin 128)) = Ideal.cos (angle (p (ix2 (0 : Fin 1) row)) (f (ix2 j row))) := by
  unfold k0_pay298
  refine (shapeCast_apply _ _ (ix2 row (⟨j.val + 64, by omega⟩ : Fin 128)) (ix2 row (⟨j.val + 64, by omega⟩ : Fin 128)) rfl).trans ?_
  refine (select_apply _ _ _ _).trans ?_
  rw [below, if_neg (by show ¬ j.val + 64 < 64; omega)]
  refine (turned p f row _ (⟨j.val, by omega⟩ : Fin 128) (by show j.val = (j.val + 64 + 64) % 128; omega)).trans ?_
  exact table_low p f row j

theorem sin_low (p : Vec Ideal S1x256 .i32) (f : Vec Ideal S64x256 .f32) (row : Fin 256) (j : Fin 64) :
    k0_pay299 (F := Ideal) p f (ix2 row (⟨j.val, by omega⟩ : Fin 128)) = -Ideal.sin (angle (p (ix2 (0 : Fin 1) row)) (f (ix2 j row))) := by
  unfold k0_pay299
  refine (shapeCast_apply _ _ (ix2 row (⟨j.val, by omega⟩ : Fin 128)) (ix2 row (⟨j.val, by omega⟩ : Fin 128)) rfl).trans ?_
  refine (select_apply _ _ _ _).trans ?_
  rw [below, if_pos j.isLt]
  have h := (turned p f row (⟨j.val, by omega⟩ : Fin 128) (⟨j.val + 64, by omega⟩ : Fin 128) (by show j.val + 64 = (j.val + 64) % 128; omega)).trans (table_high p f row j)
  refine (congrArg₂ (fun a b : EReal => a - b) (Ideal.ofBits_zero_f32 : Ideal.ofBits .f32 0x00000000#32 = 0) h).trans ?_
  exact zero_sub _

theorem sin_high (p : Vec Ideal S1x256 .i32) (f : Vec Ideal S64x256 .f32) (row : Fin 256) (j : Fin 64) :
    k0_pay299 (F := Ideal) p f (ix2 row (⟨j.val + 64, by omega⟩ : Fin 128)) = Ideal.sin (angle (p (ix2 (0 : Fin 1) row)) (f (ix2 j row))) := by
  unfold k0_pay299
  refine (shapeCast_apply _ _ (ix2 row (⟨j.val + 64, by omega⟩ : Fin 128)) (ix2 row (⟨j.val + 64, by omega⟩ : Fin 128)) rfl).trans ?_
  refine (select_apply _ _ _ _).trans ?_
  rw [below, if_neg (by show ¬ j.val + 64 < 64; omega)]
  exact table_high p f row j

/-- The rows' scales, transposed and sliced. -/
theorem xs_apply (v : Vec Ideal S256x128 .f32) (row : Fin 256) : k0_pay300 (F := Ideal) v (ix2 (0 : Fin 1) row) = v (ix2 row (0 : Fin 128)) := by
  unfold k0_pay300
  refine (extractStridedSlice_apply ![0, 0] _ slices_S128x256_o0_0_S1x256 (ix2 (0 : Fin 1) row) (ix2 (0 : Fin 128) row)
    (fun a => match a with | ⟨0, _⟩ => rfl | ⟨1, _⟩ => (Nat.zero_add _).symm)).trans ?_
  exact transpose_ix2_apply _ _ _ row

theorem qs_apply (v : Vec Ideal S256x128 .f32) (h : Fin 40) (row : Fin 256) :
    k0_pay5 (F := Ideal) v (ix3 (0 : Fin 1) h row) = v (ix2 row (⟨h.val, by omega⟩ : Fin 128)) := by
  unfold k0_pay5
  refine (shapeCast_ab_1ab_apply _ _ _ h row).trans ?_
  refine (extractStridedSlice_apply ![0, 0] _ slices_S128x256_o0_0_S40x256 (ix2 h row) (ix2 (⟨h.val, by omega⟩ : Fin 128) row)
    (fun a => match a with | ⟨0, _⟩ => (Nat.zero_add _).symm | ⟨1, _⟩ => (Nat.zero_add _).symm)).trans ?_
  exact transpose_ix2_apply _ _ _ row

theorem ks_apply (v : Vec Ideal S256x128 .f32) (h : Fin 8) (row : Fin 256) :
    k0_pay6 (F := Ideal) v (ix3 (0 : Fin 1) h row) = v (ix2 row (⟨40 + h.val, by omega⟩ : Fin 128)) := by
  unfold k0_pay6
  refine (shapeCast_ab_1ab_apply _ _ _ h row).trans ?_
  refine (extractStridedSlice_apply ![40, 0] _ slices_S128x256_o40_0_S8x256 (ix2 h row) (ix2 (⟨40 + h.val, by omega⟩ : Fin 128) row)
    (fun a => match a with | ⟨0, _⟩ => rfl | ⟨1, _⟩ => (Nat.zero_add _).symm)).trans ?_
  exact transpose_ix2_apply _ _ _ row

theorem vs_apply (v : Vec Ideal S256x128 .f32) (h : Fin 8) (row : Fin 256) :
    k0_pay7 (F := Ideal) v (ix3 (0 : Fin 1) h row) = v (ix2 row (⟨48 + h.val, by omega⟩ : Fin 128)) := by
  unfold k0_pay7
  refine (shapeCast_ab_1ab_apply _ _ _ h row).trans ?_
  refine (extractStridedSlice_apply ![48, 0] _ slices_S128x256_o48_0_S8x256 (ix2 h row) (ix2 (⟨48 + h.val, by omega⟩ : Fin 128) row)
    (fun a => match a with | ⟨0, _⟩ => rfl | ⟨1, _⟩ => (Nat.zero_add _).symm)).trans ?_
  exact transpose_ix2_apply _ _ _ row

end Cert.KernelIdeal.Gen
-- ==== Proof.Point.lean ====
/- The blocks a grid point leaves, as functions of the blocks it is given. -/
module

public import proofs.«01_k».proof.Proof.Reads
public import proofs.«01_k».proof.Proof.Norm
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.ValueIdx Cert.Qkv

/-- The rows' codes. -/
def codesBlk (x0 : S1x256x5120.Idx → EReal) (x1 : S1x5120.Idx → EReal) : S1x256x5120.Idx → EReal :=
  fun y => code (normRow x0 x1 (y 1)) (y 2)

/-- The rows' scales, the same in every lane. -/
def xsCol (x0 : S1x256x5120.Idx → EReal) (x1 : S1x5120.Idx → EReal) : S256x128.Idx → EReal :=
  fun y => rowScale (normRow x0 x1 (y 0))

/-- The chunks' products. -/
def accs (x0 : S1x256x5120.Idx → EReal) (x1 : S1x5120.Idx → EReal) (x2 : S5120x7168.Idx → EReal) (n : Fin 14) : S256x512.Idx → EReal :=
  fun y => ∑ e : Fin 5120, codesBlk x0 x1 (ix3 (0 : Fin 1) (y 0 : Fin 256) e)
    * x2 (ix2 e (⟨512 * n.val + (y 1).val, by have := (y 1).isLt; change (y 1).val < 512 at this; omega⟩ : Fin 7168))

/-- The positions of a grid point's rows. -/
def posRow (i : grid0.Coords) (x4 : Vec Ideal S3x6144 .i32) : Vec Ideal S1x256 .i32 :=
  fun y => x4 ((Rect.unit (s := S3x6144) (k0_off3 i) S1x256.size (k0_off3_inb i)).toLoadRect.idx y)

/-- The cosines of a grid point. -/
def cosBlk (i : grid0.Coords) (x4 : Vec Ideal S3x6144 .i32) (x5 : S64x256.Idx → EReal) : S256x128.Idx → EReal :=
  k0_pay298 (F := Ideal) (posRow i x4) x5

/-- The signed sines of a grid point. -/
def sinBlk (i : grid0.Coords) (x4 : Vec Ideal S3x6144 .i32) (x5 : S64x256.Idx → EReal) : S256x128.Idx → EReal :=
  k0_pay299 (F := Ideal) (posRow i x4) x5

/-- A head's row at a grid point. -/
def headAt (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal) (h : Fin 56) (row : Fin 256) : Fin 128 → EReal :=
  headVal (accs x0 x1 x2) (xsCol x0 x1) (cosBlk i x4 x5) (sinBlk i x4 x5) x3 h row

/-- The block of query scales. -/
def qsBlk (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal) : S1x40x256.Idx → EReal :=
  fun y => rowScale (headAt i x0 x1 x2 x3 x4 x5 (⟨(y 1).val, by have := (y 1).isLt; change (y 1).val < 40 at this; omega⟩ : Fin 56) (y 2))

/-- The block of key scales. -/
def ksBlk (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal) : S1x8x256.Idx → EReal :=
  fun y => rowScale (headAt i x0 x1 x2 x3 x4 x5 (⟨40 + (y 1).val, by have := (y 1).isLt; change (y 1).val < 8 at this; omega⟩ : Fin 56) (y 2))

/-- The block of value scales. -/
def vsBlk (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal) : S1x8x256.Idx → EReal :=
  fun y => rowScale (headAt i x0 x1 x2 x3 x4 x5 (⟨48 + (y 1).val, by have := (y 1).isLt; change (y 1).val < 8 at this; omega⟩ : Fin 56) (y 2))

/-- The whole array of the rows' scales, with a grid point's rows written into it. -/
def xsInto (i : grid0.Coords) (x0 : S1x256x5120.Idx → EReal) (x1 : S1x5120.Idx → EReal) (X : S3x6144.Idx → EReal) : S3x6144.Idx → EReal :=
  fun y => if h : (y 0).val = (i 0).val ∧ 256 * (i 1).val ≤ (y 1).val ∧ (y 1).val < 256 * (i 1).val + 256
    then rowScale (normRow x0 x1 (⟨(y 1).val - 256 * (i 1).val, by omega⟩ : Fin 256)) else X y

section
variable (𝒱 : Variants) (c : Dev nD) (bd : Option 𝒱.V) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)
  (x0 : S1x256x5120.Idx → EReal) (x1 : S1x5120.Idx → EReal)

theorem wide_read (f : arg14.view.ty.Contents (Elt Ideal)) :
    arg14.view.read (Elt Ideal) (arg14.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (Scf.trips k0_t1_loop.lb k0_t1_loop.ub k0_t1_loop.st)).1) = codesBlk x0 x1 := by
  funext y
  refine View.read_writes_apply_of_pieces arg14.view f (codesBlk x0 x1) _ ?_ y ?_
  · refine codes_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (codesBlk x0 x1) ?_
    rw [harg2.read_unread, harg3.read_unread]
    exact fun row d => rfl
  · obtain ⟨row, d, rfl⟩ : ∃ (row : Fin 256) (d : Fin 5120), y = ix3 (0 : Fin 1) row d :=
      ⟨y 1, y 2, by funext a; match a with | ⟨0, _⟩ => exact Subsingleton.elim (α := Fin 1) _ _ | ⟨1, _⟩ => rfl | ⟨2, _⟩ => rfl⟩
    exact cover_codes_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) row d

theorem xs_read (f : arg19.view.ty.Contents (Elt Ideal)) :
    arg19.view.read (Elt Ideal) (arg19.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (Scf.trips k0_t1_loop.lb k0_t1_loop.ub k0_t1_loop.st)).2) = xsCol x0 x1 := by
  funext y
  refine View.read_writes_apply_of_pieces arg19.view f (xsCol x0 x1) _ ?_ y ?_
  · refine scales_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (xsCol x0 x1) ?_
    rw [harg2.read_unread, harg3.read_unread]
    exact fun row d => rfl
  · obtain ⟨row, d, rfl⟩ : ∃ (row : Fin 256) (d : Fin 128), y = ix2 row d :=
      ⟨y 0, y 1, by funext a; match a with | ⟨0, _⟩ => rfl | ⟨1, _⟩ => rfl⟩
    exact cover_scales_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) row d

end

section
variable {sig : RefSig} {κ : Kind} {sp : Space}

/-- A chunk's products, read back after they are stored. -/
theorem acc_read (v : View sig κ sp S256x512 .f32) (f : v.ty.Contents (Elt Ideal)) (L : List (View.Piece (Elt Ideal) S256x512 .f32)) (inb)
    (x0 : S1x256x5120.Idx → EReal) (x1 : S1x5120.Idx → EReal) (x2 : S5120x7168.Idx → EReal)
    (M : Memref sig κ sp S5120x7168 .fp8e4m3) (hM : M.IsWhole) (n : Fin 14) {off : Fin 2 → ℕ} (inb4) (h : off = ![0, 512 * n.val])
    (w : Vec Ideal S1x256x5120 .fp8e4m3) (hw : w = codesBlk x0 x1) (t : S256x512.Idx → EReal)
    (ht : t = k0_pay301 (F := Ideal) w (View.readAt (Elt Ideal) M.view (Rect.unit (s := S5120x7168) off S5120x512.size inb4).toLoadRect (hM.unread x2))) :
    v.read (Elt Ideal) (v.writes (Elt Ideal) f (⟨Rect.unit (s := S256x512) ![0, 0] S256x512.size inb, t⟩ :: L)) = accs x0 x1 x2 n := by
  refine (View.read_writes_full v f inb t L).trans ?_
  subst ht hw
  funext y
  obtain ⟨row, d, rfl⟩ : ∃ (row : Fin 256) (d : Fin 512), y = ix2 row d :=
    ⟨y 0, y 1, by funext a; match a with | ⟨0, _⟩ => rfl | ⟨1, _⟩ => rfl⟩
  refine (acc_apply _ _ row d).trans ?_
  unfold accs
  refine Finset.sum_congr rfl fun e _ => ?_
  refine congrArg (fun a : EReal => codesBlk x0 x1 (ix3 (0 : Fin 1) row e) * a) ?_
  refine (load_w M.view (hM.unread x2) inb4 n h e d).trans ?_
  rw [hM.read_unread]

/-- The query scales, read back after they are stored. -/
theorem qs_read (v : View sig κ sp S1x40x256 .f32) (f : v.ty.Contents (Elt Ideal)) (L : List (View.Piece (Elt Ideal) S1x40x256 .f32)) (inb) (t : Vec Ideal S256x128 .f32)
    (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal)
    (ht : ∀ (row : Fin 256) (h : Fin 56), t (ix2 row (⟨h.val, by omega⟩ : Fin 128)) = rowScale (headAt i x0 x1 x2 x3 x4 x5 h row)) :
    v.read (Elt Ideal) (v.writes (Elt Ideal) f (⟨Rect.unit (s := S1x40x256) ![0, 0, 0] S1x40x256.size inb, k0_pay5 (F := Ideal) t⟩ :: L)) = qsBlk i x0 x1 x2 x3 x4 x5 := by
  refine (View.read_writes_full v f inb _ L).trans ?_
  funext y
  obtain ⟨h, row, rfl⟩ : ∃ (h : Fin 40) (row : Fin 256), y = ix3 (0 : Fin 1) h row :=
    ⟨y 1, y 2, by funext a; match a with | ⟨0, _⟩ => exact Subsingleton.elim (α := Fin 1) _ _ | ⟨1, _⟩ => rfl | ⟨2, _⟩ => rfl⟩
  exact (qs_apply t h row).trans (ht row (⟨h.val, by omega⟩ : Fin 56))

/-- The key scales, read back after they are stored. -/
theorem ks_read (v : View sig κ sp S1x8x256 .f32) (f : v.ty.Contents (Elt Ideal)) (L : List (View.Piece (Elt Ideal) S1x8x256 .f32)) (inb) (t : Vec Ideal S256x128 .f32)
    (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal)
    (ht : ∀ (row : Fin 256) (h : Fin 56), t (ix2 row (⟨h.val, by omega⟩ : Fin 128)) = rowScale (headAt i x0 x1 x2 x3 x4 x5 h row)) :
    v.read (Elt Ideal) (v.writes (Elt Ideal) f (⟨Rect.unit (s := S1x8x256) ![0, 0, 0] S1x8x256.size inb, k0_pay6 (F := Ideal) t⟩ :: L)) = ksBlk i x0 x1 x2 x3 x4 x5 := by
  refine (View.read_writes_full v f inb _ L).trans ?_
  funext y
  obtain ⟨h, row, rfl⟩ : ∃ (h : Fin 8) (row : Fin 256), y = ix3 (0 : Fin 1) h row :=
    ⟨y 1, y 2, by funext a; match a with | ⟨0, _⟩ => exact Subsingleton.elim (α := Fin 1) _ _ | ⟨1, _⟩ => rfl | ⟨2, _⟩ => rfl⟩
  exact (ks_apply t h row).trans (ht row (⟨40 + h.val, by omega⟩ : Fin 56))

/-- The value scales, read back after they are stored. -/
theorem vs_read (v : View sig κ sp S1x8x256 .f32) (f : v.ty.Contents (Elt Ideal)) (L : List (View.Piece (Elt Ideal) S1x8x256 .f32)) (inb) (t : Vec Ideal S256x128 .f32)
    (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal)
    (ht : ∀ (row : Fin 256) (h : Fin 56), t (ix2 row (⟨h.val, by omega⟩ : Fin 128)) = rowScale (headAt i x0 x1 x2 x3 x4 x5 h row)) :
    v.read (Elt Ideal) (v.writes (Elt Ideal) f (⟨Rect.unit (s := S1x8x256) ![0, 0, 0] S1x8x256.size inb, k0_pay7 (F := Ideal) t⟩ :: L)) = vsBlk i x0 x1 x2 x3 x4 x5 := by
  refine (View.read_writes_full v f inb _ L).trans ?_
  funext y
  obtain ⟨h, row, rfl⟩ : ∃ (h : Fin 8) (row : Fin 256), y = ix3 (0 : Fin 1) h row :=
    ⟨y 1, y 2, by funext a; match a with | ⟨0, _⟩ => exact Subsingleton.elim (α := Fin 1) _ _ | ⟨1, _⟩ => rfl | ⟨2, _⟩ => rfl⟩
  exact (vs_apply t h row).trans (ht row (⟨48 + h.val, by omega⟩ : Fin 56))

/-- The array of the rows' scales, read back after a grid point's row of it is stored. -/
theorem into_read (v : View sig κ sp S3x6144 .f32) (f : v.ty.Contents (Elt Ideal)) (i : grid0.Coords) (inb) (t : Vec Ideal S256x128 .f32)
    (x0 : S1x256x5120.Idx → EReal) (x1 : S1x5120.Idx → EReal) (X : S3x6144.Idx → EReal) (hf : v.read (Elt Ideal) f = X) (ht : t = xsCol x0 x1) :
    v.read (Elt Ideal) (v.writes (Elt Ideal) f [⟨Rect.unit (s := S3x6144) (k0_off3 i) S1x256.size inb, k0_pay300 (F := Ideal) t⟩]) = xsInto i x0 x1 X := by
  subst ht hf
  have h0 : k0_off3 i = ![(i 0).val, 256 * (i 1).val] := k0_off3_eq i
  revert inb
  rw [h0]
  intro inb
  funext y
  unfold xsInto
  by_cases h : (y 0).val = (i 0).val ∧ 256 * (i 1).val ≤ (y 1).val ∧ (y 1).val < 256 * (i 1).val + 256
  · rw [dif_pos h]
    refine (View.read_writes_cons_hit_of_coords v f _ _ [] (ix2 (0 : Fin 1) (⟨(y 1).val - 256 * (i 1).val, by omega⟩ : Fin 256)) y ?_).trans ?_
    · intro a
      match a with
      | ⟨0, _⟩ => exact h.1
      | ⟨1, _⟩ => exact (show (y 1).val = 256 * (i 1).val + 1 * ((y 1).val - 256 * (i 1).val) by omega)
    · exact xs_apply (xsCol x0 x1) (⟨(y 1).val - 256 * (i 1).val, by omega⟩ : Fin 256)
  · rw [dif_neg h]
    refine View.read_writes_cons_miss v f _ [] y ?_
    intro hy
    have hy' : y ∈ (Rect.unit (s := S3x6144) ![(i 0).val, 256 * (i 1).val] S1x256.size inb).set := hy
    have h1 := Rect.mem_set_unit.mp hy'
    have h2 := h1 0
    have h3 := h1 1
    refine h ⟨?_, h3.1, h3.2⟩
    have h4 : (i 0).val ≤ (y 0).val := h2.1
    have h5 : (y 0).val < (i 0).val + 1 := h2.2
    omega

end

end Cert.KernelIdeal.Gen
-- ==== Proof.PointRun.lean ====
/- One grid point run: what it leaves in the outputs' blocks. -/
module

public import proofs.«01_k».proof.Proof.Setup
public import proofs.«01_k».proof.Proof.Point

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Qkv
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1692000 in
/-- The body runs on whole staging memrefs: the inputs are handed back as they were, every output's block at the block
    the point computes, the whole array of scales with the point's row written into it. -/
theorem pointRun (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S3x6144 .i32) (harg6 : arg6.IsWhole) (arg7 : Memref sig .tc .vmem S64x256 .f32) (harg7 : arg7.IsWhole) (arg8 : Memref sig .tc .vmem S1x256x40x128 .fp8e4m3) (harg8 : arg8.IsWhole) (arg9 : Memref sig .tc .vmem S1x40x256 .f32) (harg9 : arg9.IsWhole) (arg10 : Memref sig .tc .vmem S1x256x8x128 .fp8e4m3) (harg10 : arg10.IsWhole) (arg11 : Memref sig .tc .vmem S1x8x256 .f32) (harg11 : arg11.IsWhole) (arg12 : Memref sig .tc .vmem S1x256x8x128 .fp8e4m3) (harg12 : arg12.IsWhole) (arg13 : Memref sig .tc .vmem S1x8x256 .f32) (harg13 : arg13.IsWhole) (arg14 : Memref sig .tc .vmem S1x256x5120 .fp8e4m3) (harg14 : arg14.IsWhole) (arg15 : Memref sig .tc .vmem S3x6144 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole)
    (x0 : Vec Ideal S1x256x5120 .bf16) (x1 : Vec Ideal S1x5120 .f32) (x2 : Vec Ideal S5120x7168 .fp8e4m3) (x3 : Vec Ideal S1x7168 .f32) (x4 : Vec Ideal S3x6144 .i32) (x5 : Vec Ideal S64x256 .f32) (x13 : Vec Ideal S3x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (qBlk (accs x0 x1 x2) (xsCol x0 x1) (cosBlk i x4 x5) (sinBlk i x4 x5) x3) ∗ owns (c : Thread nD τ) arg9 fullShare (qsBlk i x0 x1 x2 x3 x4 x5) ∗ owns (c : Thread nD τ) arg10 fullShare (kBlk (accs x0 x1 x2) (xsCol x0 x1) (cosBlk i x4 x5) (sinBlk i x4 x5) x3) ∗ owns (c : Thread nD τ) arg11 fullShare (ksBlk i x0 x1 x2 x3 x4 x5) ∗ owns (c : Thread nD τ) arg12 fullShare (vBlk (accs x0 x1 x2) (xsCol x0 x1) x3) ∗ owns (c : Thread nD τ) arg13 fullShare (vsBlk i x0 x1 x2 x3 x4 x5) ∗ owns (c : Thread nD τ) arg14 fullShare (codesBlk x0 x1) ∗ owns (c : Thread nD τ) arg15 fullShare (xsInto i x0 x1 x13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := Ideal)) Variants.none c none) E (cc0_rms_qkv_rope_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_rms_qkv_rope_quant_eq_skeleton]; unfold cc0_rms_qkv_rope_quant_skel
    simp only [k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    have hw : View.readAt (Elt Ideal) arg14.view (Rect.unit (s := S1x256x5120) ![0, 0, 0] S1x256x5120.size inb_S1x256x5120_S1x256x5120_0_0_0).toLoadRect (arg14.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x0) (harg3.unread x1) (Scf.trips k0_t1_loop.lb k0_t1_loop.ub k0_t1_loop.st)).1) = codesBlk x0 x1 :=
      (View.readAt_full arg14.view _ _).trans (wide_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 f12)
    have hxs := xs_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 fs3
    have hp : View.readAt (Elt Ideal) arg6.view (Rect.unit (s := S3x6144) (k0_off3 i) S1x256.size (k0_off3_inb i)).toLoadRect (harg6.unread x4) = posRow i x4 := funext fun y => harg6.readAt_unread x4 _ y
    have hfr : View.readAt (Elt Ideal) arg7.view (Rect.unit (s := S64x256) ![0, 0] S64x256.size inb_S64x256_S64x256_0_0).toLoadRect (harg7.unread x5) = x5 := (View.readAt_full arg7.view _ _).trans (harg7.read_unread x5)
    have hcos : arg17.view.read (Elt Ideal) (arg17.view.writes (Elt Ideal) arg17.view.junk (pointRun.sl.HS1_1 c i arg6 harg6 arg7 harg7 x4 x5)) = cosBlk i x4 x5 :=
      (View.read_writes_full arg17.view _ inb_S256x128_S256x128_0_0 _ []).trans (congrArg₂ (fun a b => k0_pay298 (F := Ideal) a b) hp hfr)
    have hsin : arg18.view.read (Elt Ideal) (arg18.view.writes (Elt Ideal) arg18.view.junk (pointRun.sl.HS2_1 c i arg6 harg6 arg7 harg7 x4 x5)) = sinBlk i x4 x5 :=
      (View.read_writes_full arg18.view _ inb_S256x128_S256x128_0_0 _ []).trans (congrArg₂ (fun a b => k0_pay299 (F := Ideal) a b) hp hfr)
    have hheads : ∀ (row : Fin 256) (h : Fin 56), pointRun.sl.v147 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 f12 fs3 fs4 (ix2 row (⟨h.val, by omega⟩ : Fin 128)) = rowScale (headAt i x0 x1 x2 x3 x4 x5 h row) := fun row h =>
      (congrFun (View.readAt_full arg20.view _ _) _).trans (heads_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ (accs x0 x1 x2) (xsCol x0 x1) (cosBlk i x4 x5) (sinBlk i x4 x5) x3 _ (harg5.read_unread x3) hcos hsin hxs _ (acc_read arg16.view _ _ _ x0 x1 x2 arg4 harg4 0 (off := ![0, 0]) _ rfl _ hw _ rfl) _ (acc_read arg16.view _ _ _ x0 x1 x2 arg4 harg4 1 (off := ![0, 512]) _ rfl _ hw _ rfl) _ (acc_read arg16.view _ _ _ x0 x1 x2 arg4 harg4 2 (off := ![0, 1024]) _ rfl _ hw _ rfl) _ (acc_read arg16.view _ _ _ x0 x1 x2 arg4 harg4 3 (off := ![0, 1536]) _ rfl _ hw _ rfl) _ (acc_read arg16.view _ _ _ x0 x1 x2 arg4 harg4 4 (off := ![0, 2048]) _ rfl _ hw _ rfl) _ (acc_read arg16.view _ _ _ x0 x1 x2 arg4 harg4 5 (off := ![0, 2560]) _ rfl _ hw _ rfl) _ (acc_read arg16.view _ _ _ x0 x1 x2 arg4 harg4 6 (off := ![0, 3072]) _ rfl _ hw _ rfl) _ (acc_read arg16.view _ _ _ x0 x1 x2 arg4 harg4 7 (off := ![0, 3584]) _ rfl _ hw _ rfl) _ (acc_read arg16.view _ _ _ x0 x1 x2 arg4 harg4 8 (off := ![0, 4096]) _ rfl _ hw _ rfl) _ (acc_read arg16.view _ _ _ x0 x1 x2 arg4 harg4 9 (off := ![0, 4608]) _ rfl _ hw _ rfl) _ (acc_read arg16.view _ _ _ x0 x1 x2 arg4 harg4 10 (off := ![0, 5120]) _ rfl _ hw _ rfl) _ (acc_read arg16.view _ _ _ x0 x1 x2 arg4 harg4 11 (off := ![0, 5632]) _ rfl _ hw _ rfl) _ (acc_read arg16.view _ _ _ x0 x1 x2 arg4 harg4 12 (off := ![0, 6144]) _ rfl _ hw _ rfl) _ (acc_read arg16.view _ _ _ x0 x1 x2 arg4 harg4 13 (off := ![0, 6656]) _ rfl _ hw _ rfl) row h)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact q_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ (accs x0 x1 x2) (xsCol x0 x1) (cosBlk i x4 x5) (sinBlk i x4 x5) x3 _ (harg5.read_unread x3) hcos hsin hxs _ (acc_read arg16.view _ _ _ x0 x1 x2 arg4 harg4 0 (off := ![0, 0]) _ rfl _ hw _ rfl) _ (acc_read arg16.view _ _ _ x0 x1 x2 arg4 harg4 1 (off := ![0, 512]) _ rfl _ hw _ rfl) _ (acc_read arg16.view _ _ _ x0 x1 x2 arg4 harg4 2 (off := ![0, 1024]) _ rfl _ hw _ rfl) _ (acc_read arg16.view _ _ _ x0 x1 x2 arg4 harg4 3 (off := ![0, 1536]) _ rfl _ hw _ rfl) _ (acc_read arg16.view _ _ _ x0 x1 x2 arg4 harg4 4 (off := ![0, 2048]) _ rfl _ hw _ rfl) _ (acc_read arg16.view _ _ _ x0 x1 x2 arg4 harg4 5 (off := ![0, 2560]) _ rfl _ hw _ rfl) _ (acc_read arg16.view _ _ _ x0 x1 x2 arg4 harg4 6 (off := ![0, 3072]) _ rfl _ hw _ rfl) _ (acc_read arg16.view _ _ _ x0 x1 x2 arg4 harg4 7 (off := ![0, 3584]) _ rfl _ hw _ rfl) _ (acc_read arg16.view _ _ _ x0 x1 x2 arg4 harg4 8 (off := ![0, 4096]) _ rfl _ hw _ rfl) _ (acc_read arg16.view _ _ _ x0 x1 x2 arg4 harg4 9 (off := ![0, 4608]) _ rfl _ hw _ rfl)
    isplitl [H7]
    · iexists _; isplitr; swap; · iexact H7
      ipureintro
      exact qs_read arg9.view _ [] _ _ i x0 x1 x2 x3 x4 x5 hheads
    isplitl [H8]
    · iexists _; isplitr; swap; · iexact H8
      ipureintro
      exact k_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ (accs x0 x1 x2) (xsCol x0 x1) (cosBlk i x4 x5) (sinBlk i x4 x5) x3 _ (harg5.read_unread x3) hcos hsin hxs _ (acc_read arg16.view _ _ _ x0 x1 x2 arg4 harg4 10 (off := ![0, 5120]) _ rfl _ hw _ rfl) _ (acc_read arg16.view _ _ _ x0 x1 x2 arg4 harg4 11 (off := ![0, 5632]) _ rfl _ hw _ rfl)
    isplitl [H9]
    · iexists _; isplitr; swap; · iexact H9
      ipureintro
      exact ks_read arg11.view _ [] _ _ i x0 x1 x2 x3 x4 x5 hheads
    isplitl [H10]
    · iexists _; isplitr; swap; · iexact H10
      ipureintro
      exact v_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ (accs x0 x1 x2) (xsCol x0 x1) x3 _ (harg5.read_unread x3) hxs _ (acc_read arg16.view _ _ _ x0 x1 x2 arg4 harg4 12 (off := ![0, 6144]) _ rfl _ hw _ rfl) _ (acc_read arg16.view _ _ _ x0 x1 x2 arg4 harg4 13 (off := ![0, 6656]) _ rfl _ hw _ rfl)
    isplitl [H11]
    · iexists _; isplitr; swap; · iexact H11
      ipureintro
      exact vs_read arg13.view _ [] _ _ i x0 x1 x2 x3 x4 x5 hheads
    isplitl [H12]
    · iexists _; isplitr; swap; · iexact H12
      ipureintro
      exact wide_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 f12
    isplitl [H13]
    · iexists _; isplitr; swap; · iexact H13
      ipureintro
      exact into_read arg15.view _ i _ _ x0 x1 x13 hf13 ((View.readAt_full arg19.view _ _).trans hxs)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen
-- ==== Proof.Launched.lean ====
/- The run of the pipelined kernel: every window's proof data, the body at a point, the launch. -/
module

public import proofs.«01_k».proof.Proof.PointRun
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.Qkv
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-- The one window whose block is the whole array, written a row at a time: its contents are held to a predicate. -/
def marks : Fin 14 → Bool := fun w => w.val == 13

/-- The sequence that a grid point works on. -/
def seqOf (u : Fin cfg0.N) : Fin 3 := ⟨(grid0.coords u 0).val, (grid0.coords u 0).isLt⟩

theorem tile_lt (u : Fin cfg0.N) : (grid0.coords u 1).val < 24 := (grid0.coords u 1).isLt

/-- The row of the sequence that a row of a grid point's block is. -/
def rowOf (u : Fin cfg0.N) (row : Fin 256) : Fin 6144 := ⟨256 * (grid0.coords u 1).val + row.val, by have := tile_lt u; omega⟩

/-- After point `t` the array of the rows' scales holds the scales of every point up to `t`. -/
def Held (c : Dev nD) (t : Fin cfg0.N) (X : S3x6144.Idx → EReal) : Prop :=
  ∀ u : Fin cfg0.N, u.val ≤ t.val → ∀ row : Fin 256, X (ix2 (seqOf u) (rowOf u row)) = rowScale (normRow (iblk m c 0 u) (iblk m c 1 u) row)

/-- What the marked window is held to. -/
def Rl (c : Dev nD) : (w : Fin cfg0.W) → Fin cfg0.N → ((cfg0.win w).block.Idx → Elt Ideal (cfg0.win w).elt) → Prop
  | ⟨13, _⟩ => fun t X => Held m c t X
  | _ => fun _ _ => True

/-- Distinct points have distinct coordinates. -/
theorem points_inj : ∀ u t : Fin cfg0.N, (grid0.coords u 0).val = (grid0.coords t 0).val → (grid0.coords u 1).val = (grid0.coords t 1).val → u = t :=
  (by decide +kernel : ∀ u t : Fin grid0.N, (grid0.coords u 0).val = (grid0.coords t 0).val → (grid0.coords u 1).val = (grid0.coords t 1).val → u = t)

/-- A point's row of the array of scales is written by that point alone. -/
theorem held_into (c : Dev nD) (t : Fin cfg0.N) (X : S3x6144.Idx → EReal)
    (h : ∀ u : Fin cfg0.N, u.val < t.val → ∀ row : Fin 256, X (ix2 (seqOf u) (rowOf u row)) = rowScale (normRow (iblk m c 0 u) (iblk m c 1 u) row)) :
    Held m c t (xsInto (grid0.coords t) (iblk m c 0 t) (iblk m c 1 t) X) := by
  intro u hu row
  unfold xsInto
  by_cases e : u = t
  · subst e
    refine (dif_pos (⟨rfl, Nat.le_add_right _ _, Nat.add_lt_add_left row.isLt _⟩ : (seqOf u).val = (grid0.coords u 0).val ∧ 256 * (grid0.coords u 1).val ≤ (rowOf u row).val ∧ (rowOf u row).val < 256 * (grid0.coords u 1).val + 256)).trans ?_
    refine congrArg (fun r => rowScale (normRow (iblk m c 0 u) (iblk m c 1 u) r)) (Fin.ext ?_)
    show 256 * (grid0.coords u 1).val + row.val - 256 * (grid0.coords u 1).val = row.val
    omega
  · refine (dif_neg ?_).trans (h u (by have : u.val ≠ t.val := fun e' => e (Fin.ext e'); omega) row)
    rintro ⟨h0, h1, h2⟩
    have h0' : (grid0.coords u 0).val = (grid0.coords t 0).val := h0
    have h1' : 256 * (grid0.coords t 1).val ≤ 256 * (grid0.coords u 1).val + row.val := h1
    have h2' : 256 * (grid0.coords u 1).val + row.val < 256 * (grid0.coords t 1).val + 256 := h2
    have h3 : (grid0.coords u 1).val = (grid0.coords t 1).val := by have := row.isLt; omega
    exact e (points_inj u t h0' h3)

/-- The proof data: after the body each input's buffer at its block, each output's at what the point computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qBlk (accs (iblk m c 0 t) (iblk m c 1 t) (iblk m c 2 t)) (xsCol (iblk m c 0 t) (iblk m c 1 t)) (cosBlk (grid0.coords t) (iblk m c 4 t) (iblk m c 5 t)) (sinBlk (grid0.coords t) (iblk m c 4 t) (iblk m c 5 t)) (iblk m c 3 t)
    | ⟨7, _⟩ => qsBlk (grid0.coords t) (iblk m c 0 t) (iblk m c 1 t) (iblk m c 2 t) (iblk m c 3 t) (iblk m c 4 t) (iblk m c 5 t)
    | ⟨8, _⟩ => kBlk (accs (iblk m c 0 t) (iblk m c 1 t) (iblk m c 2 t)) (xsCol (iblk m c 0 t) (iblk m c 1 t)) (cosBlk (grid0.coords t) (iblk m c 4 t) (iblk m c 5 t)) (sinBlk (grid0.coords t) (iblk m c 4 t) (iblk m c 5 t)) (iblk m c 3 t)
    | ⟨9, _⟩ => ksBlk (grid0.coords t) (iblk m c 0 t) (iblk m c 1 t) (iblk m c 2 t) (iblk m c 3 t) (iblk m c 4 t) (iblk m c 5 t)
    | ⟨10, _⟩ => vBlk (accs (iblk m c 0 t) (iblk m c 1 t) (iblk m c 2 t)) (xsCol (iblk m c 0 t) (iblk m c 1 t)) (iblk m c 3 t)
    | ⟨11, _⟩ => vsBlk (grid0.coords t) (iblk m c 0 t) (iblk m c 1 t) (iblk m c 2 t) (iblk m c 3 t) (iblk m c 4 t) (iblk m c 5 t)
    | ⟨12, _⟩ => codesBlk (iblk m c 0 t) (iblk m c 1 t)
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qBlk (accs (iblk m c 0 t) (iblk m c 1 t) (iblk m c 2 t)) (xsCol (iblk m c 0 t) (iblk m c 1 t)) (cosBlk (grid0.coords t) (iblk m c 4 t) (iblk m c 5 t)) (sinBlk (grid0.coords t) (iblk m c 4 t) (iblk m c 5 t)) (iblk m c 3 t) := by dsimp only [dats]
theorem after0_7 (c : Dev nD) (t : Fin cfg0.N) : (dats m 0 c).after 7 t = qsBlk (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = kBlk (accs (iblk m c 0 t) (iblk m c 1 t) (iblk m c 2 t)) (xsCol (iblk m c 0 t) (iblk m c 1 t)) (cosBlk (grid0.coords t) (iblk m c 4 t) (iblk m c 5 t)) (sinBlk (grid0.coords t) (iblk m c 4 t) (iblk m c 5 t)) (iblk m c 3 t) := by dsimp only [dats]
theorem after0_9 (c : Dev nD) (t : Fin cfg0.N) : (dats m 0 c).after 9 t = ksBlk (grid0.coords t) (iblk m c 0 t) (iblk m c 1 t) (iblk m c 2 t) (iblk m c 3 t) (iblk m c 4 t) (iblk m c 5 t) := by dsimp only [dats]
theorem after0_10 (c : Dev nD) (t : Fin cfg0.N) : (dats m 0 c).after 10 t = vBlk (accs (iblk m c 0 t) (iblk m c 1 t) (iblk m c 2 t)) (xsCol (iblk m c 0 t) (iblk m c 1 t)) (iblk m c 3 t) := by dsimp only [dats]
theorem after0_11 (c : Dev nD) (t : Fin cfg0.N) : (dats m 0 c).after 11 t = vsBlk (grid0.coords t) (iblk m c 0 t) (iblk m c 1 t) (iblk m c 2 t) (iblk m c 3 t) (iblk m c 4 t) (iblk m c 5 t) := by dsimp only [dats]
theorem after0_12 (c : Dev nD) (t : Fin cfg0.N) : (dats m 0 c).after 12 t = codesBlk (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜((dats m 0 c).toRRel marks (Rl m c)).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Rl m c 13 t X⌝ ∗ owns (c : Thread nD τ) (ms0_13 t) fullShare X))

set_option maxHeartbeats 1600000 in
/-- What the marked window may hold before a point. -/
theorem found (c : Dev nD) (t : Fin cfg0.N) (Y : S3x6144.Idx → EReal) (h : ((dats m 0 c).toRRel marks (Rl m c)).Finds 13 t Y) :
    ∀ u : Fin cfg0.N, u.val < t.val → ∀ row : Fin 256, Y (ix2 (seqOf u) (rowOf u row)) = rowScale (normRow (iblk m c 0 u) (iblk m c 1 u) row) := by
  intro u hu
  have ht : t.val ≠ 0 := by omega
  have h72 : t.val < 72 := t.isLt
  rcases (((dats m 0 c).toRRel marks (Rl m c)).finds_of_pos (w := 13) (t := t) rfl ht Y).mp h with h' | h'
  · have := (flush0_13 _).mp h'
    have : (t.val - 1) % 72 = 71 := this
    omega
  · have h2 : Held m c ⟨t.val - 1, _⟩ Y := (dats m 0 c).toRRel_leaves (w := 13) rfl h'
    exact h2 u (by show u.val ≤ t.val - 1; omega)

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, %hd13, H13⟩⟩
  iapply ((pointRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) d13) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _
  isplitr; swap; · iexact H13
  ipureintro
  exact held_into m c t d13 (found m c t d13 hd13)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligationRel (dats m 0 c) (defs₀ (F := Ideal)) Variants.none () Set.univ marks (Rl m c) := fun t => by
  rw [bigSep_W0, bigSep_W0, defs₀_row]
  exact triple_restated (sound_body m c t) rfl .rfl fun _ => .rfl

/-- The proof data with the marked window held to its predicate. -/
abbrev rdats (c : Dev nD) : RDat τ (Elt Ideal) Unit ℕ (UR sig nD τ) ℕ cfg0 c := (dats m 0 c).toRRel marks (Rl m c)

set_option backward.isDefEq.respectTransparency.types false in
/-- The launch: the pipeline's arrays at the end, every counter at zero. -/
theorem run_main_quiescent : θ_run defs (onTc (τ := τ) (main (F := Ideal))) (s₀ m ρ) (fun r => (RDat.FramePost (cfgs 0) (rdats m) (V m)) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Gen
-- ==== Proof.Match.lean ====
/- A grid point's blocks are the specification's entries. -/
module

public import proofs.«01_k».proof.Proof.Point
public import proofs.«01_k».proof.Proof.Spec

@[expose] public section

noncomputable section

namespace Cert.KernelIdeal.Gen

open Idealize.ShloMosaic Idealize.ShloMosaic.ValueIdx Cert.Qkv

variable {i : grid0.Coords} {x0 : S1x256x5120.Idx → EReal} {x1 : S1x5120.Idx → EReal} {x2 : S5120x7168.Idx → EReal} {x3 : S1x7168.Idx → EReal}
    {x4 : Vec Ideal S3x6144 .i32} {x5 : S64x256.Idx → EReal}

/-- A grid point's inputs are the rows `S` of sequence `b` of the whole inputs. -/
structure Reads (i : grid0.Coords) (x0 : S1x256x5120.Idx → EReal) (x1 : S1x5120.Idx → EReal) (x2 : S5120x7168.Idx → EReal) (x3 : S1x7168.Idx → EReal)
    (x4 : Vec Ideal S3x6144 .i32) (x5 : S64x256.Idx → EReal) (I : Inputs) (b : Fin 3) (S : Fin 256 → Fin 6144) : Prop where
  h0 : ∀ row e, x0 (ix3 (0 : Fin 1) row e) = I.x b (S row) e
  h1 : ∀ e, x1 (ix2 (0 : Fin 1) e) = I.g e
  h2 : ∀ e c, x2 (ix2 e c) = I.w e c
  h3 : ∀ c, x3 (ix2 (0 : Fin 1) c) = I.ws c
  h4 : ∀ row, posRow i x4 (ix2 (0 : Fin 1) row) = I.pos b (S row)
  h5 : ∀ j row, x5 (ix2 j row) = I.f j

variable {I : Inputs} {b : Fin 3} {S : Fin 256 → Fin 6144} (H : Reads i x0 x1 x2 x3 x4 x5 I b S)

include H

theorem row_match (row : Fin 256) : normRow x0 x1 row = I.row b (S row) := by
  funext d
  unfold normRow Inputs.row
  refine congrArg₂ (fun p q => normed p q d) (funext fun e => H.h0 row e) (funext fun e => H.h1 e)

theorem acc_match (n : Fin 14) (row : Fin 256) (y : Fin 512) (c : Fin 7168) (hc : c.val = 512 * n.val + y.val) :
    accs x0 x1 x2 n (ix2 row y) = I.acc b (S row) c := by
  unfold accs Inputs.acc
  refine Finset.sum_congr rfl fun e _ => ?_
  refine congrArg₂ (fun p q : EReal => p * q) ?_ ?_
  · exact congrArg (fun r => code r e) (row_match H row)
  · refine Eq.trans ?_ (H.h2 e c)
    exact congrArg (fun k : Fin 7168 => x2 (ix2 e k)) (Fin.ext hc.symm)

theorem plain_match (n : Fin 14) (j : Fin 4) (h : Fin 56) (e : h.val = 4 * n.val + j.val) (row : Fin 256) (d : Fin 128) :
    plainRow (accs x0 x1 x2 n) (xsCol x0 x1) x3 n row j d = I.plain b (S row) h d := by
  unfold plainRow Inputs.plain
  refine congrArg₂ (fun p q : EReal => p * q) (congrArg₂ (fun p q : EReal => p * q) ?_ ?_) ?_
  · exact acc_match H n row _ _ (by show 128 * h.val + d.val = 512 * n.val + (128 * j.val + d.val); omega)
  · exact congrArg rowScale (row_match H row)
  · refine Eq.trans ?_ (H.h3 _)
    exact congrArg (fun k : Fin 7168 => x3 (ix2 (0 : Fin 1) k)) (Fin.ext (by show 512 * n.val + 128 * j.val + d.val = 128 * h.val + d.val; omega))

theorem turn_match (row : Fin 256) (j : Fin 64) : angle (posRow i x4 (ix2 (0 : Fin 1) row)) (x5 (ix2 j row)) = I.turn b (S row) j := by
  unfold angle Inputs.turn
  rw [H.h4, H.h5]

theorem rope_match (n : Fin 14) (j : Fin 4) (h : Fin 56) (e : h.val = 4 * n.val + j.val) (row : Fin 256) (d : Fin 128) :
    ropeRow (accs x0 x1 x2 n) (xsCol x0 x1) (cosBlk i x4 x5) (sinBlk i x4 x5) x3 n row j d = I.rope b (S row) h d := by
  unfold ropeRow Inputs.rope
  split
  · next hd =>
    refine congrArg₂ (fun p q : EReal => p + q) (congrArg₂ (fun p q : EReal => p * q) (plain_match H n j h e row d) ?_) (congrArg₂ (fun p q : EReal => p * q) ?_ ?_)
    · exact (cos_low (posRow i x4) x5 row ⟨d.val, hd⟩).trans (congrArg Ideal.cos (turn_match H row _))
    · refine (plain_match H n j h e row _).trans ?_
      exact congrArg (fun k => I.plain b (S row) h k) (Fin.ext (by show (d.val + 64) % 128 = d.val + 64; omega))
    · exact (sin_low (posRow i x4) x5 row ⟨d.val, hd⟩).trans (congrArg (fun a => -Ideal.sin a) (turn_match H row _))
  · next hd =>
    have ed : d = (⟨(⟨d.val - 64, by omega⟩ : Fin 64).val + 64, by show d.val - 64 + 64 < 128; omega⟩ : Fin 128) := Fin.ext (by show d.val = d.val - 64 + 64; omega)
    refine congrArg₂ (fun p q : EReal => p + q) (congrArg₂ (fun p q : EReal => p * q) (plain_match H n j h e row d) ?_) (congrArg₂ (fun p q : EReal => p * q) ?_ ?_)
    · refine (congrArg (fun k => cosBlk i x4 x5 (ix2 row k)) ed).trans ?_
      exact (cos_high (posRow i x4) x5 row ⟨d.val - 64, by omega⟩).trans (congrArg Ideal.cos (turn_match H row _))
    · refine (plain_match H n j h e row _).trans ?_
      exact congrArg (fun k => I.plain b (S row) h k) (Fin.ext (by show (d.val + 64) % 128 = d.val - 64; omega))
    · refine (congrArg (fun k => sinBlk i x4 x5 (ix2 row k)) ed).trans ?_
      exact (sin_high (posRow i x4) x5 row ⟨d.val - 64, by omega⟩).trans (congrArg Ideal.sin (turn_match H row _))

theorem ropeHead_match (h : Fin 56) (row : Fin 256) :
    ropeHead (accs x0 x1 x2) (xsCol x0 x1) (cosBlk i x4 x5) (sinBlk i x4 x5) x3 h row = I.rope b (S row) h := by
  funext d
  exact rope_match H _ _ h (by show h.val = 4 * (h.val / 4) + h.val % 4; omega) row d

theorem plainHead_match (h : Fin 56) (row : Fin 256) :
    plainHead (accs x0 x1 x2) (xsCol x0 x1) x3 h row = I.plain b (S row) h := by
  funext d
  exact plain_match H _ _ h (by show h.val = 4 * (h.val / 4) + h.val % 4; omega) row d

theorem headAt_rope (h : Fin 56) (hh : h.val < 48) (row : Fin 256) : headAt i x0 x1 x2 x3 x4 x5 h row = I.rope b (S row) h := by
  unfold headAt headVal
  rw [if_pos hh]
  exact ropeHead_match H h row

theorem headAt_plain (h : Fin 56) (hh : ¬ h.val < 48) (row : Fin 256) : headAt i x0 x1 x2 x3 x4 x5 h row = I.plain b (S row) h := by
  unfold headAt headVal
  rw [if_neg hh]
  exact plainHead_match H h row

end Cert.KernelIdeal.Gen
-- ==== Proof.Entry.lean ====
/- A grid point's blocks, read off the inputs as the program was given them. -/
module

public import proofs.«01_k».proof.Proof.Launched
public import proofs.«01_k».proof.Proof.Match
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.ShloMosaic.ValueIdx Cert.Qkv
open Idealize.ShloMosaic.Pipeline (Dat RDat Cfg Window)

variable (m : (ℓ : Loc nD τ sig) → Buf (Elt Ideal) ℓ)

/-- The inverse frequencies, as the host computes them. -/
def freqs : S64.Idx → EReal :=
  Host.divf (F := Ideal) (broadcastInDim S64 ![] bcast_S_S64 (constant S_ FTy.f32 1065353216#32))
    (Host.powf (F := Ideal) (broadcastInDim S64 ![] bcast_S_S64 (constant S_ FTy.f32 1232348160#32))
      (Host.divf (F := Ideal)
        (addf (F := Ideal) (broadcastInDim S64 ![] bcast_S_S64 (constant S_ FTy.f32 0#32))
          (mulf (F := Ideal) (broadcastInDim S64 ![] bcast_S_S64 (constant S_ FTy.f32 1073741824#32))
            (sitofp (F := Ideal) FTy.f32 (iotaInDim S64 32 0))))
        (broadcastInDim S64 ![] bcast_S_S64 (constant S_ FTy.f32 1124073472#32))))

/-- The inputs by coordinates. -/
def ins (c : Dev nD) : Inputs where
  x b s e := (m ((c : Thread nD τ).loc main_arg0) : S3x6144x5120.Idx → EReal) (ix3 b s e)
  g e := (m ((c : Thread nD τ).loc main_arg1) : S5120.Idx → EReal) (ix1 e)
  w e k := (m ((c : Thread nD τ).loc main_arg2) : S5120x7168.Idx → EReal) (ix2 e k)
  ws k := (m ((c : Thread nD τ).loc main_arg3) : S7168.Idx → EReal) (ix1 k)
  pos b s := (m ((c : Thread nD τ).loc main_arg4) : S3x6144.Idx → BitVec 32) (ix2 b s)
  f j := freqs (ix1 j)

theorem index_0 : ∀ t : Fin cfg0.N, win0_0.index t 0 = (grid0.coords t 0).val ∧ win0_0.index t 1 = (grid0.coords t 1).val ∧ win0_0.index t 2 = 0 :=
  (by decide +kernel : ∀ t : Fin grid0.N, win0_0.index t 0 = (grid0.coords t 0).val ∧ win0_0.index t 1 = (grid0.coords t 1).val ∧ win0_0.index t 2 = 0)

theorem x_at (c : Dev nD) (t : Fin cfg0.N) (row : Fin 256) (e : Fin 5120) :
    (iblk m c 0 t : S1x256x5120.Idx → EReal) (ix3 (0 : Fin 1) row e) = (ins m c).x (seqOf t) (rowOf t row) e := by
  have hi := index_0 t
  unfold iblk
  rw [View.read_apply]
  refine (congrFun (V_main_arg0 m c) _).trans ?_
  refine congrArg (m ((c : Thread nD τ).loc main_arg0)) ?_
  funext a
  refine Fin.ext ?_
  refine (ValueKit.view_emb_slice_whole_unit_val _ _ _ _ _ _).trans ?_
  match a with
  | ⟨0, _⟩ => show win0_0.index t 0 * 1 + 0 = (grid0.coords t 0).val; omega
  | ⟨1, _⟩ => show win0_0.index t 1 * 256 + row.val = 256 * (grid0.coords t 1).val + row.val; omega
  | ⟨2, _⟩ => show win0_0.index t 2 * 5120 + e.val = e.val; omega

theorem g_at (c : Dev nD) (t : Fin cfg0.N) (e : Fin 5120) :
    (iblk m c 1 t : S1x5120.Idx → EReal) (ix2 (0 : Fin 1) e) = (ins m c).g e := by
  have h : (V m c main_v13 : S1x5120.Idx → EReal) (ix2 (0 : Fin 1) e) = (ins m c).g e := by
    entry_read
    refine congrArg (m ((c : Thread nD τ).loc main_arg1)) (funext fun a => Fin.ext ?_)
    match a with
    | ⟨0, _⟩ => rfl
  refine Eq.trans ?_ h
  unfold iblk
  rw [View.read_apply]
  refine congrArg (V m c main_v13) ?_
  funext a
  refine Fin.ext ?_
  refine (ValueKit.view_emb_slice_whole_unit_val _ _ _ _ _ _).trans ?_
  match a with
  | ⟨0, _⟩ => rfl
  | ⟨1, _⟩ => exact Nat.zero_add _

theorem w_at (c : Dev nD) (t : Fin cfg0.N) (e : Fin 5120) (k : Fin 7168) :
    (iblk m c 2 t : S5120x7168.Idx → EReal) (ix2 e k) = (ins m c).w e k := by
  unfold iblk
  rw [View.read_apply]
  refine (congrFun (V_main_arg2 m c) _).trans ?_
  refine congrArg (m ((c : Thread nD τ).loc main_arg2)) ?_
  funext a
  refine Fin.ext ?_
  refine (ValueKit.view_emb_slice_whole_unit_val _ _ _ _ _ _).trans ?_
  match a with
  | ⟨0, _⟩ => exact Nat.zero_add _
  | ⟨1, _⟩ => exact Nat.zero_add _

theorem ws_at (c : Dev nD) (t : Fin cfg0.N) (e : Fin 7168) :
    (iblk m c 3 t : S1x7168.Idx → EReal) (ix2 (0 : Fin 1) e) = (ins m c).ws e := by
  have h : (V m c main_v14 : S1x7168.Idx → EReal) (ix2 (0 : Fin 1) e) = (ins m c).ws e := by
    entry_read
    refine congrArg (m ((c : Thread nD τ).loc main_arg3)) (funext fun a => Fin.ext ?_)
    match a with
    | ⟨0, _⟩ => rfl
  refine Eq.trans ?_ h
  unfold iblk
  rw [View.read_apply]
  refine congrArg (V m c main_v14) ?_
  funext a
  refine Fin.ext ?_
  refine (ValueKit.view_emb_slice_whole_unit_val _ _ _ _ _ _).trans ?_
  match a with
  | ⟨0, _⟩ => rfl
  | ⟨1, _⟩ => exact Nat.zero_add _

theorem all_pos_at (c : Dev nD) (t : Fin cfg0.N) : (iblk m c 4 t : S3x6144.Idx → BitVec 32) = m ((c : Thread nD τ).loc main_arg4) := by
  funext y
  unfold iblk
  rw [View.read_apply]
  refine (congrFun (V_main_arg4 m c) _).trans ?_
  refine congrArg (m ((c : Thread nD τ).loc main_arg4)) ?_
  funext a
  refine Fin.ext ?_
  refine (ValueKit.view_emb_slice_whole_unit_val _ _ _ _ _ _).trans ?_
  match a with
  | ⟨0, _⟩ => exact Nat.zero_add _
  | ⟨1, _⟩ => exact Nat.zero_add _

theorem pos_at (c : Dev nD) (t : Fin cfg0.N) (row : Fin 256) :
    posRow (grid0.coords t) (iblk m c 4 t) (ix2 (0 : Fin 1) row) = (ins m c).pos (seqOf t) (rowOf t row) := by
  unfold posRow
  refine (congrFun (all_pos_at m c t) _).trans ?_
  refine congrArg (m ((c : Thread nD τ).loc main_arg4)) ?_
  have e := k0_off3_eq (grid0.coords t)
  funext a
  refine Fin.ext ?_
  refine (ValueKit.rect_emb_unit_val (s := S3x6144) (k0_off3 (grid0.coords t)) S1x256.size (k0_off3_inb _) (ix2 (0 : Fin 1) row) a).trans ?_
  match a with
  | ⟨0, _⟩ => exact (congrArg (· + 0) (congrFun e (0 : Fin 2)))
  | ⟨1, _⟩ => exact (congrArg (· + row.val) (congrFun e (1 : Fin 2)))

theorem f_at (c : Dev nD) (t : Fin cfg0.N) (j : Fin 64) (row : Fin 256) :
    (iblk m c 5 t : S64x256.Idx → EReal) (ix2 j row) = (ins m c).f j := by
  have h : (V m c main_v12 : S64x256.Idx → EReal) (ix2 j row) = (ins m c).f j := by
    show _ = freqs (ix1 j)
    entry_read
    refine congrArg freqs (funext fun a => Fin.ext ?_)
    match a with
    | ⟨0, _⟩ => rfl
  refine Eq.trans ?_ h
  unfold iblk
  rw [View.read_apply]
  refine congrArg (V m c main_v12) ?_
  funext a
  refine Fin.ext ?_
  refine (ValueKit.view_emb_slice_whole_unit_val _ _ _ _ _ _).trans ?_
  match a with
  | ⟨0, _⟩ => exact Nat.zero_add _
  | ⟨1, _⟩ => exact Nat.zero_add _

/-- A grid point reads its rows of the inputs. -/
theorem reads (c : Dev nD) (t : Fin cfg0.N) :
    Reads (grid0.coords t) (iblk m c 0 t) (iblk m c 1 t) (iblk m c 2 t) (iblk m c 3 t) (iblk m c 4 t) (iblk m c 5 t) (ins m c) (seqOf t) (rowOf t) where
  h0 := x_at m c t
  h1 := g_at m c t
  h2 := w_at m c t
  h3 := ws_at m c t
  h4 := pos_at m c t
  h5 := f_at m c t

end Cert.KernelIdeal.Gen
-- ==== Proof.Arrays.lean ====
/- What the kernel leaves in its result arrays. -/
module

public import proofs.«01_k».proof.Proof.Entry

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.ValueIdx Cert.Qkv
open Idealize.ShloMosaic.Pipeline (Dat RDat Cfg Window)

/-- The query codes. -/
def resQCodes (I : Inputs) : S3x6144x40x128.Idx → EReal := fun y => code (I.rope (y 0) (y 1) (⟨(y 2).val, by have := (y 2).isLt; change (y 2).val < 40 at this; omega⟩ : Fin 56)) (y 3)

/-- The query rows' scales. -/
def resQScales (I : Inputs) : S3x40x6144.Idx → EReal := fun y => rowScale (I.rope (y 0) (y 2) (⟨(y 1).val, by have := (y 1).isLt; change (y 1).val < 40 at this; omega⟩ : Fin 56))

/-- The key codes. -/
def resKCodes (I : Inputs) : S3x6144x8x128.Idx → EReal := fun y => code (I.rope (y 0) (y 1) (⟨40 + (y 2).val, by have := (y 2).isLt; change (y 2).val < 8 at this; omega⟩ : Fin 56)) (y 3)

/-- The key rows' scales. -/
def resKScales (I : Inputs) : S3x8x6144.Idx → EReal := fun y => rowScale (I.rope (y 0) (y 2) (⟨40 + (y 1).val, by have := (y 1).isLt; change (y 1).val < 8 at this; omega⟩ : Fin 56))

/-- The value codes. -/
def resVCodes (I : Inputs) : S3x6144x8x128.Idx → EReal := fun y => code (I.plain (y 0) (y 1) (⟨48 + (y 2).val, by have := (y 2).isLt; change (y 2).val < 8 at this; omega⟩ : Fin 56)) (y 3)

/-- The value rows' scales. -/
def resVScales (I : Inputs) : S3x8x6144.Idx → EReal := fun y => rowScale (I.plain (y 0) (y 2) (⟨48 + (y 1).val, by have := (y 1).isLt; change (y 1).val < 8 at this; omega⟩ : Fin 56))

/-- The activations' codes. -/
def resXCodes (I : Inputs) : S3x6144x5120.Idx → EReal := fun y => code (I.row (y 0) (y 1)) (y 2)

/-- The activation rows' scales. -/
def resXScales (I : Inputs) : S3x6144.Idx → EReal := fun y => rowScale (I.row (y 0) (y 1))

theorem codeRope_congr (I : Inputs) {b b' : Fin 3} {s s' : Fin 6144} {h h' : Fin 56} {d d' : Fin 128} (e1 : b.val = b'.val) (e2 : s.val = s'.val) (e3 : h.val = h'.val) (e4 : d.val = d'.val) :
    code (I.rope b s h) d = code (I.rope b' s' h') d' := by
  cases Fin.ext e1; cases Fin.ext e2; cases Fin.ext e3; cases Fin.ext e4; rfl

theorem codePlain_congr (I : Inputs) {b b' : Fin 3} {s s' : Fin 6144} {h h' : Fin 56} {d d' : Fin 128} (e1 : b.val = b'.val) (e2 : s.val = s'.val) (e3 : h.val = h'.val) (e4 : d.val = d'.val) :
    code (I.plain b s h) d = code (I.plain b' s' h') d' := by
  cases Fin.ext e1; cases Fin.ext e2; cases Fin.ext e3; cases Fin.ext e4; rfl

theorem scaleRope_congr (I : Inputs) {b b' : Fin 3} {s s' : Fin 6144} {h h' : Fin 56} (e1 : b.val = b'.val) (e2 : s.val = s'.val) (e3 : h.val = h'.val) :
    rowScale (I.rope b s h) = rowScale (I.rope b' s' h') := by
  cases Fin.ext e1; cases Fin.ext e2; cases Fin.ext e3; rfl

theorem scalePlain_congr (I : Inputs) {b b' : Fin 3} {s s' : Fin 6144} {h h' : Fin 56} (e1 : b.val = b'.val) (e2 : s.val = s'.val) (e3 : h.val = h'.val) :
    rowScale (I.plain b s h) = rowScale (I.plain b' s' h') := by
  cases Fin.ext e1; cases Fin.ext e2; cases Fin.ext e3; rfl

theorem codeRow_congr (I : Inputs) {b b' : Fin 3} {s s' : Fin 6144} {d d' : Fin 5120} (e1 : b.val = b'.val) (e2 : s.val = s'.val) (e4 : d.val = d'.val) :
    code (I.row b s) d = code (I.row b' s') d' := by
  cases Fin.ext e1; cases Fin.ext e2; cases Fin.ext e4; rfl

variable (m : (ℓ : Loc nD τ sig) → Buf (Elt Ideal) ℓ) (c : Dev nD)
variable (after : (w' : Fin cfg0.W) → Fin cfg0.N → (cfg0.win w').block.Idx → Elt Ideal (cfg0.win w').elt)

theorem index_6 : ∀ t : Fin cfg0.N, win0_6.index t 0 = (grid0.coords t 0).val ∧ win0_6.index t 1 = (grid0.coords t 1).val ∧ win0_6.index t 2 = 0 ∧ win0_6.index t 3 = 0 :=
  (by decide +kernel : ∀ t : Fin grid0.N, win0_6.index t 0 = (grid0.coords t 0).val ∧ win0_6.index t 1 = (grid0.coords t 1).val ∧ win0_6.index t 2 = 0 ∧ win0_6.index t 3 = 0)

theorem arr_6 (ha : ∀ u, after 6 u = (dats m 0 c).after 6 u) : ((rdats m c).withAfter after).arrAt 6 cfg0.N = resQCodes (ins m c) := by
  refine Dat.arrAt_eq_of_covers _ 6 _ (by decide +kernel) fun t hf y => ?_
  change S1x256x40x128.Idx at y
  have hi := index_6 t
  have e0 : (((cfg0.win 6).blk t).view.emb y 0 : Fin _).val = win0_6.index t 0 * 1 + (y 0).val := ValueKit.view_emb_slice_whole_unit_val _ _ _ _ _ _
  have e1 : (((cfg0.win 6).blk t).view.emb y 1 : Fin _).val = win0_6.index t 1 * 256 + (y 1).val := ValueKit.view_emb_slice_whole_unit_val _ _ _ _ _ _
  have e2 : (((cfg0.win 6).blk t).view.emb y 2 : Fin _).val = win0_6.index t 2 * 40 + (y 2).val := ValueKit.view_emb_slice_whole_unit_val _ _ _ _ _ _
  have e3 : (((cfg0.win 6).blk t).view.emb y 3 : Fin _).val = win0_6.index t 3 * 128 + (y 3).val := ValueKit.view_emb_slice_whole_unit_val _ _ _ _ _ _
  refine (congrFun ((ha t).trans (after0_6 m c t)) y).trans ?_
  refine (congrArg (fun r => code r (y 3)) (ropeHead_match (reads m c t) _ (y 1))).trans ?_
  refine codeRope_congr (ins m c) ?_ ?_ ?_ ?_
  · show (grid0.coords t 0).val = (((cfg0.win 6).blk t).view.emb y 0 : Fin _).val; have := (y 0).isLt; change (y 0).val < 1 at this; omega
  · show 256 * (grid0.coords t 1).val + (y 1).val = (((cfg0.win 6).blk t).view.emb y 1 : Fin _).val; omega
  · show 0 + (y 2).val = (((cfg0.win 6).blk t).view.emb y 2 : Fin _).val; omega
  · show (y 3).val = (((cfg0.win 6).blk t).view.emb y 3 : Fin _).val; omega

theorem index_7 : ∀ t : Fin cfg0.N, win0_7.index t 0 = (grid0.coords t 0).val ∧ win0_7.index t 1 = 0 ∧ win0_7.index t 2 = (grid0.coords t 1).val :=
  (by decide +kernel : ∀ t : Fin grid0.N, win0_7.index t 0 = (grid0.coords t 0).val ∧ win0_7.index t 1 = 0 ∧ win0_7.index t 2 = (grid0.coords t 1).val)

theorem arr_7 (ha : ∀ u, after 7 u = (dats m 0 c).after 7 u) : ((rdats m c).withAfter after).arrAt 7 cfg0.N = resQScales (ins m c) := by
  refine Dat.arrAt_eq_of_covers _ 7 _ (by decide +kernel) fun t hf y => ?_
  change S1x40x256.Idx at y
  have hi := index_7 t
  have e0 : (((cfg0.win 7).blk t).view.emb y 0 : Fin _).val = win0_7.index t 0 * 1 + (y 0).val := ValueKit.view_emb_slice_whole_unit_val _ _ _ _ _ _
  have e1 : (((cfg0.win 7).blk t).view.emb y 1 : Fin _).val = win0_7.index t 1 * 40 + (y 1).val := ValueKit.view_emb_slice_whole_unit_val _ _ _ _ _ _
  have e2 : (((cfg0.win 7).blk t).view.emb y 2 : Fin _).val = win0_7.index t 2 * 256 + (y 2).val := ValueKit.view_emb_slice_whole_unit_val _ _ _ _ _ _
  refine (congrFun ((ha t).trans (after0_7 m c t)) y).trans ?_
  refine (congrArg rowScale (headAt_rope (reads m c t) _ (by show (y 1).val < 48; have := (y 1).isLt; change (y 1).val < 40 at this; omega) (y 2))).trans ?_
  refine scaleRope_congr (ins m c) ?_ ?_ ?_
  · show (grid0.coords t 0).val = (((cfg0.win 7).blk t).view.emb y 0 : Fin _).val; have := (y 0).isLt; change (y 0).val < 1 at this; omega
  · show 256 * (grid0.coords t 1).val + (y 2).val = (((cfg0.win 7).blk t).view.emb y 2 : Fin _).val; omega
  · show (y 1).val = (((cfg0.win 7).blk t).view.emb y 1 : Fin _).val; omega

theorem index_8 : ∀ t : Fin cfg0.N, win0_8.index t 0 = (grid0.coords t 0).val ∧ win0_8.index t 1 = (grid0.coords t 1).val ∧ win0_8.index t 2 = 0 ∧ win0_8.index t 3 = 0 :=
  (by decide +kernel : ∀ t : Fin grid0.N, win0_8.index t 0 = (grid0.coords t 0).val ∧ win0_8.index t 1 = (grid0.coords t 1).val ∧ win0_8.index t 2 = 0 ∧ win0_8.index t 3 = 0)

theorem arr_8 (ha : ∀ u, after 8 u = (dats m 0 c).after 8 u) : ((rdats m c).withAfter after).arrAt 8 cfg0.N = resKCodes (ins m c) := by
  refine Dat.arrAt_eq_of_covers _ 8 _ (by decide +kernel) fun t hf y => ?_
  change S1x256x8x128.Idx at y
  have hi := index_8 t
  have e0 : (((cfg0.win 8).blk t).view.emb y 0 : Fin _).val = win0_8.index t 0 * 1 + (y 0).val := ValueKit.view_emb_slice_whole_unit_val _ _ _ _ _ _
  have e1 : (((cfg0.win 8).blk t).view.emb y 1 : Fin _).val = win0_8.index t 1 * 256 + (y 1).val := ValueKit.view_emb_slice_whole_unit_val _ _ _ _ _ _
  have e2 : (((cfg0.win 8).blk t).view.emb y 2 : Fin _).val = win0_8.index t 2 * 8 + (y 2).val := ValueKit.view_emb_slice_whole_unit_val _ _ _ _ _ _
  have e3 : (((cfg0.win 8).blk t).view.emb y 3 : Fin _).val = win0_8.index t 3 * 128 + (y 3).val := ValueKit.view_emb_slice_whole_unit_val _ _ _ _ _ _
  refine (congrFun ((ha t).trans (after0_8 m c t)) y).trans ?_
  refine (congrArg (fun r => code r (y 3)) (ropeHead_match (reads m c t) _ (y 1))).trans ?_
  refine codeRope_congr (ins m c) ?_ ?_ ?_ ?_
  · show (grid0.coords t 0).val = (((cfg0.win 8).blk t).view.emb y 0 : Fin _).val; have := (y 0).isLt; change (y 0).val < 1 at this; omega
  · show 256 * (grid0.coords t 1).val + (y 1).val = (((cfg0.win 8).blk t).view.emb y 1 : Fin _).val; omega
  · show 40 + (y 2).val = 40 + (((cfg0.win 8).blk t).view.emb y 2 : Fin _).val; omega
  · show (y 3).val = (((cfg0.win 8).blk t).view.emb y 3 : Fin _).val; omega

theorem index_9 : ∀ t : Fin cfg0.N, win0_9.index t 0 = (grid0.coords t 0).val ∧ win0_9.index t 1 = 0 ∧ win0_9.index t 2 = (grid0.coords t 1).val :=
  (by decide +kernel : ∀ t : Fin grid0.N, win0_9.index t 0 = (grid0.coords t 0).val ∧ win0_9.index t 1 = 0 ∧ win0_9.index t 2 = (grid0.coords t 1).val)

theorem arr_9 (ha : ∀ u, after 9 u = (dats m 0 c).after 9 u) : ((rdats m c).withAfter after).arrAt 9 cfg0.N = resKScales (ins m c) := by
  refine Dat.arrAt_eq_of_covers _ 9 _ (by decide +kernel) fun t hf y => ?_
  change S1x8x256.Idx at y
  have hi := index_9 t
  have e0 : (((cfg0.win 9).blk t).view.emb y 0 : Fin _).val = win0_9.index t 0 * 1 + (y 0).val := ValueKit.view_emb_slice_whole_unit_val _ _ _ _ _ _
  have e1 : (((cfg0.win 9).blk t).view.emb y 1 : Fin _).val = win0_9.index t 1 * 8 + (y 1).val := ValueKit.view_emb_slice_whole_unit_val _ _ _ _ _ _
  have e2 : (((cfg0.win 9).blk t).view.emb y 2 : Fin _).val = win0_9.index t 2 * 256 + (y 2).val := ValueKit.view_emb_slice_whole_unit_val _ _ _ _ _ _
  refine (congrFun ((ha t).trans (after0_9 m c t)) y).trans ?_
  refine (congrArg rowScale (headAt_rope (reads m c t) _ (by show 40 + (y 1).val < 48; have := (y 1).isLt; change (y 1).val < 8 at this; omega) (y 2))).trans ?_
  refine scaleRope_congr (ins m c) ?_ ?_ ?_
  · show (grid0.coords t 0).val = (((cfg0.win 9).blk t).view.emb y 0 : Fin _).val; have := (y 0).isLt; change (y 0).val < 1 at this; omega
  · show 256 * (grid0.coords t 1).val + (y 2).val = (((cfg0.win 9).blk t).view.emb y 2 : Fin _).val; omega
  · show 40 + (y 1).val = 40 + (((cfg0.win 9).blk t).view.emb y 1 : Fin _).val; omega

theorem index_10 : ∀ t : Fin cfg0.N, win0_10.index t 0 = (grid0.coords t 0).val ∧ win0_10.index t 1 = (grid0.coords t 1).val ∧ win0_10.index t 2 = 0 ∧ win0_10.index t 3 = 0 :=
  (by decide +kernel : ∀ t : Fin grid0.N, win0_10.index t 0 = (grid0.coords t 0).val ∧ win0_10.index t 1 = (grid0.coords t 1).val ∧ win0_10.index t 2 = 0 ∧ win0_10.index t 3 = 0)

theorem arr_10 (ha : ∀ u, after 10 u = (dats m 0 c).after 10 u) : ((rdats m c).withAfter after).arrAt 10 cfg0.N = resVCodes (ins m c) := by
  refine Dat.arrAt_eq_of_covers _ 10 _ (by decide +kernel) fun t hf y => ?_
  change S1x256x8x128.Idx at y
  have hi := index_10 t
  have e0 : (((cfg0.win 10).blk t).view.emb y 0 : Fin _).val = win0_10.index t 0 * 1 + (y 0).val := ValueKit.view_emb_slice_whole_unit_val _ _ _ _ _ _
  have e1 : (((cfg0.win 10).blk t).view.emb y 1 : Fin _).val = win0_10.index t 1 * 256 + (y 1).val := ValueKit.view_emb_slice_whole_unit_val _ _ _ _ _ _
  have e2 : (((cfg0.win 10).blk t).view.emb y 2 : Fin _).val = win0_10.index t 2 * 8 + (y 2).val := ValueKit.view_emb_slice_whole_unit_val _ _ _ _ _ _
  have e3 : (((cfg0.win 10).blk t).view.emb y 3 : Fin _).val = win0_10.index t 3 * 128 + (y 3).val := ValueKit.view_emb_slice_whole_unit_val _ _ _ _ _ _
  refine (congrFun ((ha t).trans (after0_10 m c t)) y).trans ?_
  refine (congrArg (fun r => code r (y 3)) (plainHead_match (reads m c t) _ (y 1))).trans ?_
  refine codePlain_congr (ins m c) ?_ ?_ ?_ ?_
  · show (grid0.coords t 0).val = (((cfg0.win 10).blk t).view.emb y 0 : Fin _).val; have := (y 0).isLt; change (y 0).val < 1 at this; omega
  · show 256 * (grid0.coords t 1).val + (y 1).val = (((cfg0.win 10).blk t).view.emb y 1 : Fin _).val; omega
  · show 48 + (y 2).val = 48 + (((cfg0.win 10).blk t).view.emb y 2 : Fin _).val; omega
  · show (y 3).val = (((cfg0.win 10).blk t).view.emb y 3 : Fin _).val; omega

theorem index_11 : ∀ t : Fin cfg0.N, win0_11.index t 0 = (grid0.coords t 0).val ∧ win0_11.index t 1 = 0 ∧ win0_11.index t 2 = (grid0.coords t 1).val :=
  (by decide +kernel : ∀ t : Fin grid0.N, win0_11.index t 0 = (grid0.coords t 0).val ∧ win0_11.index t 1 = 0 ∧ win0_11.index t 2 = (grid0.coords t 1).val)

theorem arr_11 (ha : ∀ u, after 11 u = (dats m 0 c).after 11 u) : ((rdats m c).withAfter after).arrAt 11 cfg0.N = resVScales (ins m c) := by
  refine Dat.arrAt_eq_of_covers _ 11 _ (by decide +kernel) fun t hf y => ?_
  change S1x8x256.Idx at y
  have hi := index_11 t
  have e0 : (((cfg0.win 11).blk t).view.emb y 0 : Fin _).val = win0_11.index t 0 * 1 + (y 0).val := ValueKit.view_emb_slice_whole_unit_val _ _ _ _ _ _
  have e1 : (((cfg0.win 11).blk t).view.emb y 1 : Fin _).val = win0_11.index t 1 * 8 + (y 1).val := ValueKit.view_emb_slice_whole_unit_val _ _ _ _ _ _
  have e2 : (((cfg0.win 11).blk t).view.emb y 2 : Fin _).val = win0_11.index t 2 * 256 + (y 2).val := ValueKit.view_emb_slice_whole_unit_val _ _ _ _ _ _
  refine (congrFun ((ha t).trans (after0_11 m c t)) y).trans ?_
  refine (congrArg rowScale (headAt_plain (reads m c t) _ (by show ¬ 48 + (y 1).val < 48; omega) (y 2))).trans ?_
  refine scalePlain_congr (ins m c) ?_ ?_ ?_
  · show (grid0.coords t 0).val = (((cfg0.win 11).blk t).view.emb y 0 : Fin _).val; have := (y 0).isLt; change (y 0).val < 1 at this; omega
  · show 256 * (grid0.coords t 1).val + (y 2).val = (((cfg0.win 11).blk t).view.emb y 2 : Fin _).val; omega
  · show 48 + (y 1).val = 48 + (((cfg0.win 11).blk t).view.emb y 1 : Fin _).val; omega

theorem index_12 : ∀ t : Fin cfg0.N, win0_12.index t 0 = (grid0.coords t 0).val ∧ win0_12.index t 1 = (grid0.coords t 1).val ∧ win0_12.index t 2 = 0 :=
  (by decide +kernel : ∀ t : Fin grid0.N, win0_12.index t 0 = (grid0.coords t 0).val ∧ win0_12.index t 1 = (grid0.coords t 1).val ∧ win0_12.index t 2 = 0)

theorem arr_12 (ha : ∀ u, after 12 u = (dats m 0 c).after 12 u) : ((rdats m c).withAfter after).arrAt 12 cfg0.N = resXCodes (ins m c) := by
  refine Dat.arrAt_eq_of_covers _ 12 _ (by decide +kernel) fun t hf y => ?_
  change S1x256x5120.Idx at y
  have hi := index_12 t
  have e0 : (((cfg0.win 12).blk t).view.emb y 0 : Fin _).val = win0_12.index t 0 * 1 + (y 0).val := ValueKit.view_emb_slice_whole_unit_val _ _ _ _ _ _
  have e1 : (((cfg0.win 12).blk t).view.emb y 1 : Fin _).val = win0_12.index t 1 * 256 + (y 1).val := ValueKit.view_emb_slice_whole_unit_val _ _ _ _ _ _
  have e2 : (((cfg0.win 12).blk t).view.emb y 2 : Fin _).val = win0_12.index t 2 * 5120 + (y 2).val := ValueKit.view_emb_slice_whole_unit_val _ _ _ _ _ _
  refine (congrFun ((ha t).trans (after0_12 m c t)) y).trans ?_
  refine (congrArg (fun r => code r (y 2)) (row_match (reads m c t) (y 1))).trans ?_
  refine codeRow_congr (ins m c) ?_ ?_ ?_
  · show (grid0.coords t 0).val = (((cfg0.win 12).blk t).view.emb y 0 : Fin _).val; have := (y 0).isLt; change (y 0).val < 1 at this; omega
  · show 256 * (grid0.coords t 1).val + (y 1).val = (((cfg0.win 12).blk t).view.emb y 1 : Fin _).val; omega
  · show (y 2).val = (((cfg0.win 12).blk t).view.emb y 2 : Fin _).val; omega

/-- The last grid point. -/
def lastPt : Fin cfg0.N := (⟨71, by decide⟩ : Fin grid0.N)

theorem whole_13 : (cfg0.win 13).WholeAt lastPt :=
  (by decide +kernel : Pipeline.Window.WholeAt win0_13 (⟨71, by decide⟩ : Fin grid0.N))

/-- The point that works on a row. -/
theorem point_of : ∀ (b : Fin 3) (n : Fin 24), ∃ u : Fin cfg0.N, (grid0.coords u 0).val = b.val ∧ (grid0.coords u 1).val = n.val :=
  (by decide +kernel : ∀ (b : Fin 3) (n : Fin 24), ∃ u : Fin grid0.N, (grid0.coords u 0).val = b.val ∧ (grid0.coords u 1).val = n.val)

theorem arr_13 (ha : Held m c lastPt (after 13 lastPt)) : ((rdats m c).withAfter after).arrAt 13 cfg0.N = resXScales (ins m c) := by
  refine Dat.arrAt_eq_of_after_last (cfg := cfg0) _ 13 lastPt whole_13 _ fun j => ?_
  change S3x6144.Idx at j
  have hj1 : (j 1).val < 6144 := (j 1).isLt
  obtain ⟨u, h0, h1⟩ := point_of (j 0) (⟨(j 1).val / 256, by omega⟩ : Fin 24)
  have h1' : (grid0.coords u 1).val = (j 1).val / 256 := h1
  have hu : u.val ≤ lastPt.val := by have : u.val < 72 := u.isLt; show u.val ≤ 71; omega
  have key := ha u hu (⟨(j 1).val % 256, Nat.mod_lt _ (by norm_num)⟩ : Fin 256)
  have es : seqOf u = j 0 := Fin.ext h0
  have er : rowOf u (⟨(j 1).val % 256, Nat.mod_lt _ (by norm_num)⟩ : Fin 256) = j 1 := Fin.ext (by show 256 * (grid0.coords u 1).val + (j 1).val % 256 = (j 1).val; omega)
  rw [row_match (reads m c u), es, er] at key
  refine Eq.trans ?_ key
  refine congrArg (after 13 lastPt) (funext fun a => Fin.ext ?_)
  match a with
  | ⟨0, _⟩ => rfl
  | ⟨1, _⟩ => rfl

end Cert.KernelIdeal.Gen
-- ==== Proof.RefArrays.lean ====
/- What the reference leaves in its result arrays. -/
module

public import proofs.«01_k».proof.Proof.Gen.ReferenceIdeal.Value
public import proofs.«01_k».proof.Proof.RefVals
public import proofs.«01_k».proof.Proof.Arrays

@[expose] public section

set_option maxRecDepth 16384

noncomputable section

namespace Cert.ReferenceIdeal.Gen

open Idealize.ShloMosaic Idealize.ShloMosaic.TcCoe Idealize.ShloMosaic.Tactic
open Idealize.SL Idealize.SL.Sem
open Idealize.ShloMosaic.ValueIdx Cert.Qkv
open Idealize.ShloMosaic.Pipeline (Dat RDat Cfg Window)
open Cert.KernelIdeal.Gen (resQCodes resQScales resKCodes resKScales resVCodes resVScales resXCodes resXScales)

theorem ld_0 (X : Vec Ideal S3x6144x5120 .bf16) : View.ld X r0_0 = X := View.ld_unit_lit _ X (fun a => match a with | ⟨0, _⟩ => rfl | ⟨1, _⟩ => rfl | ⟨2, _⟩ => rfl)

theorem ld_1 (X : Vec Ideal S5120 .f32) : View.ld X r0_1 = X := View.ld_unit_lit _ X (fun a => match a with | ⟨0, _⟩ => rfl)

theorem ld_2 (X : Vec Ideal S5120x7168 .fp8e4m3) : View.ld X r0_2 = X := View.ld_unit_lit _ X (fun a => match a with | ⟨0, _⟩ => rfl | ⟨1, _⟩ => rfl)

theorem ld_3 (X : Vec Ideal S7168 .f32) : View.ld X r0_3 = X := View.ld_unit_lit _ X (fun a => match a with | ⟨0, _⟩ => rfl)

theorem ld_4 (X : Vec Ideal S3x6144 .i32) : View.ld X r0_4 = X := View.ld_unit_lit _ X (fun a => match a with | ⟨0, _⟩ => rfl | ⟨1, _⟩ => rfl)

theorem ld_5 (X : Vec Ideal S64 .f32) : View.ld X r0_5 = X := View.ld_unit_lit _ X (fun a => match a with | ⟨0, _⟩ => rfl)

theorem canon_6 (X : Vec Ideal S3x6144x40x128 .fp8e4m3) : View.canon (Val := Elt Ideal) [⟨r0_6, X⟩] = X := View.canon_cons_unit_lit _ X [] (fun a => match a with | ⟨0, _⟩ => rfl | ⟨1, _⟩ => rfl | ⟨2, _⟩ => rfl | ⟨3, _⟩ => rfl)

theorem canon_7 (X : Vec Ideal S3x40x6144 .f32) : View.canon (Val := Elt Ideal) [⟨r0_7, X⟩] = X := View.canon_cons_unit_lit _ X [] (fun a => match a with | ⟨0, _⟩ => rfl | ⟨1, _⟩ => rfl | ⟨2, _⟩ => rfl)

theorem canon_8 (X : Vec Ideal S3x6144x8x128 .fp8e4m3) : View.canon (Val := Elt Ideal) [⟨r0_8, X⟩] = X := View.canon_cons_unit_lit _ X [] (fun a => match a with | ⟨0, _⟩ => rfl | ⟨1, _⟩ => rfl | ⟨2, _⟩ => rfl | ⟨3, _⟩ => rfl)

theorem canon_9 (X : Vec Ideal S3x8x6144 .f32) : View.canon (Val := Elt Ideal) [⟨r0_9, X⟩] = X := View.canon_cons_unit_lit _ X [] (fun a => match a with | ⟨0, _⟩ => rfl | ⟨1, _⟩ => rfl | ⟨2, _⟩ => rfl)

theorem canon_0 (X : Vec Ideal S3x6144x5120 .fp8e4m3) : View.canon (Val := Elt Ideal) [⟨r0_0, X⟩] = X := View.canon_cons_unit_lit _ X [] (fun a => match a with | ⟨0, _⟩ => rfl | ⟨1, _⟩ => rfl | ⟨2, _⟩ => rfl)

theorem canon_4 (X : Vec Ideal S3x6144 .f32) : View.canon (Val := Elt Ideal) [⟨r0_4, X⟩] = X := View.canon_cons_unit_lit _ X [] (fun a => match a with | ⟨0, _⟩ => rfl | ⟨1, _⟩ => rfl)

section
variable (x : Vec Ideal S3x6144x5120 .bf16) (g : Vec Ideal S5120 .f32) (w : Vec Ideal S5120x7168 .fp8e4m3) (ws : Vec Ideal S7168 .f32)
variable (p : Vec Ideal S3x6144 .i32) (f : Vec Ideal S64 .f32)

theorem val_32 : k0_pay32 x g w ws p f = k0_pay6 x g := by unfold k0_pay32; rw [ld_0, ld_1]
theorem val_33 : k0_pay33 x g w ws p f = k0_pay7 x g := by unfold k0_pay33; rw [ld_0, ld_1]
theorem val_34 : k0_pay34 x g w ws p f = k0_pay8 (F := Ideal) := by unfold k0_pay34; rfl
theorem val_35 : k0_pay35 x g w ws p f = k0_pay12 (k0_pay6 x g) (k0_pay7 x g) k0_pay8 w ws := by unfold k0_pay35; rw [val_32, val_33, val_34, ld_2, ld_3]
theorem val_36 : k0_pay36 x g w ws p f = k0_pay13 (k0_pay6 x g) (k0_pay7 x g) k0_pay8 w ws := by unfold k0_pay36; rw [val_32, val_33, val_34, ld_2, ld_3]
theorem val_37 : k0_pay37 x g w ws p f = k0_pay15 p f := by unfold k0_pay37; rw [ld_4, ld_5]
theorem val_38 : k0_pay38 x g w ws p f = k0_pay16 p f := by unfold k0_pay38; rw [ld_4, ld_5]
theorem val_39 : k0_pay39 x g w ws p f = k0_pay18 (k0_pay6 x g) (k0_pay7 x g) k0_pay8 w ws p f := by unfold k0_pay39; rw [val_32, val_33, val_34, ld_2, ld_3, ld_4, ld_5]
theorem val_40 : k0_pay40 x g w ws p f = k0_pay19 (F := Ideal) := by unfold k0_pay40; rfl
theorem val_41 : k0_pay41 x g w ws p f = k0_pay24 (k0_pay12 (k0_pay6 x g) (k0_pay7 x g) k0_pay8 w ws) (k0_pay15 p f) (k0_pay16 p f) := by
  unfold k0_pay41; rw [val_35, val_37, val_38]
theorem val_42 : k0_pay42 x g w ws p f = k0_pay25 (F := Ideal) := by unfold k0_pay42; rfl
theorem val_43 : k0_pay43 x g w ws p f = cmpf (F := Ideal) .ogt k0_pay25 (broadcastTo S3x6144x8x252
    (k0_pay24 (k0_pay12 (k0_pay6 x g) (k0_pay7 x g) k0_pay8 w ws) (k0_pay15 p f) (k0_pay16 p f)) broadcasts_S3x6144x8x1_S3x6144x8x252) := by
  unfold k0_pay43; rw [val_35, val_37, val_38]; rfl

theorem out_6 : (out0_6 x g w ws p f : S3x6144x40x128.Idx → EReal) = resQCodes (insOf x g w ws p f) := by
  unfold out0_6
  rw [val_32, val_33, val_34, val_39, val_40, ld_2, ld_3, ld_4, ld_5]
  refine (canon_6 _).trans (funext fun y => ?_)
  have e := (code40_at _ _ (y 0) (y 1) (y 2) (q_amax x g w ws p f (y 0) (y 1) (y 2)) (y 3)).trans (congrFun (congrArg code (q_rope x g w ws p f (y 0) (y 1) (y 2))) (y 3))
  exact (congrArg _ (eq_ix4 y)).trans e

theorem out_7 : (out0_7 x g w ws p f : S3x40x6144.Idx → EReal) = resQScales (insOf x g w ws p f) := by
  unfold out0_7
  rw [val_39, val_40]
  refine (canon_7 _).trans (funext fun y => ?_)
  have e := (scale40_at _ _ (y 0) (y 2) (y 1) (q_amax x g w ws p f (y 0) (y 2) (y 1))).trans (congrArg rowScale (q_rope x g w ws p f (y 0) (y 2) (y 1)))
  exact (congrArg _ (eq_ix3 y)).trans ((scale40_out _ _ (y 0) (y 2) (y 1)).trans e)

theorem out_8 : (out0_8 x g w ws p f : S3x6144x8x128.Idx → EReal) = resKCodes (insOf x g w ws p f) := by
  unfold out0_8
  rw [val_35, val_37, val_38, val_41, val_42, val_43]
  refine (canon_8 _).trans (funext fun y => ?_)
  have e := (code8_at _ _ (y 0) (y 1) (y 2) (k_amax (y 0) (y 1) (k0_pay12 (k0_pay6 x g) (k0_pay7 x g) k0_pay8 w ws) (k0_pay15 p f) (k0_pay16 p f) (y 2)) (y 3)).trans (congrFun (congrArg code (k_rope x g w ws p f (y 0) (y 1) (y 2))) (y 3))
  exact (congrArg _ (eq_ix4 y)).trans e

theorem out_9 : (out0_9 x g w ws p f : S3x8x6144.Idx → EReal) = resKScales (insOf x g w ws p f) := by
  unfold out0_9
  rw [val_41, val_42, val_43]
  refine (canon_9 _).trans (funext fun y => ?_)
  have e := (scale8_at _ _ (y 0) (y 2) (y 1) (k_amax (y 0) (y 2) (k0_pay12 (k0_pay6 x g) (k0_pay7 x g) k0_pay8 w ws) (k0_pay15 p f) (k0_pay16 p f) (y 1))).trans (congrArg rowScale (k_rope x g w ws p f (y 0) (y 2) (y 1)))
  exact (congrArg _ (eq_ix3 y)).trans ((scale8_out _ _ _ _ (y 0) (y 2) (y 1)).trans e)

theorem out_10 : (out0_10 x g w ws p f : S3x6144x8x128.Idx → EReal) = resVCodes (insOf x g w ws p f) := by
  unfold out0_10
  rw [val_36]
  refine (canon_8 _).trans (funext fun y => ?_)
  have e := (codeV_at (k0_pay13 (k0_pay6 x g) (k0_pay7 x g) k0_pay8 w ws) (y 0) (y 1) (y 2) (y 3)).trans (congrFun (congrArg code (v_plain x g w ws p f (y 0) (y 1) (y 2))) (y 3))
  exact (congrArg _ (eq_ix4 y)).trans e

theorem out_11 : (out0_11 x g w ws p f : S3x8x6144.Idx → EReal) = resVScales (insOf x g w ws p f) := by
  unfold out0_11
  rw [val_36]
  refine (canon_9 _).trans (funext fun y => ?_)
  have e := (scaleV_at (k0_pay13 (k0_pay6 x g) (k0_pay7 x g) k0_pay8 w ws) (y 0) (y 2) (y 1)).trans (congrArg rowScale (v_plain x g w ws p f (y 0) (y 2) (y 1)))
  exact (congrArg _ (eq_ix3 y)).trans ((scaleV_out _ (y 0) (y 2) (y 1)).trans e)

theorem out_12 : (out0_12 x g w ws p f : S3x6144x5120.Idx → EReal) = resXCodes (insOf x g w ws p f) := by
  unfold out0_12
  rw [val_33, val_34]
  refine (canon_0 _).trans (funext fun y => ?_)
  have e := (rowCode_at x g (y 0) (y 1) (y 2)).trans (congrFun (congrArg code (row_eq x g w ws p f (y 0) (y 1))) (y 2))
  exact (congrArg _ (eq_ix3 y)).trans e

theorem out_13 : (out0_13 x g w ws p f : S3x6144.Idx → EReal) = resXScales (insOf x g w ws p f) := by
  unfold out0_13
  rw [val_32]
  refine (canon_4 _).trans (funext fun y => ?_)
  have e := (rowScale_at x g (y 0) (y 1)).trans (congrArg rowScale (row_eq x g w ws p f (y 0) (y 1)))
  exact (congrArg _ (eq_ix2 y)).trans ((rowScale_out _ (y 0) (y 1)).trans e)
end

section
variable (m : (ℓ : Loc nD τ sig) → Buf (Elt Ideal) ℓ) (c : Dev nD)

/-- The inputs by coordinates, from the memory the program was given. -/
def ins : Inputs := insOf (m ((c : Thread nD τ).loc main_arg0)) (m ((c : Thread nD τ).loc main_arg1)) (m ((c : Thread nD τ).loc main_arg2))
  (m ((c : Thread nD τ).loc main_arg3)) (m ((c : Thread nD τ).loc main_arg4)) Cert.KernelIdeal.Gen.freqs

theorem iblk_0 (t : Fin cfg0.N) : (iblk m c 0 t : Vec Ideal S3x6144x5120 .bf16) = m ((c : Thread nD τ).loc main_arg0) := by
  funext y
  unfold iblk
  rw [View.read_apply]
  refine (congrFun (V_main_arg0 m c) _).trans ?_
  refine congrArg (m ((c : Thread nD τ).loc main_arg0)) ?_
  funext a
  refine Fin.ext ?_
  refine (ValueKit.view_emb_slice_whole_unit_val _ _ _ _ _ _).trans ?_
  match a with
  | ⟨0, _⟩ => exact Nat.zero_add _
  | ⟨1, _⟩ => exact Nat.zero_add _
  | ⟨2, _⟩ => exact Nat.zero_add _

theorem iblk_1 (t : Fin cfg0.N) : (iblk m c 1 t : Vec Ideal S5120 .f32) = m ((c : Thread nD τ).loc main_arg1) := by
  funext y
  unfold iblk
  rw [View.read_apply]
  refine (congrFun (V_main_arg1 m c) _).trans ?_
  refine congrArg (m ((c : Thread nD τ).loc main_arg1)) ?_
  funext a
  refine Fin.ext ?_
  refine (ValueKit.view_emb_slice_whole_unit_val _ _ _ _ _ _).trans ?_
  match a with
  | ⟨0, _⟩ => exact Nat.zero_add _

theorem iblk_2 (t : Fin cfg0.N) : (iblk m c 2 t : Vec Ideal S5120x7168 .fp8e4m3) = m ((c : Thread nD τ).loc main_arg2) := by
  funext y
  unfold iblk
  rw [View.read_apply]
  refine (congrFun (V_main_arg2 m c) _).trans ?_
  refine congrArg (m ((c : Thread nD τ).loc main_arg2)) ?_
  funext a
  refine Fin.ext ?_
  refine (ValueKit.view_emb_slice_whole_unit_val _ _ _ _ _ _).trans ?_
  match a with
  | ⟨0, _⟩ => exact Nat.zero_add _
  | ⟨1, _⟩ => exact Nat.zero_add _

theorem iblk_3 (t : Fin cfg0.N) : (iblk m c 3 t : Vec Ideal S7168 .f32) = m ((c : Thread nD τ).loc main_arg3) := by
  funext y
  unfold iblk
  rw [View.read_apply]
  refine (congrFun (V_main_arg3 m c) _).trans ?_
  refine congrArg (m ((c : Thread nD τ).loc main_arg3)) ?_
  funext a
  refine Fin.ext ?_
  refine (ValueKit.view_emb_slice_whole_unit_val _ _ _ _ _ _).trans ?_
  match a with
  | ⟨0, _⟩ => exact Nat.zero_add _

theorem iblk_4 (t : Fin cfg0.N) : (iblk m c 4 t : Vec Ideal S3x6144 .i32) = m ((c : Thread nD τ).loc main_arg4) := by
  funext y
  unfold iblk
  rw [View.read_apply]
  refine (congrFun (V_main_arg4 m c) _).trans ?_
  refine congrArg (m ((c : Thread nD τ).loc main_arg4)) ?_
  funext a
  refine Fin.ext ?_
  refine (ValueKit.view_emb_slice_whole_unit_val _ _ _ _ _ _).trans ?_
  match a with
  | ⟨0, _⟩ => exact Nat.zero_add _
  | ⟨1, _⟩ => exact Nat.zero_add _

theorem freqs_at (j : S64.Idx) : (V m c main_v10 : S64.Idx → EReal) j = Cert.KernelIdeal.Gen.freqs j := by
  entry_read
  rfl

theorem iblk_5 (t : Fin cfg0.N) : (iblk m c 5 t : Vec Ideal S64 .f32) = Cert.KernelIdeal.Gen.freqs := by
  funext y
  unfold iblk
  rw [View.read_apply]
  refine Eq.trans ?_ (freqs_at m c y)
  refine congrArg (V m c main_v10) ?_
  funext a
  refine Fin.ext ?_
  refine (ValueKit.view_emb_slice_whole_unit_val _ _ _ _ _ _).trans ?_
  match a with
  | ⟨0, _⟩ => exact Nat.zero_add _

theorem read_all (t : Fin cfg0.N) : insOf (iblk m c 0 t) (iblk m c 1 t) (iblk m c 2 t) (iblk m c 3 t) (iblk m c 4 t) (iblk m c 5 t) = ins m c := by
  unfold ins
  rw [← iblk_0 m c t, ← iblk_1 m c t, ← iblk_2 m c t, ← iblk_3 m c t, ← iblk_4 m c t, ← iblk_5 m c t]

/-- The one grid point. -/
def onlyPt : Fin cfg0.N := (⟨0, by decide⟩ : Fin grid0.N)

theorem whole_6 : (cfg0.win 6).WholeAt onlyPt :=
  (by decide +kernel : Pipeline.Window.WholeAt win0_6 (⟨0, by decide⟩ : Fin grid0.N))

theorem arr_6 : (dats m 0 c).arrAt 6 cfg0.N = resQCodes (ins m c) := by
  refine Dat.arrAt_eq_of_after_last (cfg := cfg0) _ 6 onlyPt whole_6 _ fun j => ?_
  change S3x6144x40x128.Idx at j
  have e := congrFun ((after0_6 m c onlyPt).trans ((out_6 _ _ _ _ _ _).trans (congrArg resQCodes (read_all m c onlyPt)))) j
  refine Eq.trans ?_ e
  refine congrArg ((dats m 0 c).after 6 onlyPt) (funext fun a => Fin.ext ?_)
  match a with
  | ⟨0, _⟩ => rfl
  | ⟨1, _⟩ => rfl
  | ⟨2, _⟩ => rfl
  | ⟨3, _⟩ => rfl

theorem whole_7 : (cfg0.win 7).WholeAt onlyPt :=
  (by decide +kernel : Pipeline.Window.WholeAt win0_7 (⟨0, by decide⟩ : Fin grid0.N))

theorem arr_7 : (dats m 0 c).arrAt 7 cfg0.N = resQScales (ins m c) := by
  refine Dat.arrAt_eq_of_after_last (cfg := cfg0) _ 7 onlyPt whole_7 _ fun j => ?_
  change S3x40x6144.Idx at j
  have e := congrFun ((after0_7 m c onlyPt).trans ((out_7 _ _ _ _ _ _).trans (congrArg resQScales (read_all m c onlyPt)))) j
  refine Eq.trans ?_ e
  refine congrArg ((dats m 0 c).after 7 onlyPt) (funext fun a => Fin.ext ?_)
  match a with
  | ⟨0, _⟩ => rfl
  | ⟨1, _⟩ => rfl
  | ⟨2, _⟩ => rfl

theorem whole_8 : (cfg0.win 8).WholeAt onlyPt :=
  (by decide +kernel : Pipeline.Window.WholeAt win0_8 (⟨0, by decide⟩ : Fin grid0.N))

theorem arr_8 : (dats m 0 c).arrAt 8 cfg0.N = resKCodes (ins m c) := by
  refine Dat.arrAt_eq_of_after_last (cfg := cfg0) _ 8 onlyPt whole_8 _ fun j => ?_
  change S3x6144x8x128.Idx at j
  have e := congrFun ((after0_8 m c onlyPt).trans ((out_8 _ _ _ _ _ _).trans (congrArg resKCodes (read_all m c onlyPt)))) j
  refine Eq.trans ?_ e
  refine congrArg ((dats m 0 c).after 8 onlyPt) (funext fun a => Fin.ext ?_)
  match a with
  | ⟨0, _⟩ => rfl
  | ⟨1, _⟩ => rfl
  | ⟨2, _⟩ => rfl
  | ⟨3, _⟩ => rfl

theorem whole_9 : (cfg0.win 9).WholeAt onlyPt :=
  (by decide +kernel : Pipeline.Window.WholeAt win0_9 (⟨0, by decide⟩ : Fin grid0.N))

theorem arr_9 : (dats m 0 c).arrAt 9 cfg0.N = resKScales (ins m c) := by
  refine Dat.arrAt_eq_of_after_last (cfg := cfg0) _ 9 onlyPt whole_9 _ fun j => ?_
  change S3x8x6144.Idx at j
  have e := congrFun ((after0_9 m c onlyPt).trans ((out_9 _ _ _ _ _ _).trans (congrArg resKScales (read_all m c onlyPt)))) j
  refine Eq.trans ?_ e
  refine congrArg ((dats m 0 c).after 9 onlyPt) (funext fun a => Fin.ext ?_)
  match a with
  | ⟨0, _⟩ => rfl
  | ⟨1, _⟩ => rfl
  | ⟨2, _⟩ => rfl

theorem whole_10 : (cfg0.win 10).WholeAt onlyPt :=
  (by decide +kernel : Pipeline.Window.WholeAt win0_10 (⟨0, by decide⟩ : Fin grid0.N))

theorem arr_10 : (dats m 0 c).arrAt 10 cfg0.N = resVCodes (ins m c) := by
  refine Dat.arrAt_eq_of_after_last (cfg := cfg0) _ 10 onlyPt whole_10 _ fun j => ?_
  change S3x6144x8x128.Idx at j
  have e := congrFun ((after0_10 m c onlyPt).trans ((out_10 _ _ _ _ _ _).trans (congrArg resVCodes (read_all m c onlyPt)))) j
  refine Eq.trans ?_ e
  refine congrArg ((dats m 0 c).after 10 onlyPt) (funext fun a => Fin.ext ?_)
  match a with
  | ⟨0, _⟩ => rfl
  | ⟨1, _⟩ => rfl
  | ⟨2, _⟩ => rfl
  | ⟨3, _⟩ => rfl

theorem whole_11 : (cfg0.win 11).WholeAt onlyPt :=
  (by decide +kernel : Pipeline.Window.WholeAt win0_11 (⟨0, by decide⟩ : Fin grid0.N))

theorem arr_11 : (dats m 0 c).arrAt 11 cfg0.N = resVScales (ins m c) := by
  refine Dat.arrAt_eq_of_after_last (cfg := cfg0) _ 11 onlyPt whole_11 _ fun j => ?_
  change S3x8x6144.Idx at j
  have e := congrFun ((after0_11 m c onlyPt).trans ((out_11 _ _ _ _ _ _).trans (congrArg resVScales (read_all m c onlyPt)))) j
  refine Eq.trans ?_ e
  refine congrArg ((dats m 0 c).after 11 onlyPt) (funext fun a => Fin.ext ?_)
  match a with
  | ⟨0, _⟩ => rfl
  | ⟨1, _⟩ => rfl
  | ⟨2, _⟩ => rfl

theorem whole_12 : (cfg0.win 12).WholeAt onlyPt :=
  (by decide +kernel : Pipeline.Window.WholeAt win0_12 (⟨0, by decide⟩ : Fin grid0.N))

theorem arr_12 : (dats m 0 c).arrAt 12 cfg0.N = resXCodes (ins m c) := by
  refine Dat.arrAt_eq_of_after_last (cfg := cfg0) _ 12 onlyPt whole_12 _ fun j => ?_
  change S3x6144x5120.Idx at j
  have e := congrFun ((after0_12 m c onlyPt).trans ((out_12 _ _ _ _ _ _).trans (congrArg resXCodes (read_all m c onlyPt)))) j
  refine Eq.trans ?_ e
  refine congrArg ((dats m 0 c).after 12 onlyPt) (funext fun a => Fin.ext ?_)
  match a with
  | ⟨0, _⟩ => rfl
  | ⟨1, _⟩ => rfl
  | ⟨2, _⟩ => rfl

theorem whole_13 : (cfg0.win 13).WholeAt onlyPt :=
  (by decide +kernel : Pipeline.Window.WholeAt win0_13 (⟨0, by decide⟩ : Fin grid0.N))

theorem arr_13 : (dats m 0 c).arrAt 13 cfg0.N = resXScales (ins m c) := by
  refine Dat.arrAt_eq_of_after_last (cfg := cfg0) _ 13 onlyPt whole_13 _ fun j => ?_
  change S3x6144.Idx at j
  have e := congrFun ((after0_13 m c onlyPt).trans ((out_13 _ _ _ _ _ _).trans (congrArg resXScales (read_all m c onlyPt)))) j
  refine Eq.trans ?_ e
  refine congrArg ((dats m 0 c).after 13 onlyPt) (funext fun a => Fin.ext ?_)
  match a with
  | ⟨0, _⟩ => rfl
  | ⟨1, _⟩ => rfl

end

end Cert.ReferenceIdeal.Gen
-- ==== Proof.Final.lean ====
/- The kernel's frame, and its results equal to the reference's. -/
module

public import proofs.«01_k».proof.Proof.RefArrays

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.ValueIdx Cert.Qkv
open Idealize.ShloMosaic.Pipeline (Dat RDat Cfg Window)

variable (m : (ℓ : Loc nD τ sig) → Buf (Elt Ideal) ℓ) (ρ : Dev nD → PrngReg)

/-- The final memory holds the arguments as they were. -/
theorem args_kept (r : PUnit × MemSt nD τ sig (Elt Ideal)) (h : RDat.FramePost (cfgs 0) (rdats m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(RDat.FramePost.arr_in h c 0 rfl).trans ((A_eq m c 0).trans (V_main_arg0 m c)),
    ((h c).2 main_arg1 (Pipeline.mem_restRefs_of main_arg1 (by decide) (by decide))).trans (V_main_arg1 m c),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 4 rfl).trans ((A_eq m c 4).trans (V_main_arg4 m c))⟩

/-- The frame: the arguments end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main_quiescent m ρ)

/-- What the body may leave in an unmarked window is what the exact data say. -/
theorem left_exact (c : Dev nD) (w : Fin cfg0.W) (hw : marks w = false) (u : Fin cfg0.N) (X : (cfg0.win w).block.Idx → Elt Ideal (cfg0.win w).elt)
    (h : (rdats m c).Leaves w u X) : X = (dats m 0 c).after w u := by
  obtain ⟨Y, _, hX⟩ := h
  rw [(dats m 0 c).toRRel_after_of_eq_false (Rl := Rl m c) hw] at hX
  exact hX

/-- The kernel's results after the run. -/
def Results (r : PUnit × MemSt nD τ sig (Elt Ideal)) (c : Dev nD) : Prop :=
  r.2.mem ((c.tc : Thread nD τ).loc main_v15_0) = resQCodes (ins m c)
  ∧ r.2.mem ((c.tc : Thread nD τ).loc main_v15_1) = resQScales (ins m c)
  ∧ r.2.mem ((c.tc : Thread nD τ).loc main_v15_2) = resKCodes (ins m c)
  ∧ r.2.mem ((c.tc : Thread nD τ).loc main_v15_3) = resKScales (ins m c)
  ∧ r.2.mem ((c.tc : Thread nD τ).loc main_v15_4) = resVCodes (ins m c)
  ∧ r.2.mem ((c.tc : Thread nD τ).loc main_v15_5) = resVScales (ins m c)
  ∧ r.2.mem ((c.tc : Thread nD τ).loc main_v15_6) = resXCodes (ins m c)
  ∧ r.2.mem ((c.tc : Thread nD τ).loc main_v15_7) = resXScales (ins m c)

theorem results (r : PUnit × MemSt nD τ sig (Elt Ideal)) (h : RDat.FramePost (cfgs 0) (rdats m) (V m) r) (c : Dev nD) : Results m r c := by
  obtain ⟨after, hL, hA⟩ := RDat.FramePost.exists_exact h c
  exact ⟨(hA 6).trans (arr_6 m c after fun u => left_exact m c 6 rfl u _ (hL 6 u (flush0_6 u))),
    (hA 7).trans (arr_7 m c after fun u => left_exact m c 7 rfl u _ (hL 7 u (flush0_7 u))),
    (hA 8).trans (arr_8 m c after fun u => left_exact m c 8 rfl u _ (hL 8 u (flush0_8 u))),
    (hA 9).trans (arr_9 m c after fun u => left_exact m c 9 rfl u _ (hL 9 u (flush0_9 u))),
    (hA 10).trans (arr_10 m c after fun u => left_exact m c 10 rfl u _ (hL 10 u (flush0_10 u))),
    (hA 11).trans (arr_11 m c after fun u => left_exact m c 11 rfl u _ (hL 11 u (flush0_11 u))),
    (hA 12).trans (arr_12 m c after fun u => left_exact m c 12 rfl u _ (hL 12 u (flush0_12 u))),
    (hA 13).trans (arr_13 m c after ((dats m 0 c).toRRel_leaves (w := 13) rfl (hL 13 lastPt ((flush0_13 lastPt).mpr rfl))))⟩

end Cert.KernelIdeal.Gen

namespace Cert.Qkv

open Idealize.ShloMosaic Idealize.ShloMosaic.TcCoe Idealize.SL.Sem

/-- From memories that agree on the arguments, both programs work on the same inputs. -/
theorem same_inputs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Gen.ins m' c = Cert.KernelIdeal.Gen.ins m c := by
  obtain ⟨h0, h1, h2, h3, h4⟩ := h
  unfold Cert.ReferenceIdeal.Gen.ins
  rw [h0, h1, h2, h3, h4]
  rfl

end Cert.Qkv
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Final
public import Idealize.ShloMosaic.Adequacy
public import Idealize.ShloMosaic.Init

@[expose] public section

noncomputable section

namespace Cert.Proof

open Idealize.ShloMosaic Idealize.SL.Sem Cert.Kernel

/-- Both programs run; their results are the same functions of the same inputs. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.resQCodes (Cert.KernelIdeal.Gen.ins m c),
    fun c => Cert.KernelIdeal.Gen.resQScales (Cert.KernelIdeal.Gen.ins m c),
    fun c => Cert.KernelIdeal.Gen.resKCodes (Cert.KernelIdeal.Gen.ins m c),
    fun c => Cert.KernelIdeal.Gen.resKScales (Cert.KernelIdeal.Gen.ins m c),
    fun c => Cert.KernelIdeal.Gen.resVCodes (Cert.KernelIdeal.Gen.ins m c),
    fun c => Cert.KernelIdeal.Gen.resVScales (Cert.KernelIdeal.Gen.ins m c),
    fun c => Cert.KernelIdeal.Gen.resXCodes (Cert.KernelIdeal.Gen.ins m c),
    fun c => Cert.KernelIdeal.Gen.resXScales (Cert.KernelIdeal.Gen.ins m c), ?_, ?_⟩
  · refine (θ_run _ _ _).mono (fun r h c => ?_) (Cert.KernelIdeal.Gen.run_main_quiescent m g)
    have k := Cert.KernelIdeal.Gen.results m r h.1 c
    exact ⟨k.1, k.2.1, k.2.2.1, k.2.2.2.1, k.2.2.2.2.1, k.2.2.2.2.2.1, k.2.2.2.2.2.2.1, k.2.2.2.2.2.2.2, Cert.KernelIdeal.Gen.args_kept m r h.1 c⟩
  · refine (θ_run _ _ _).mono (fun r hr c => ?_) (Cert.ReferenceIdeal.Value.run_blocks m' g')
    exact ⟨(hr c).1.trans ((Cert.ReferenceIdeal.Gen.arr_6 m' c).trans (congrArg Cert.KernelIdeal.Gen.resQCodes (Cert.Qkv.same_inputs m m' c (hargs c)))),
      (hr c).2.1.trans ((Cert.ReferenceIdeal.Gen.arr_7 m' c).trans (congrArg Cert.KernelIdeal.Gen.resQScales (Cert.Qkv.same_inputs m m' c (hargs c)))),
      (hr c).2.2.1.trans ((Cert.ReferenceIdeal.Gen.arr_8 m' c).trans (congrArg Cert.KernelIdeal.Gen.resKCodes (Cert.Qkv.same_inputs m m' c (hargs c)))),
      (hr c).2.2.2.1.trans ((Cert.ReferenceIdeal.Gen.arr_9 m' c).trans (congrArg Cert.KernelIdeal.Gen.resKScales (Cert.Qkv.same_inputs m m' c (hargs c)))),
      (hr c).2.2.2.2.1.trans ((Cert.ReferenceIdeal.Gen.arr_10 m' c).trans (congrArg Cert.KernelIdeal.Gen.resVCodes (Cert.Qkv.same_inputs m m' c (hargs c)))),
      (hr c).2.2.2.2.2.1.trans ((Cert.ReferenceIdeal.Gen.arr_11 m' c).trans (congrArg Cert.KernelIdeal.Gen.resVScales (Cert.Qkv.same_inputs m m' c (hargs c)))),
      (hr c).2.2.2.2.2.2.1.trans ((Cert.ReferenceIdeal.Gen.arr_12 m' c).trans (congrArg Cert.KernelIdeal.Gen.resXCodes (Cert.Qkv.same_inputs m m' c (hargs c)))),
      (hr c).2.2.2.2.2.2.2.1.trans ((Cert.ReferenceIdeal.Gen.arr_13 m' c).trans (congrArg Cert.KernelIdeal.Gen.resXScales (Cert.Qkv.same_inputs m m' c (hargs c)))),
      (hr c).2.2.2.2.2.2.2.2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
